-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e_inv_sqrt_d" .f32 0x3E0293EE#32 (((Real.log 2)⁻¹ * (Real.sqrt 128)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x512x56x128 : Shape := ⟨4, ![32, 512, 56, 128]⟩
abbrev S32x512x56 : Shape := ⟨3, ![32, 512, 56]⟩
abbrev S8192x8x128 : Shape := ⟨3, ![8192, 8, 128]⟩
abbrev S64x8x128 : Shape := ⟨3, ![64, 8, 128]⟩
abbrev S32x512x8x128 : Shape := ⟨4, ![32, 512, 8, 128]⟩
abbrev S32x512x8 : Shape := ⟨3, ![32, 512, 8]⟩
abbrev S8192x1024 : Shape := ⟨2, ![8192, 1024]⟩
abbrev S64x1024 : Shape := ⟨2, ![64, 1024]⟩
abbrev S8x8192x128 : Shape := ⟨3, ![8, 8192, 128]⟩
abbrev S8x128x8192 : Shape := ⟨3, ![8, 128, 8192]⟩
abbrev S1024x128 : Shape := ⟨2, ![1024, 128]⟩
abbrev S8x128 : Shape := ⟨2, ![8, 128]⟩
abbrev S1x1024x128 : Shape := ⟨3, ![1, 1024, 128]⟩
abbrev S1x128x1024 : Shape := ⟨3, ![1, 128, 1024]⟩
abbrev S128x128 : Shape := ⟨2, ![128, 128]⟩
abbrev S1x128 : Shape := ⟨2, ![1, 128]⟩
abbrev S1x128x128 : Shape := ⟨3, ![1, 128, 128]⟩
abbrev S16384x56x128 : Shape := ⟨3, ![16384, 56, 128]⟩
abbrev S56x16384x128 : Shape := ⟨3, ![56, 16384, 128]⟩
abbrev S16384x8x7 : Shape := ⟨3, ![16384, 8, 7]⟩
abbrev S8x7x16384 : Shape := ⟨3, ![8, 7, 16384]⟩
abbrev S16384x1024 : Shape := ⟨2, ![16384, 1024]⟩
abbrev S16384x8 : Shape := ⟨2, ![16384, 8]⟩
abbrev S8x16384 : Shape := ⟨2, ![8, 16384]⟩
abbrev S8x1x16384 : Shape := ⟨3, ![8, 1, 16384]⟩
abbrev S32x512x7168 : Shape := ⟨3, ![32, 512, 7168]⟩
abbrev S7x512x128 : Shape := ⟨3, ![7, 512, 128]⟩
abbrev S1x7x512 : Shape := ⟨3, ![1, 7, 512]⟩
abbrev S1x8192x128 : Shape := ⟨3, ![1, 8192, 128]⟩
abbrev S1x128x8192 : Shape := ⟨3, ![1, 128, 8192]⟩
abbrev S512x128 : Shape := ⟨2, ![512, 128]⟩
abbrev S1x1x512 : Shape := ⟨3, ![1, 1, 512]⟩
abbrev S1x512x896 : Shape := ⟨3, ![1, 512, 896]⟩
abbrev S8192x512 : Shape := ⟨2, ![8192, 512]⟩
abbrev S1x512 : Shape := ⟨2, ![1, 512]⟩
abbrev S128x512 : Shape := ⟨2, ![128, 512]⟩
abbrev S1x512x128 : Shape := ⟨3, ![1, 512, 128]⟩
abbrev S1024x512 : Shape := ⟨2, ![1024, 512]⟩
abbrev S512 : Shape := ⟨1, ![512]⟩
abbrev S128x1024 : Shape := ⟨2, ![128, 1024]⟩
abbrev S512x512 : Shape := ⟨2, ![512, 512]⟩
abbrev S512x4x128 : Shape := ⟨3, ![512, 4, 128]⟩
abbrev S512x1x128 : Shape := ⟨3, ![512, 1, 128]⟩

abbrev nBuf : Space → Nat
  | .hbm => 35
  | .vmem => 35
  | .smem => 0
  | _ => 0

abbrev bufTy : (tb : Table) → Fin (tcTables nBuf tb) → BufTy
  | .hbm, ⟨0, _⟩ => ⟨S32x512x56x128, .fp8e4m3⟩
  | .hbm, ⟨1, _⟩ => ⟨S32x512x56, .f32⟩
  | .hbm, ⟨2, _⟩ => ⟨S8192x8x128, .fp8e4m3⟩
  | .hbm, ⟨3, _⟩ => ⟨S64x8x128, .f32⟩
  | .hbm, ⟨4, _⟩ => ⟨S8192x8x128, .fp8e4m3⟩
  | .hbm, ⟨5, _⟩ => ⟨S64x8x128, .f32⟩
  | .hbm, ⟨6, _⟩ => ⟨S32x512x8x128, .fp8e4m3⟩
  | .hbm, ⟨7, _⟩ => ⟨S32x512x8, .f32⟩
  | .hbm, ⟨8, _⟩ => ⟨S32x512x8x128, .fp8e4m3⟩
  | .hbm, ⟨9, _⟩ => ⟨S32x512x8, .f32⟩
  | .hbm, ⟨10, _⟩ => ⟨S8192x1024, .fp8e4m3⟩
  | .hbm, ⟨11, _⟩ => ⟨S64x1024, .f32⟩
  | .hbm, ⟨12, _⟩ => ⟨S8192x1024, .fp8e4m3⟩
  | .hbm, ⟨13, _⟩ => ⟨S64x1024, .f32⟩
  | .hbm, ⟨14, _⟩ => ⟨S8x8192x128, .bf16⟩
  | .hbm, ⟨15, _⟩ => ⟨S8x128x8192, .bf16⟩
  | .hbm, ⟨16, _⟩ => ⟨S16384x56x128, .fp8e4m3⟩
  | .hbm, ⟨17, _⟩ => ⟨S56x16384x128, .fp8e4m3⟩
  | .hbm, ⟨18, _⟩ => ⟨S16384x8x7, .f32⟩
  | .hbm, ⟨19, _⟩ => ⟨S8x7x16384, .f32⟩
  | .hbm, ⟨20, _⟩ => ⟨S16384x1024, .fp8e4m3⟩
  | .hbm, ⟨21, _⟩ => ⟨S16384x1024, .fp8e4m3⟩
  | .hbm, ⟨22, _⟩ => ⟨S16384x8, .f32⟩
  | .hbm, ⟨23, _⟩ => ⟨S8x16384, .f32⟩
  | .hbm, ⟨24, _⟩ => ⟨S8x1x16384, .f32⟩
  | .hbm, ⟨25, _⟩ => ⟨S16384x8, .f32⟩
  | .hbm, ⟨26, _⟩ => ⟨S8x16384, .f32⟩
  | .hbm, ⟨27, _⟩ => ⟨S8x1x16384, .f32⟩
  | .hbm, ⟨28, _⟩ => ⟨S32x512x7168, .bf16⟩
  | .hbm, ⟨29, _⟩ => ⟨S8x7x16384, .f32⟩
  | .hbm, ⟨30, _⟩ => ⟨S8x7x16384, .f32⟩
  | .hbm, ⟨31, _⟩ => ⟨S16384x8x7, .f32⟩
  | .hbm, ⟨32, _⟩ => ⟨S32x512x56, .f32⟩
  | .hbm, ⟨33, _⟩ => ⟨S16384x8x7, .f32⟩
  | .hbm, ⟨34, _⟩ => ⟨S32x512x56, .f32⟩
  | .local _ .vmem, ⟨0, _⟩ => ⟨S1024x128, .fp8e4m3⟩
  | .local _ .vmem, ⟨1, _⟩ => ⟨S1024x128, .fp8e4m3⟩
  | .local _ .vmem, ⟨2, _⟩ => ⟨S8x128, .f32⟩
  | .local _ .vmem, ⟨3, _⟩ => ⟨S8x128, .f32⟩
  | .local _ .vmem, ⟨4, _⟩ => ⟨S1024x128, .fp8e4m3⟩
  | .local _ .vmem, ⟨5, _⟩ => ⟨S1024x128, .fp8e4m3⟩
  | .local _ .vmem, ⟨6, _⟩ => ⟨S8x128, .f32⟩
  | .local _ .vmem, ⟨7, _⟩ => ⟨S8x128, .f32⟩
  | .local _ .vmem, ⟨8, _⟩ => ⟨S1x1024x128, .bf16⟩
  | .local _ .vmem, ⟨9, _⟩ => ⟨S1x1024x128, .bf16⟩
  | .local _ .vmem, ⟨10, _⟩ => ⟨S1x128x1024, .bf16⟩
  | .local _ .vmem, ⟨11, _⟩ => ⟨S1x128x1024, .bf16⟩
  | .local _ .vmem, ⟨12, _⟩ => ⟨S7x512x128, .fp8e4m3⟩
  | .local _ .vmem, ⟨13, _⟩ => ⟨S7x512x128, .fp8e4m3⟩
  | .local _ .vmem, ⟨14, _⟩ => ⟨S1x7x512, .f32⟩
  | .local _ .vmem, ⟨15, _⟩ => ⟨S1x7x512, .f32⟩
  | .local _ .vmem, ⟨16, _⟩ => ⟨S1x8192x128, .bf16⟩
  | .local _ .vmem, ⟨17, _⟩ => ⟨S1x8192x128, .bf16⟩
  | .local _ .vmem, ⟨18, _⟩ => ⟨S1x128x8192, .bf16⟩
  | .local _ .vmem, ⟨19, _⟩ => ⟨S1x128x8192, .bf16⟩
  | .local _ .vmem, ⟨20, _⟩ => ⟨S512x128, .fp8e4m3⟩
  | .local _ .vmem, ⟨21, _⟩ => ⟨S512x128, .fp8e4m3⟩
  | .local _ .vmem, ⟨22, _⟩ => ⟨S1x1x512, .f32⟩
  | .local _ .vmem, ⟨23, _⟩ => ⟨S1x1x512, .f32⟩
  | .local _ .vmem, ⟨24, _⟩ => ⟨S512x128, .fp8e4m3⟩
  | .local _ .vmem, ⟨25, _⟩ => ⟨S512x128, .fp8e4m3⟩
  | .local _ .vmem, ⟨26, _⟩ => ⟨S1x1x512, .f32⟩
  | .local _ .vmem, ⟨27, _⟩ => ⟨S1x1x512, .f32⟩
  | .local _ .vmem, ⟨28, _⟩ => ⟨S1x512x896, .bf16⟩
  | .local _ .vmem, ⟨29, _⟩ => ⟨S1x512x896, .bf16⟩
  | .local _ .vmem, ⟨30, _⟩ => ⟨S1x7x512, .f32⟩
  | .local _ .vmem, ⟨31, _⟩ => ⟨S1x7x512, .f32⟩
  | .local _ .vmem, ⟨32, _⟩ => ⟨S1x7x512, .f32⟩
  | .local _ .vmem, ⟨33, _⟩ => ⟨S1x7x512, .f32⟩
  | .local _ .vmem, ⟨34, _⟩ => ⟨S8192x512, .f32⟩
  | _, _ => ⟨S32x512x56x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 32], ![false, false]⟩

@[reducible] def k1_t1_loop : Scf.Loop 32 :=
  let c0_i32 : BitVec 32 := 0#32
  let c7_i32 : BitVec 32 := 7#32
  let v14 : BitVec 32 := Scalar.addi c0_i32 c7_i32
  let c1_i32 : BitVec 32 := 1#32
  ⟨c0_i32, v14, c1_i32⟩
def k1_off1 (k1_t1 : Fin k1_t1_loop.trips) : Fin 3 → Nat :=
  let c0_i32 : BitVec 32 := 0#32
  let c1_i32 : BitVec 32 := 1#32
  let arg14 : BitVec 32 := Scf.iv c0_i32 c1_i32 k1_t1
  let v15 : Index := Scalar.indexCast arg14
  let c0_8 : Index := 0#32
  let c0_9 : Index := 0#32
  ![v15.toNat, 0, 0]
def k1_off2 (k1_t1 : Fin k1_t1_loop.trips) : Fin 3 → Nat :=
  let c0_10 : Index := 0#32
  let c0_i32 : BitVec 32 := 0#32
  let c1_i32 : BitVec 32 := 1#32
  let arg14 : BitVec 32 := Scf.iv c0_i32 c1_i32 k1_t1
  let v19 : Index := Scalar.indexCast arg14
  let c0_11 : Index := 0#32
  ![0, v19.toNat, 0]
@[reducible] def k1_t2_loop : Scf.Loop 32 :=
  let c0_i32_13 : BitVec 32 := 0#32
  let c8_i32 : BitVec 32 := 8#32
  let v25 : BitVec 32 := Scalar.addi c0_i32_13 c8_i32
  let c1_i32_14 : BitVec 32 := 1#32
  ⟨c0_i32_13, v25, c1_i32_14⟩
def k1_off3 (k1_t2 : Fin k1_t2_loop.trips) : Fin 3 → Nat :=
  let c0_39 : Index := 0#32
  let c0_i32_13 : BitVec 32 := 0#32
  let c1_i32_14 : BitVec 32 := 1#32
  let arg15 : BitVec 32 := Scf.iv c0_i32_13 c1_i32_14 k1_t2
  let c1024_i32 : BitVec 32 := 1024#32
  let v106 : BitVec 32 := Scalar.muli arg15 c1024_i32
  let v107 : Index := Scalar.indexCast v106
  let c0_40 : Index := 0#32
  ![0, v107.toNat, 0]
def k1_off4 (k1_t2 : Fin k1_t2_loop.trips) : Fin 2 → Nat :=
  let c0_i32_13 : BitVec 32 := 0#32
  let c1_i32_14 : BitVec 32 := 1#32
  let arg15 : BitVec 32 := Scf.iv c0_i32_13 c1_i32_14 k1_t2
  let c1024_i32 : BitVec 32 := 1024#32
  let v106 : BitVec 32 := Scalar.muli arg15 c1024_i32
  let v113 : Index := Scalar.indexCast v106
  let c0_42 : Index := 0#32
  ![v113.toNat, 0]
@[reducible] def k1_t3_loop : Scf.Loop 32 :=
  let c0_i32_18 : BitVec 32 := 0#32
  let c8_i32_19 : BitVec 32 := 8#32
  let v29 : BitVec 32 := Scalar.addi c0_i32_18 c8_i32_19
  let c1_i32_20 : BitVec 32 := 1#32
  ⟨c0_i32_18, v29, c1_i32_20⟩
def k1_off5 (k1_t3 : Fin k1_t3_loop.trips) : Fin 2 → Nat :=
  let c0_i32_18 : BitVec 32 := 0#32
  let c1_i32_20 : BitVec 32 := 1#32
  let arg15 : BitVec 32 := Scf.iv c0_i32_18 c1_i32_20 k1_t3
  let c1024_i32 : BitVec 32 := 1024#32
  let v106 : BitVec 32 := Scalar.muli arg15 c1024_i32
  let v107 : Index := Scalar.indexCast v106
  let c0_39 : Index := 0#32
  ![v107.toNat, 0]
def k1_off6 (k1_t3 : Fin k1_t3_loop.trips) : Fin 3 → Nat :=
  let c0_41 : Index := 0#32
  let c0_42 : Index := 0#32
  let c0_i32_18 : BitVec 32 := 0#32
  let c1_i32_20 : BitVec 32 := 1#32
  let arg15 : BitVec 32 := Scf.iv c0_i32_18 c1_i32_20 k1_t3
  let c1024_i32 : BitVec 32 := 1024#32
  let v106 : BitVec 32 := Scalar.muli arg15 c1024_i32
  let v115 : Index := Scalar.indexCast v106
  ![0, 0, v115.toNat]
def k1_off7 (k1_t1 : Fin k1_t1_loop.trips) : Fin 3 → Nat :=
  let c0_31 : Index := 0#32
  let c0_32 : Index := 0#32
  let c0_i32 : BitVec 32 := 0#32
  let c1_i32 : BitVec 32 := 1#32
  let arg14 : BitVec 32 := Scf.iv c0_i32 c1_i32 k1_t1
  let c128_i32 : BitVec 32 := 128#32
  let v85 : BitVec 32 := Scalar.muli arg14 c128_i32
  let v86 : Index := Scalar.indexCast v85
  ![0, 0, v86.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S7x512x128 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x7x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x128x8192 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x128 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x128 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x512x896 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x7x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x7x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== KernelIdeal.lean ====
variable {F : FTy → Type} [FloatOps F] [Named F]
def κ : String → Option EReal := fun
  | "ln2" => some ((Real.log 2 : ℝ) : EReal)
  | "log2e_inv_sqrt_d" => some (((Real.log 2)⁻¹ * (Real.sqrt 128)⁻¹ : ℝ) : EReal)
  | _ => none
-- ==== ReferenceIdeal.lean ====
abbrev S32x512x56x128 : Shape := ⟨4, ![32, 512, 56, 128]⟩
abbrev S32x512x56 : Shape := ⟨3, ![32, 512, 56]⟩
abbrev S8192x8x128 : Shape := ⟨3, ![8192, 8, 128]⟩
abbrev S64x8x128 : Shape := ⟨3, ![64, 8, 128]⟩
abbrev S32x512x8x128 : Shape := ⟨4, ![32, 512, 8, 128]⟩
abbrev S32x512x8 : Shape := ⟨3, ![32, 512, 8]⟩
abbrev S32x512x8x7x128 : Shape := ⟨5, ![32, 512, 8, 7, 128]⟩
abbrev S32x512x8x7 : Shape := ⟨4, ![32, 512, 8, 7]⟩
abbrev S_ : Shape := ⟨0, ![]⟩
abbrev S32x512x8x7x1 : Shape := ⟨5, ![32, 512, 8, 7, 1]⟩
abbrev S64x128x8x128 : Shape := ⟨4, ![64, 128, 8, 128]⟩
abbrev S64x1x8x128 : Shape := ⟨4, ![64, 1, 8, 128]⟩
abbrev S8x8192x32x512x7 : Shape := ⟨5, ![8, 8192, 32, 512, 7]⟩
abbrev S32x512x8x7x8192 : Shape := ⟨5, ![32, 512, 8, 7, 8192]⟩
abbrev S8x128x32x512x7 : Shape := ⟨5, ![8, 128, 32, 512, 7]⟩
abbrev S32x8x512 : Shape := ⟨3, ![32, 8, 512]⟩
abbrev S32x1x8x1x512 : Shape := ⟨5, ![32, 1, 8, 1, 512]⟩
abbrev S32x8x512x512x7 : Shape := ⟨5, ![32, 8, 512, 512, 7]⟩
abbrev S32x512x8x7x512 : Shape := ⟨5, ![32, 512, 8, 7, 512]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S1x512x1x1x512 : Shape := ⟨5, ![1, 512, 1, 1, 512]⟩
abbrev S32x8x128x512x7 : Shape := ⟨5, ![32, 8, 128, 512, 7]⟩
abbrev S32x512x56x1 : Shape := ⟨4, ![32, 512, 56, 1]⟩
abbrev S32x512x7168 : Shape := ⟨3, ![32, 512, 7168]⟩
abbrev S1x512x1 : Shape := ⟨3, ![1, 512, 1]⟩

abbrev nBuf : Space → Nat
  | .hbm => 134
  | .vmem => 10
  | .smem => 0
  | _ => 0

abbrev hbmTy0_0 (i : Nat) : BufTy := match i % 128 with
  | 0 => ⟨S32x512x56x128, .fp8e4m3⟩
  | 1 => ⟨S32x512x56, .f32⟩
  | 2 => ⟨S8192x8x128, .fp8e4m3⟩
  | 3 => ⟨S64x8x128, .f32⟩
  | 4 => ⟨S8192x8x128, .fp8e4m3⟩
  | 5 => ⟨S64x8x128, .f32⟩
  | 6 => ⟨S32x512x8x128, .fp8e4m3⟩
  | 7 => ⟨S32x512x8, .f32⟩
  | 8 => ⟨S32x512x8x128, .fp8e4m3⟩
  | 9 => ⟨S32x512x8, .f32⟩
  | 10 => ⟨S32x512x56x128, .bf16⟩
  | 11 => ⟨S8192x8x128, .bf16⟩
  | 12 => ⟨S8192x8x128, .bf16⟩
  | 13 => ⟨S32x512x8x128, .bf16⟩
  | 14 => ⟨S32x512x8x128, .bf16⟩
  | 15 => ⟨S32x512x8x7x128, .bf16⟩
  | 16 => ⟨S32x512x8x7, .f32⟩
  | 17 => ⟨S_, .f32⟩
  | 18 => ⟨S_, .f32⟩
  | 19 => ⟨S32x512x8x7, .f32⟩
  | 20 => ⟨S32x512x8x7, .f32⟩
  | 21 => ⟨S32x512x8x7x1, .f32⟩
  | 22 => ⟨S64x128x8x128, .bf16⟩
  | 23 => ⟨S64x8x128, .bf16⟩
  | 24 => ⟨S64x1x8x128, .bf16⟩
  | 25 => ⟨S64x128x8x128, .bf16⟩
  | 26 => ⟨S64x128x8x128, .bf16⟩
  | 27 => ⟨S8192x8x128, .bf16⟩
  | 28 => ⟨S64x128x8x128, .bf16⟩
  | 29 => ⟨S64x8x128, .bf16⟩
  | 30 => ⟨S64x1x8x128, .bf16⟩
  | 31 => ⟨S64x128x8x128, .bf16⟩
  | 32 => ⟨S64x128x8x128, .bf16⟩
  | 33 => ⟨S8192x8x128, .bf16⟩
  | 34 => ⟨S8x8192x32x512x7, .f32⟩
  | 35 => ⟨S32x512x8x7x8192, .f32⟩
  | 36 => ⟨S32x512x8x7x8192, .f32⟩
  | 37 => ⟨S32x512x8x7x8192, .f32⟩
  | 38 => ⟨S_, .f32⟩
  | 39 => ⟨S32x512x8x7, .f32⟩
  | 40 => ⟨S32x512x8x7x1, .f32⟩
  | 41 => ⟨S32x512x8x7x8192, .f32⟩
  | 42 => ⟨S32x512x8x7x8192, .f32⟩
  | 43 => ⟨S32x512x8x7x8192, .f32⟩
  | 44 => ⟨S_, .f32⟩
  | 45 => ⟨S32x512x8x7, .f32⟩
  | 46 => ⟨S32x512x8x7x8192, .bf16⟩
  | 47 => ⟨S8x128x32x512x7, .f32⟩
  | 48 => ⟨S32x512x8x7x128, .f32⟩
  | 49 => ⟨S32x512x8x7x1, .f32⟩
  | 50 => ⟨S32x512x8x7x128, .f32⟩
  | 51 => ⟨S32x512x8x7x128, .f32⟩
  | 52 => ⟨S32x512x8x7, .f32⟩
  | 53 => ⟨S32x512x8x7, .f32⟩
  | 54 => ⟨S32x512x8x7, .f32⟩
  | 55 => ⟨S32x8x512, .f32⟩
  | 56 => ⟨S32x1x8x1x512, .f32⟩
  | 57 => ⟨S32x8x512, .f32⟩
  | 58 => ⟨S32x1x8x1x512, .f32⟩
  | 59 => ⟨S32x8x512x512x7, .f32⟩
  | 60 => ⟨S32x512x8x7x512, .f32⟩
  | 61 => ⟨S32x512x8x7x512, .f32⟩
  | 62 => ⟨S32x512x8x7x512, .f32⟩
  | 63 => ⟨S32x512x8x7x512, .f32⟩
  | 64 => ⟨S32x512x8x7x512, .f32⟩
  | 65 => ⟨S512, .i32⟩
  | 66 => ⟨S1x512, .i32⟩
  | 67 => ⟨S512x1, .i32⟩
  | 68 => ⟨S512x512, .i32⟩
  | 69 => ⟨S512x512, .i32⟩
  | 70 => ⟨S512x512, .i1⟩
  | 71 => ⟨S1x512x1x1x512, .i1⟩
  | 72 => ⟨S_, .f32⟩
  | 73 => ⟨S_, .f32⟩
  | 74 => ⟨S32x512x8x7x512, .i1⟩
  | 75 => ⟨S32x512x8x7x512, .f32⟩
  | 76 => ⟨S32x512x8x7x512, .f32⟩
  | 77 => ⟨S_, .f32⟩
  | 78 => ⟨S32x512x8x7, .f32⟩
  | 79 => ⟨S32x512x8x7x1, .f32⟩
  | 80 => ⟨S32x512x8x7x512, .f32⟩
  | 81 => ⟨S32x512x8x7x512, .f32⟩
  | 82 => ⟨S32x512x8x7x512, .f32⟩
  | 83 => ⟨S_, .f32⟩
  | 84 => ⟨S32x512x8x7, .f32⟩
  | 85 => ⟨S32x512x8x7x512, .f32⟩
  | 86 => ⟨S32x512x8x7x512, .f32⟩
  | 87 => ⟨S32x512x8x7x512, .bf16⟩
  | 88 => ⟨S32x8x128x512x7, .f32⟩
  | 89 => ⟨S32x512x8x7x128, .f32⟩
  | 90 => ⟨S32x512x8x7x1, .f32⟩
  | 91 => ⟨S32x512x8x7x128, .f32⟩
  | 92 => ⟨S32x512x8x7x128, .f32⟩
  | 93 => ⟨S32x512x8x7, .f32⟩
  | 94 => ⟨S32x512x8x7, .f32⟩
  | 95 => ⟨S32x512x8x7, .f32⟩
  | 96 => ⟨S32x512x56x128, .f32⟩
  | 97 => ⟨S32x512x56x128, .f32⟩
  | 98 => ⟨S32x512x56, .f32⟩
  | 99 => ⟨S32x512x56, .f32⟩
  | 100 => ⟨S32x512x56, .f32⟩
  | 101 => ⟨S32x512x56, .f32⟩
  | 102 => ⟨S32x512x56, .i1⟩
  | 103 => ⟨S32x512x56, .f32⟩
  | 104 => ⟨S32x512x56, .f32⟩
  | 105 => ⟨S32x512x56, .f32⟩
  | 106 => ⟨S32x512x56, .f32⟩
  | 107 => ⟨S32x512x56, .f32⟩
  | 108 => ⟨S32x512x56, .f32⟩
  | 109 => ⟨S32x512x56, .f32⟩
  | 110 => ⟨S32x512x56, .f32⟩
  | 111 => ⟨S32x512x56, .f32⟩
  | 112 => ⟨S32x512x56x1, .f32⟩
  | 113 => ⟨S32x512x56x128, .f32⟩
  | 114 => ⟨S32x512x56x128, .f32⟩
  | 115 => ⟨S32x512x56, .f32⟩
  | 116 => ⟨S32x512x56, .f32⟩
  | 117 => ⟨S32x512x56x1, .f32⟩
  | 118 => ⟨S32x512x56x128, .f32⟩
  | 119 => ⟨S32x512x56x128, .f32⟩
  | 120 => ⟨S32x512x56x128, .f32⟩
  | 121 => ⟨S32x512x7168, .f32⟩
  | 122 => ⟨S32x512x7168, .bf16⟩
  | 123 => ⟨S_, .f32⟩
  | 124 => ⟨S32x512x56, .f32⟩
  | 125 => ⟨S32x512x56, .f32⟩
  | 126 => ⟨S512, .f32⟩
  | 127 => ⟨S_, .f32⟩
  | _ => ⟨S32x512x56x128, .fp8e4m3⟩

abbrev hbmTy0_1 (i : Nat) : BufTy := match i % 128 with
  | 0 => ⟨S512, .f32⟩
  | 1 => ⟨S512, .f32⟩
  | 2 => ⟨S512, .f32⟩
  | 3 => ⟨S1x512x1, .f32⟩
  | 4 => ⟨S32x512x56, .f32⟩
  | 5 => ⟨S32x512x56, .f32⟩
  | _ => ⟨S32x512x56x128, .fp8e4m3⟩

abbrev hbmTy (i : Nat) : BufTy := match i / 128 with
  | 0 => hbmTy0_0 i
  | 1 => hbmTy0_1 i
  | _ => ⟨S32x512x56x128, .fp8e4m3⟩

abbrev bufTy : (tb : Table) → Fin (tcTables nBuf tb) → BufTy
  | .hbm, ⟨i, _⟩ => hbmTy i
  | .local _ .vmem, ⟨0, _⟩ => ⟨S32x512x56x128, .fp8e4m3⟩
  | .local _ .vmem, ⟨1, _⟩ => ⟨S8192x8x128, .fp8e4m3⟩
  | .local _ .vmem, ⟨2, _⟩ => ⟨S8192x8x128, .fp8e4m3⟩
  | .local _ .vmem, ⟨3, _⟩ => ⟨S32x512x8x128, .fp8e4m3⟩
  | .local _ .vmem, ⟨4, _⟩ => ⟨S32x512x8x128, .fp8e4m3⟩
  | .local _ .vmem, ⟨5, _⟩ => ⟨S32x512x56x128, .bf16⟩
  | .local _ .vmem, ⟨6, _⟩ => ⟨S8192x8x128, .bf16⟩
  | .local _ .vmem, ⟨7, _⟩ => ⟨S8192x8x128, .bf16⟩
  | .local _ .vmem, ⟨8, _⟩ => ⟨S32x512x8x128, .bf16⟩
  | .local _ .vmem, ⟨9, _⟩ => ⟨S32x512x8x128, .bf16⟩
  | _, _ => ⟨S32x512x56x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_2 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v55 : Ref sig .tc := ⟨.hbm, 76, rfl⟩
abbrev main_cst_3 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_4 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_5 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_6 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S32x512x56x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x512x8x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x512x8x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x512x56x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x8x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x512x8x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x512x8x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.K.Dequant.lean ====
/-
  The dequantisation kernel's body (`Kernel`): what it leaves in its two output blocks, as explicit functions of the
  blocks it reads (`out0_4`: the keys; `out0_5`: the values, transposed), and the body's triple.
-/
module

public import proofs.«01_k».proof.Proof.Gen.Kernel.Skeleton
public import proofs.«01_k».proof.Proof.Gen.Kernel.Points
public import Idealize.ShloMosaic.Lib.Exec
public import Idealize.ShloMosaic.Lib.Tactic
public import Idealize.ShloMosaic.Lib.Ring
public import Idealize.ShloMosaic.Lib.Pipeline.Kit
public import Idealize.ShloMosaic.Lib.Pipeline.FrameBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The keys' block: eight row groups, each its codes times its row of scales (the last store first). -/
def pcs0_4 (x2 : Vec F S1024x128 .fp8e4m3) (x3 : Vec F S8x128 .f32) : List (View.Piece (Elt F) S1x1024x128 .bf16) :=
  [ ⟨Rect.unit (s := S1x1024x128) ![0, 896, 0] S1x128x128.size inb_S1x1024x128_S1x128x128_0_896_0, k0_pay17 (View.ld x2 (Rect.unit (s := S1024x128) ![896, 0] S128x128.size inb_S1024x128_S128x128_896_0)) (View.ld x3 (Rect.unit (s := S8x128) ![7, 0] S1x128.size inb_S8x128_S1x128_7_0))⟩,
    ⟨Rect.unit (s := S1x1024x128) ![0, 768, 0] S1x128x128.size inb_S1x1024x128_S1x128x128_0_768_0, k0_pay15 (k0_pay14 (View.ld x2 (Rect.unit (s := S1024x128) ![768, 0] S128x128.size inb_S1024x128_S128x128_768_0))) (View.ld x3 (Rect.unit (s := S8x128) ![6, 0] S1x128.size inb_S8x128_S1x128_6_0))⟩,
    ⟨Rect.unit (s := S1x1024x128) ![0, 640, 0] S1x128x128.size inb_S1x1024x128_S1x128x128_0_640_0, k0_pay12 (View.ld x2 (Rect.unit (s := S1024x128) ![640, 0] S128x128.size inb_S1024x128_S128x128_640_0)) (View.ld x3 (Rect.unit (s := S8x128) ![5, 0] S1x128.size inb_S8x128_S1x128_5_0))⟩,
    ⟨Rect.unit (s := S1x1024x128) ![0, 512, 0] S1x128x128.size inb_S1x1024x128_S1x128x128_0_512_0, k0_pay10 (View.ld x2 (Rect.unit (s := S1024x128) ![512, 0] S128x128.size inb_S1024x128_S128x128_512_0)) (View.ld x3 (Rect.unit (s := S8x128) ![4, 0] S1x128.size inb_S8x128_S1x128_4_0))⟩,
    ⟨Rect.unit (s := S1x1024x128) ![0, 384, 0] S1x128x128.size inb_S1x1024x128_S1x128x128_0_384_0, k0_pay8 (View.ld x2 (Rect.unit (s := S1024x128) ![384, 0] S128x128.size inb_S1024x128_S128x128_384_0)) (View.ld x3 (Rect.unit (s := S8x128) ![3, 0] S1x128.size inb_S8x128_S1x128_3_0))⟩,
    ⟨Rect.unit (s := S1x1024x128) ![0, 256, 0] S1x128x128.size inb_S1x1024x128_S1x128x128_0_256_0, k0_pay6 (View.ld x2 (Rect.unit (s := S1024x128) ![256, 0] S128x128.size inb_S1024x128_S128x128_256_0)) (View.ld x3 (Rect.unit (s := S8x128) ![2, 0] S1x128.size inb_S8x128_S1x128_2_0))⟩,
    ⟨Rect.unit (s := S1x1024x128) ![0, 128, 0] S1x128x128.size inb_S1x1024x128_S1x128x128_0_128_0, k0_pay4 (View.ld x2 (Rect.unit (s := S1024x128) ![128, 0] S128x128.size inb_S1024x128_S128x128_128_0)) (View.ld x3 (Rect.unit (s := S8x128) ![1, 0] S1x128.size inb_S8x128_S1x128_1_0))⟩,
    ⟨Rect.unit (s := S1x1024x128) ![0, 0, 0] S1x128x128.size inb_S1x1024x128_S1x128x128_0_0_0, k0_pay2 (View.ld x2 (Rect.unit (s := S1024x128) ![0, 0] S128x128.size inb_S1024x128_S128x128_0_0)) (View.ld x3 (Rect.unit (s := S8x128) ![0, 0] S1x128.size inb_S8x128_S1x128_0_0))⟩]
def out0_4 (x2 : Vec F S1024x128 .fp8e4m3) (x3 : Vec F S8x128 .f32) : Vec F S1x1024x128 .bf16 := View.canon (pcs0_4 x2 x3)

/-- The values' block: eight column groups, each its codes times its row of scales, transposed. -/
def pcs0_5 (x4 : Vec F S1024x128 .fp8e4m3) (x5 : Vec F S8x128 .f32) : List (View.Piece (Elt F) S1x128x1024 .bf16) :=
  [ ⟨Rect.unit (s := S1x128x1024) ![0, 0, 896] S1x128x128.size inb_S1x128x1024_S1x128x128_0_0_896, k0_pay1 (k0_pay18 (View.ld x4 (Rect.unit (s := S1024x128) ![896, 0] S128x128.size inb_S1024x128_S128x128_896_0))) (View.ld x5 (Rect.unit (s := S8x128) ![7, 0] S1x128.size inb_S8x128_S1x128_7_0))⟩,
    ⟨Rect.unit (s := S1x128x1024) ![0, 0, 768] S1x128x128.size inb_S1x128x1024_S1x128x128_0_0_768, k0_pay16 (View.ld x4 (Rect.unit (s := S1024x128) ![768, 0] S128x128.size inb_S1024x128_S128x128_768_0)) (View.ld x5 (Rect.unit (s := S8x128) ![6, 0] S1x128.size inb_S8x128_S1x128_6_0))⟩,
    ⟨Rect.unit (s := S1x128x1024) ![0, 0, 640] S1x128x128.size inb_S1x128x1024_S1x128x128_0_0_640, k0_pay13 (View.ld x4 (Rect.unit (s := S1024x128) ![640, 0] S128x128.size inb_S1024x128_S128x128_640_0)) (View.ld x5 (Rect.unit (s := S8x128) ![5, 0] S1x128.size inb_S8x128_S1x128_5_0))⟩,
    ⟨Rect.unit (s := S1x128x1024) ![0, 0, 512] S1x128x128.size inb_S1x128x1024_S1x128x128_0_0_512, k0_pay11 (View.ld x4 (Rect.unit (s := S1024x128) ![512, 0] S128x128.size inb_S1024x128_S128x128_512_0)) (View.ld x5 (Rect.unit (s := S8x128) ![4, 0] S1x128.size inb_S8x128_S1x128_4_0))⟩,
    ⟨Rect.unit (s := S1x128x1024) ![0, 0, 384] S1x128x128.size inb_S1x128x1024_S1x128x128_0_0_384, k0_pay9 (View.ld x4 (Rect.unit (s := S1024x128) ![384, 0] S128x128.size inb_S1024x128_S128x128_384_0)) (View.ld x5 (Rect.unit (s := S8x128) ![3, 0] S1x128.size inb_S8x128_S1x128_3_0))⟩,
    ⟨Rect.unit (s := S1x128x1024) ![0, 0, 256] S1x128x128.size inb_S1x128x1024_S1x128x128_0_0_256, k0_pay7 (View.ld x4 (Rect.unit (s := S1024x128) ![256, 0] S128x128.size inb_S1024x128_S128x128_256_0)) (View.ld x5 (Rect.unit (s := S8x128) ![2, 0] S1x128.size inb_S8x128_S1x128_2_0))⟩,
    ⟨Rect.unit (s := S1x128x1024) ![0, 0, 128] S1x128x128.size inb_S1x128x1024_S1x128x128_0_0_128, k0_pay5 (View.ld x4 (Rect.unit (s := S1024x128) ![128, 0] S128x128.size inb_S1024x128_S128x128_128_0)) (View.ld x5 (Rect.unit (s := S8x128) ![1, 0] S1x128.size inb_S8x128_S1x128_1_0))⟩,
    ⟨Rect.unit (s := S1x128x1024) ![0, 0, 0] S1x128x128.size inb_S1x128x1024_S1x128x128_0_0_0, k0_pay3 (View.ld x4 (Rect.unit (s := S1024x128) ![0, 0] S128x128.size inb_S1024x128_S128x128_0_0)) (View.ld x5 (Rect.unit (s := S8x128) ![0, 0] S1x128.size inb_S8x128_S1x128_0_0))⟩]
def out0_5 (x4 : Vec F S1024x128 .fp8e4m3) (x5 : Vec F S8x128 .f32) : Vec F S1x128x1024 .bf16 := View.canon (pcs0_5 x4 x5)

theorem cover0_4 (x2 : Vec F S1024x128 .fp8e4m3) (x3 : Vec F S8x128 .f32) (y : S1x1024x128.Idx) : ∃ p ∈ pcs0_4 x2 x3, y ∈ p.1.set :=
  View.cover_of_tiled (pcs0_4 x2 x3) S1x128x128.size (by rfl) y
theorem cover0_5 (x4 : Vec F S1024x128 .fp8e4m3) (x5 : Vec F S8x128 .f32) (y : S1x128x1024.Idx) : ∃ p ∈ pcs0_5 x4 x5, y ∈ p.1.set :=
  View.cover_of_tiled (pcs0_5 x4 x5) S1x128x128.size (by rfl) y

set_option maxHeartbeats 1600000 in
/-- The dequantisation body at a point, from the blocks in its windows. -/
theorem sound0 (c : Dev nD) (i : grid0.Coords) (arg2 : Memref sig .tc .vmem S1024x128 .fp8e4m3) (harg2 : arg2.IsWhole) (arg3 : Memref sig .tc .vmem S8x128 .f32) (harg3 : arg3.IsWhole) (arg4 : Memref sig .tc .vmem S1024x128 .fp8e4m3) (harg4 : arg4.IsWhole) (arg5 : Memref sig .tc .vmem S8x128 .f32) (harg5 : arg5.IsWhole) (arg6 : Memref sig .tc .vmem S1x1024x128 .bf16) (harg6 : arg6.IsWhole) (arg7 : Memref sig .tc .vmem S1x128x1024 .bf16) (harg7 : arg7.IsWhole)
    (x2 : Vec F S1024x128 .fp8e4m3) (x3 : Vec F S8x128 .f32) (x4 : Vec F S1024x128 .fp8e4m3) (x5 : Vec F S8x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare (out0_4 x2 x3) ∗ owns (c : Thread nD τ) arg7 fullShare (out0_5 x4 x5)) -∗ K PUnit.unit))
      ⊢ wp frame (wpE (defs₀ (F := F)) Variants.none (c : Thread nD τ) none) Set.univ (cc0_prompt_dequant (F := F) i arg2 harg2 arg3 harg3 arg4 harg4 arg5 harg5 arg6 harg6 arg7 harg7) K := by
  simp only [cc0_prompt_dequant_eq_skeleton, k0_part1_eq_skeleton, k0_part2_eq_skeleton, k0_part3_eq_skeleton, k0_part4_eq_skeleton, k0_part5_eq_skeleton]; unfold cc0_prompt_dequant_skel
  simp only [k0_part1_eq_skeleton, k0_part2_eq_skeleton, k0_part3_eq_skeleton, k0_part4_eq_skeleton, k0_part5_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro; exact View.read_writes_eq_canon _ _ (pcs0_4 _ _) (cover0_4 _ _)
  iexists _; isplitr; swap; · iexact H7
  ipureintro; exact View.read_writes_eq_canon _ _ (pcs0_5 _ _) (cover0_5 _ _)

end Cert.Kernel.Hand

end
-- ==== Proof.K.Loops.lean ====
/-
  The attention kernel's loops (`Kernel`): what one trip of each counted loop does, as EXPLICIT functions of the
  blocks read — the running maximum and the score pieces of the first pass over the prompt (`accA`, `pcsA`), the running
  sum and weighted values of the second (`accB`) —, and the three `LoopInv` records the run goes through the loops by.
-/
module

public import proofs.«01_k».proof.Proof.Gen.Kernel.Skeleton
public import proofs.«01_k».proof.Proof.Gen.Kernel.Points
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The rectangles the loops read and write -/

abbrev rK (k : Fin k1_t2_loop.trips) : Rect S1x8192x128 := Rect.unit (s := S1x8192x128) (k1_off3 k) S1x1024x128.size (k1_off3_inb k)
abbrev rS (k : Fin k1_t2_loop.trips) : Rect S8192x512 := Rect.unit (s := S8192x512) (k1_off4 k) S1024x512.size (k1_off4_inb k)
abbrev rR (k : Fin k1_t3_loop.trips) : Rect S8192x512 := Rect.unit (s := S8192x512) (k1_off5 k) S1024x512.size (k1_off5_inb k)
abbrev rV (k : Fin k1_t3_loop.trips) : Rect S1x128x8192 := Rect.unit (s := S1x128x8192) (k1_off6 k) S1x128x1024.size (k1_off6_inb k)
abbrev rQ (g : Fin k1_t1_loop.trips) : Rect S7x512x128 := Rect.unit (s := S7x512x128) (k1_off1 g) S1x512x128.size (k1_off1_inb g)
abbrev rH (g : Fin k1_t1_loop.trips) : Rect S1x7x512 := Rect.unit (s := S1x7x512) (k1_off2 g) S1x1x512.size (k1_off2_inb g)
abbrev rO (g : Fin k1_t1_loop.trips) : Rect S1x512x896 := Rect.unit (s := S1x512x896) (k1_off7 g) S1x512x128.size (k1_off7_inb g)
abbrev rT : Rect S1x1x512 := Rect.unit (s := S1x1x512) ![0, 0, 0] S1x1x512.size inb_S1x1x512_S1x1x512_0_0_0
abbrev rC : Rect S512x128 := Rect.unit (s := S512x128) ![0, 0] S512x128.size inb_S512x128_S512x128_0_0

/-! ## The carried values and pieces, explicitly -/

/-- The running maximum of the scores before trip `k` of the first pass. -/
def accA (q : Vec F S1x512x128 .fp8e4m3) (qs : Vec F S1x1x512 .f32) (x4 : Vec F S1x8192x128 .bf16) : ℕ → FVec F S1x512 .f32
  | 0 => k1_pay7
  | k + 1 => if h : k < k1_t2_loop.trips then k1_pay10 q qs (accA q qs x4 k) (View.ld x4 (rK ⟨k, h⟩)) else accA q qs x4 k

theorem accA_succ (q : Vec F S1x512x128 .fp8e4m3) (qs : Vec F S1x1x512 .f32) (x4 : Vec F S1x8192x128 .bf16) (k : Fin k1_t2_loop.trips) :
    accA q qs x4 (k.val + 1) = k1_pay10 q qs (accA q qs x4 k.val) (View.ld x4 (rK k)) := by
  rw [accA]; exact dif_pos k.isLt

/-- The score pieces written before trip `k` of the first pass, last first. -/
def pcsA (q : Vec F S1x512x128 .fp8e4m3) (qs : Vec F S1x1x512 .f32) (x4 : Vec F S1x8192x128 .bf16) : ℕ → List (View.Piece (Elt F) S8192x512 .f32)
  | 0 => []
  | k + 1 => if h : k < k1_t2_loop.trips then [⟨rS ⟨k, h⟩, k1_pay9 q qs (View.ld x4 (rK ⟨k, h⟩))⟩] ++ pcsA q qs x4 k else pcsA q qs x4 k

theorem pcsA_succ (q : Vec F S1x512x128 .fp8e4m3) (qs : Vec F S1x1x512 .f32) (x4 : Vec F S1x8192x128 .bf16) (k : Fin k1_t2_loop.trips) :
    pcsA q qs x4 (k.val + 1) = [⟨rS k, k1_pay9 q qs (View.ld x4 (rK k))⟩] ++ pcsA q qs x4 k.val := by
  rw [pcsA]; exact dif_pos k.isLt

theorem mem_pcsA (q : Vec F S1x512x128 .fp8e4m3) (qs : Vec F S1x1x512 .f32) (x4 : Vec F S1x8192x128 .bf16) (k : Fin k1_t2_loop.trips) :
    ∀ n, k.val < n → (⟨rS k, k1_pay9 q qs (View.ld x4 (rK k))⟩ : View.Piece (Elt F) S8192x512 .f32) ∈ pcsA q qs x4 n
  | 0, h => absurd h (Nat.not_lt_zero _)
  | n + 1, h => by
    rw [pcsA]
    rcases Nat.lt_succ_iff_lt_or_eq.mp h with h' | h'
    · split
      · exact List.mem_cons_of_mem _ (mem_pcsA q qs x4 k n h')
      · exact mem_pcsA q qs x4 k n h'
    · subst h'
      rw [dif_pos k.isLt]; exact List.mem_cons_self

theorem of_mem_pcsA (q : Vec F S1x512x128 .fp8e4m3) (qs : Vec F S1x1x512 .f32) (x4 : Vec F S1x8192x128 .bf16) :
    ∀ n, ∀ p ∈ pcsA q qs x4 n, ∃ k : Fin k1_t2_loop.trips, k.val < n ∧ p = ⟨rS k, k1_pay9 q qs (View.ld x4 (rK k))⟩
  | 0, p, h => absurd h List.not_mem_nil
  | n + 1, p, h => by
    rw [pcsA] at h
    split at h
    · rcases List.mem_cons.mp h with h' | h'
      · exact ⟨_, Nat.lt_succ_self _, h'⟩
      · obtain ⟨k, hk, e⟩ := of_mem_pcsA q qs x4 n p h'
        exact ⟨k, by omega, e⟩
    · obtain ⟨k, hk, e⟩ := of_mem_pcsA q qs x4 n p h
      exact ⟨k, by omega, e⟩

/-- The running sum of weights and weighted sum of values before trip `k` of the second pass, from the score chunks. -/
def accB (m : FVec F S1x512 .f32) (s : Fin k1_t3_loop.trips → Vec F S1024x512 .f32) (x5 : Vec F S1x128x8192 .bf16) : ℕ → FVec F S1x512 .f32 × FVec F S128x512 .f32
  | 0 => (k1_pay11, k1_pay12)
  | k + 1 => if h : k < k1_t3_loop.trips then
      (k1_pay14 m (accB m s x5 k).1 (s ⟨k, h⟩), k1_pay15 m (accB m s x5 k).2 (s ⟨k, h⟩) (View.ld x5 (rV ⟨k, h⟩))) else accB m s x5 k

theorem accB_succ (m : FVec F S1x512 .f32) (s : Fin k1_t3_loop.trips → Vec F S1024x512 .f32) (x5 : Vec F S1x128x8192 .bf16) (k : Fin k1_t3_loop.trips) :
    accB m s x5 (k.val + 1) = (k1_pay14 m (accB m s x5 k.val).1 (s k), k1_pay15 m (accB m s x5 k.val).2 (s k) (View.ld x5 (rV k))) := by
  rw [accB]; exact dif_pos k.isLt

abbrev 𝒱₀ : Variants := Variants.none

/-- A memref's elements held whole. -/
abbrev hld (c : Dev nD) {sp : Space} {S : Shape} {e : EltTy} (M : Memref sig .tc sp S e) (f : BufTy.Contents (Elt F) M.view.ty) : sProp 𝕄 :=
  M.view.loc (c : Thread nD τ) ↦[M.view.set]{fullShare} f

/-! ## The first pass -/

/-- One trip of the first pass: it writes its chunk's scores and yields the new maximum. -/
theorem tripA (c : Dev nD) (i : grid1.Coords) (arg2 : Memref sig .tc .vmem S7x512x128 .fp8e4m3) (harg2 : arg2.IsWhole) (arg3 : Memref sig .tc .vmem S1x7x512 .f32) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S512x128 .fp8e4m3) (harg6 : arg6.IsWhole) (arg7 : Memref sig .tc .vmem S1x1x512 .f32) (harg7 : arg7.IsWhole) (arg8 : Memref sig .tc .vmem S512x128 .fp8e4m3) (harg8 : arg8.IsWhole) (arg9 : Memref sig .tc .vmem S1x1x512 .f32) (harg9 : arg9.IsWhole) (arg10 : Memref sig .tc .vmem S1x512x896 .bf16) (harg10 : arg10.IsWhole) (arg11 : Memref sig .tc .vmem S1x7x512 .f32) (harg11 : arg11.IsWhole) (arg12 : Memref sig .tc .vmem S1x7x512 .f32) (harg12 : arg12.IsWhole) (arg13 : Memref sig .tc .vmem S8192x512 .f32) (harg13 : arg13.IsWhole) (v4 : FVec F S512x128 .f32) (c0 c1 : BitVec 32) (g : Fin k1_t1_loop.trips) (q : Vec F S1x512x128 .fp8e4m3) (qs : Vec F S1x1x512 .f32)
    (X4 : BufTy.Contents (Elt F) arg4.view.ty) (k : Fin k1_t2_loop.trips) (E : Set ℕ) (acc : FVec F S1x512 .f32) (f13 : BufTy.Contents (Elt F) arg13.view.ty) :
    iprop(hld c arg4 X4 ∗ hld c arg13 f13) ⊢ wp frame (wpE (defs₀ (F := F)) 𝒱₀ (c : Thread nD τ) none) E (k1_t2_body (F := F) i arg2 harg2 arg3 harg3 arg4 harg4 arg5 harg5 arg6 harg6 arg7 harg7 arg8 harg8 arg9 harg9 arg10 harg10 arg11 harg11 arg12 harg12 arg13 harg13 v4 c0 c1 g q qs k acc)
      (fun yld => iprop(⌜yld = k1_pay10 q qs acc (View.ld (arg4.view.read (Elt F) X4) (rK k))⌝ ∗ hld c arg4 X4
        ∗ hld c arg13 (arg13.view.writes (Elt F) f13 [⟨rS k, k1_pay9 q qs (View.ld (arg4.view.read (Elt F) X4) (rK k))⟩]))) := by
  have hk : k.val < 8 := Nat.lt_of_lt_of_le k.isLt k1_t2_abs.2.1
  unfold k1_t2_body
  iintro ⟨H4, H13⟩
  sl_exec
  sl_step
  sl_close

set_option warn.classDefReducibility false in
/-- The first pass by its invariant. -/
@[sl_loop] def loopA (c : Dev nD) (E : Set ℕ) (i : grid1.Coords) (arg2 : Memref sig .tc .vmem S7x512x128 .fp8e4m3) (harg2 : arg2.IsWhole) (arg3 : Memref sig .tc .vmem S1x7x512 .f32) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S512x128 .fp8e4m3) (harg6 : arg6.IsWhole) (arg7 : Memref sig .tc .vmem S1x1x512 .f32) (harg7 : arg7.IsWhole) (arg8 : Memref sig .tc .vmem S512x128 .fp8e4m3) (harg8 : arg8.IsWhole) (arg9 : Memref sig .tc .vmem S1x1x512 .f32) (harg9 : arg9.IsWhole) (arg10 : Memref sig .tc .vmem S1x512x896 .bf16) (harg10 : arg10.IsWhole) (arg11 : Memref sig .tc .vmem S1x7x512 .f32) (harg11 : arg11.IsWhole) (arg12 : Memref sig .tc .vmem S1x7x512 .f32) (harg12 : arg12.IsWhole) (arg13 : Memref sig .tc .vmem S8192x512 .f32) (harg13 : arg13.IsWhole) (v4 : FVec F S512x128 .f32) (c0 c1 : BitVec 32) (g : Fin k1_t1_loop.trips) (q : Vec F S1x512x128 .fp8e4m3) (qs : Vec F S1x1x512 .f32)
    (X4 : BufTy.Contents (Elt F) arg4.view.ty) (G13 : BufTy.Contents (Elt F) arg13.view.ty) :
    Idealize.ShloMosaic.LoopInv (M := 𝕄) Idealize.ShloMosaic.frame (wpE (defs₀ (F := F)) 𝒱₀ (c : Thread nD τ) none) E
      k1_t2_loop.lb k1_t2_loop.ub k1_t2_loop.st k1_t2_ok (k1_pay7 (F := F)) (k1_t2_body (F := F) i arg2 harg2 arg3 harg3 arg4 harg4 arg5 harg5 arg6 harg6 arg7 harg7 arg8 harg8 arg9 harg9 arg10 harg10 arg11 harg11 arg12 harg12 arg13 harg13 v4 c0 c1 g q qs) where
  inv k acc := iprop(hld c arg4 X4 ∗ (∃ f, hld c arg13 f ∗ ⌜f = arg13.view.writes (Elt F) G13 (pcsA q qs (arg4.view.read (Elt F) X4) k)⌝)
    ∗ ⌜acc = accA q qs (arg4.view.read (Elt F) X4) k⌝)
  step k acc := by
    iintro ⟨H4, ⟨%f, H13, %hf⟩, %hacc⟩
    subst hacc
    iapply (wp_wand_r Idealize.ShloMosaic.frame (wpE (defs₀ (F := F)) 𝒱₀ (c : Thread nD τ) none) E)
    isplitl [H4 H13]
    · iapply (tripA c i arg2 harg2 arg3 harg3 arg4 harg4 arg5 harg5 arg6 harg6 arg7 harg7 arg8 harg8 arg9 harg9 arg10 harg10 arg11 harg11 arg12 harg12 arg13 harg13 v4 c0 c1 g q qs X4 k E _ f)
      isplitl [H4]; · iexact H4
      iexact H13
    · iintro %yld ⟨%hres, H4, H13⟩
      isplitl [H4]; · iexact H4
      rw [pcsA_succ, accA_succ]
      isplitl [H13]
      · iexists _; isplitl [H13]; · iexact H13
        ipureintro; rw [hf, ← View.writes_append]
      ipureintro; rw [hres]

/-! ## The second pass -/

/-- One trip of the second pass: it reads its chunk's scores and values and yields the new sums. -/
theorem tripB (c : Dev nD) (i : grid1.Coords) (arg2 : Memref sig .tc .vmem S7x512x128 .fp8e4m3) (harg2 : arg2.IsWhole) (arg3 : Memref sig .tc .vmem S1x7x512 .f32) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S512x128 .fp8e4m3) (harg6 : arg6.IsWhole) (arg7 : Memref sig .tc .vmem S1x1x512 .f32) (harg7 : arg7.IsWhole) (arg8 : Memref sig .tc .vmem S512x128 .fp8e4m3) (harg8 : arg8.IsWhole) (arg9 : Memref sig .tc .vmem S1x1x512 .f32) (harg9 : arg9.IsWhole) (arg10 : Memref sig .tc .vmem S1x512x896 .bf16) (harg10 : arg10.IsWhole) (arg11 : Memref sig .tc .vmem S1x7x512 .f32) (harg11 : arg11.IsWhole) (arg12 : Memref sig .tc .vmem S1x7x512 .f32) (harg12 : arg12.IsWhole) (arg13 : Memref sig .tc .vmem S8192x512 .f32) (harg13 : arg13.IsWhole) (v4 : FVec F S512x128 .f32) (c0 c1 : BitVec 32) (g : Fin k1_t1_loop.trips) (m : FVec F S1x512 .f32)
    (X5 : BufTy.Contents (Elt F) arg5.view.ty) (X13 : BufTy.Contents (Elt F) arg13.view.ty) (k : Fin k1_t3_loop.trips) (E : Set ℕ) (acc : FVec F S1x512 .f32 × FVec F S128x512 .f32) :
    iprop(hld c arg5 X5 ∗ hld c arg13 X13) ⊢ wp frame (wpE (defs₀ (F := F)) 𝒱₀ (c : Thread nD τ) none) E (k1_t3_body (F := F) i arg2 harg2 arg3 harg3 arg4 harg4 arg5 harg5 arg6 harg6 arg7 harg7 arg8 harg8 arg9 harg9 arg10 harg10 arg11 harg11 arg12 harg12 arg13 harg13 v4 c0 c1 g m k acc)
      (fun yld => iprop(⌜yld = (k1_pay14 m acc.1 (View.ld (arg13.view.read (Elt F) X13) (rR k)), k1_pay15 m acc.2 (View.ld (arg13.view.read (Elt F) X13) (rR k)) (View.ld (arg5.view.read (Elt F) X5) (rV k)))⌝
        ∗ hld c arg5 X5 ∗ hld c arg13 X13)) := by
  have hk : k.val < 8 := Nat.lt_of_lt_of_le k.isLt k1_t3_abs.2.1
  unfold k1_t3_body
  iintro ⟨H5, H13⟩
  sl_exec
  sl_step
  sl_close

set_option warn.classDefReducibility false in
/-- The second pass by its invariant. -/
@[sl_loop] def loopB (c : Dev nD) (E : Set ℕ) (i : grid1.Coords) (arg2 : Memref sig .tc .vmem S7x512x128 .fp8e4m3) (harg2 : arg2.IsWhole) (arg3 : Memref sig .tc .vmem S1x7x512 .f32) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S512x128 .fp8e4m3) (harg6 : arg6.IsWhole) (arg7 : Memref sig .tc .vmem S1x1x512 .f32) (harg7 : arg7.IsWhole) (arg8 : Memref sig .tc .vmem S512x128 .fp8e4m3) (harg8 : arg8.IsWhole) (arg9 : Memref sig .tc .vmem S1x1x512 .f32) (harg9 : arg9.IsWhole) (arg10 : Memref sig .tc .vmem S1x512x896 .bf16) (harg10 : arg10.IsWhole) (arg11 : Memref sig .tc .vmem S1x7x512 .f32) (harg11 : arg11.IsWhole) (arg12 : Memref sig .tc .vmem S1x7x512 .f32) (harg12 : arg12.IsWhole) (arg13 : Memref sig .tc .vmem S8192x512 .f32) (harg13 : arg13.IsWhole) (v4 : FVec F S512x128 .f32) (c0 c1 : BitVec 32) (g : Fin k1_t1_loop.trips) (m : FVec F S1x512 .f32)
    (X5 : BufTy.Contents (Elt F) arg5.view.ty) (X13 : BufTy.Contents (Elt F) arg13.view.ty) :
    Idealize.ShloMosaic.LoopInv (M := 𝕄) Idealize.ShloMosaic.frame (wpE (defs₀ (F := F)) 𝒱₀ (c : Thread nD τ) none) E
      k1_t3_loop.lb k1_t3_loop.ub k1_t3_loop.st k1_t3_ok (k1_pay11 (F := F), k1_pay12 (F := F)) (k1_t3_body (F := F) i arg2 harg2 arg3 harg3 arg4 harg4 arg5 harg5 arg6 harg6 arg7 harg7 arg8 harg8 arg9 harg9 arg10 harg10 arg11 harg11 arg12 harg12 arg13 harg13 v4 c0 c1 g m) where
  inv k acc := iprop(hld c arg5 X5 ∗ hld c arg13 X13 ∗ ⌜acc = accB m (fun k => View.ld (arg13.view.read (Elt F) X13) (rR k)) (arg5.view.read (Elt F) X5) k⌝)
  step k acc := by
    iintro ⟨H5, H13, %hacc⟩
    subst hacc
    iapply (wp_wand_r Idealize.ShloMosaic.frame (wpE (defs₀ (F := F)) 𝒱₀ (c : Thread nD τ) none) E)
    isplitl [H5 H13]
    · iapply (tripB c i arg2 harg2 arg3 harg3 arg4 harg4 arg5 harg5 arg6 harg6 arg7 harg7 arg8 harg8 arg9 harg9 arg10 harg10 arg11 harg11 arg12 harg12 arg13 harg13 v4 c0 c1 g m X5 X13 k E _)
      isplitl [H5]; · iexact H5
      iexact H13
    · iintro %yld ⟨%hres, H5, H13⟩
      isplitl [H5]; · iexact H5
      isplitl [H13]; · iexact H13
      ipureintro; rw [accB_succ, hres]

/-! ## One head -/

/-- The scores the second pass reads at chunk `k` are those the first pass wrote there. -/
theorem read_scores {v : View sig .tc .vmem S8192x512 .f32} (f : v.ty.Contents (Elt F)) (q : Vec F S1x512x128 .fp8e4m3) (qs : Vec F S1x1x512 .f32) (x4 : Vec F S1x8192x128 .bf16)
    (k : Fin k1_t3_loop.trips) :
    View.ld (v.read (Elt F) (v.writes (Elt F) f (pcsA q qs x4 k1_t2_loop.trips))) (rR k) = k1_pay9 q qs (View.ld x4 (rK ⟨k.val, k.isLt⟩)) := by
  funext x
  exact View.read_writes_of_unique v f ⟨rS ⟨k.val, k.isLt⟩, k1_pay9 q qs (View.ld x4 (rK ⟨k.val, k.isLt⟩))⟩ x _
    (mem_pcsA q qs x4 ⟨k.val, k.isLt⟩ _ k.isLt) fun p hp hx => by
      obtain ⟨j, -, rfl⟩ := of_mem_pcsA q qs x4 _ p hp
      have h1 := (Rect.mem_set_unit (inb := k1_off4_inb j)).mp hx 0
      have hj : j = ⟨k.val, k.isLt⟩ := by
        rw [k1_off4_eq] at h1
        have h2 : ((Rect.unit (s := S8192x512) (k1_off4 ⟨k.val, k.isLt⟩) S1024x512.size (k1_off4_inb ⟨k.val, k.isLt⟩)).emb x 0).val
            = k1_off4 ⟨k.val, k.isLt⟩ 0 + 1 * (x 0).val := rfl
        have h2e : k1_off4 ⟨k.val, k.isLt⟩ 0 = 1024 * k.val := by rw [k1_off4_eq]; rfl
        change 1024 * j.val ≤ _ ∧ _ < 1024 * j.val + 1024 at h1
        have h3 : (x 0).val < 1024 := (x 0).isLt
        rw [h2e] at h2
        change 1024 * j.val ≤ ((Rect.unit (s := S8192x512) (k1_off4 ⟨k.val, k.isLt⟩) S1024x512.size (k1_off4_inb ⟨k.val, k.isLt⟩)).emb x 0).val ∧ ((Rect.unit (s := S8192x512) (k1_off4 ⟨k.val, k.isLt⟩) S1024x512.size (k1_off4_inb ⟨k.val, k.isLt⟩)).emb x 0).val < 1024 * j.val + 1024 at h1
        exact Fin.ext (by show j.val = k.val; omega)
      rw [hj]

/-- The scores' chunk `k` of a head. -/
abbrev sc (q : Vec F S1x512x128 .fp8e4m3) (qs : Vec F S1x1x512 .f32) (x4 : Vec F S1x8192x128 .bf16) (k : Fin k1_t3_loop.trips) : Vec F S1024x512 .f32 :=
  k1_pay9 q qs (View.ld x4 (rK ⟨k.val, k.isLt⟩))
/-- The prompt's maximum of a head, -/
abbrev hM (q : Vec F S1x512x128 .fp8e4m3) (qs : Vec F S1x1x512 .f32) (x4 : Vec F S1x8192x128 .bf16) : FVec F S1x512 .f32 := accA q qs x4 k1_t2_loop.trips
/-- and its sums. -/
abbrev hB (q : Vec F S1x512x128 .fp8e4m3) (qs : Vec F S1x1x512 .f32) (x4 : Vec F S1x8192x128 .bf16) (x5 : Vec F S1x128x8192 .bf16) : FVec F S1x512 .f32 × FVec F S128x512 .f32 :=
  accB (hM q qs x4) (sc q qs x4) x5 k1_t3_loop.trips

/-- The combined output of head `g`, -/
def hO (x2 : Vec F S7x512x128 .fp8e4m3) (x3 : Vec F S1x7x512 .f32) (x4 : Vec F S1x8192x128 .bf16) (x5 : Vec F S1x128x8192 .bf16) (x6 : Vec F S512x128 .fp8e4m3)
    (v0 v5 : Vec F S1x1x512 .f32) (v10 : Vec F S512x128 .fp8e4m3) (g : Fin k1_t1_loop.trips) : FVec F S1x512x128 .bf16 :=
  k1_pay23 (k1_pay2 v5) (k1_pay3 v10) (hM (View.ld x2 (rQ g)) (View.ld x3 (rH g)) x4) (hB (View.ld x2 (rQ g)) (View.ld x3 (rH g)) x4 x5).1 (hB (View.ld x2 (rQ g)) (View.ld x3 (rH g)) x4 x5).2
    (k1_pay17 (k1_pay1 v0) (View.ld x2 (rQ g)) (View.ld x3 (rH g)) (View.ld x6 rC)) (k1_pay18 (k1_pay1 v0) (View.ld x2 (rQ g)) (View.ld x3 (rH g)) (View.ld x6 rC))
    (k1_pay19 (k1_pay1 v0) (View.ld x2 (rQ g)) (View.ld x3 (rH g)) (View.ld x6 rC))
/-- its first statistic, -/
def hLp (x2 : Vec F S7x512x128 .fp8e4m3) (x3 : Vec F S1x7x512 .f32) (x4 : Vec F S1x8192x128 .bf16) (x5 : Vec F S1x128x8192 .bf16) (g : Fin k1_t1_loop.trips) : FVec F S1x1x512 .f32 :=
  k1_pay24 (hM (View.ld x2 (rQ g)) (View.ld x3 (rH g)) x4) (hB (View.ld x2 (rQ g)) (View.ld x3 (rH g)) x4 x5).1
/-- and its second. -/
def hLs (x2 : Vec F S7x512x128 .fp8e4m3) (x3 : Vec F S1x7x512 .f32) (x6 : Vec F S512x128 .fp8e4m3) (v0 : Vec F S1x1x512 .f32) (g : Fin k1_t1_loop.trips) : FVec F S1x1x512 .f32 :=
  k1_pay4 (k1_pay22 (k1_pay17 (k1_pay1 v0) (View.ld x2 (rQ g)) (View.ld x3 (rH g)) (View.ld x6 rC)) (k1_pay19 (k1_pay1 v0) (View.ld x2 (rQ g)) (View.ld x3 (rH g)) (View.ld x6 rC))) k1_pay25

/-- One trip of the loop over the heads. -/
theorem tripH (c : Dev nD) (i : grid1.Coords) (arg2 : Memref sig .tc .vmem S7x512x128 .fp8e4m3) (harg2 : arg2.IsWhole) (arg3 : Memref sig .tc .vmem S1x7x512 .f32) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S512x128 .fp8e4m3) (harg6 : arg6.IsWhole) (arg7 : Memref sig .tc .vmem S1x1x512 .f32) (harg7 : arg7.IsWhole) (arg8 : Memref sig .tc .vmem S512x128 .fp8e4m3) (harg8 : arg8.IsWhole) (arg9 : Memref sig .tc .vmem S1x1x512 .f32) (harg9 : arg9.IsWhole) (arg10 : Memref sig .tc .vmem S1x512x896 .bf16) (harg10 : arg10.IsWhole) (arg11 : Memref sig .tc .vmem S1x7x512 .f32) (harg11 : arg11.IsWhole) (arg12 : Memref sig .tc .vmem S1x7x512 .f32) (harg12 : arg12.IsWhole) (arg13 : Memref sig .tc .vmem S8192x512 .f32) (harg13 : arg13.IsWhole) (v0 v5 : Vec F S1x1x512 .f32) (v10 : Vec F S512x128 .fp8e4m3)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (g : Fin k1_t1_loop.trips) (u : Unit) (f10 : BufTy.Contents (Elt F) arg10.view.ty) (f11 : BufTy.Contents (Elt F) arg11.view.ty) (f12 : BufTy.Contents (Elt F) arg12.view.ty) (f13 : BufTy.Contents (Elt F) arg13.view.ty) :
    iprop(hld c arg2 X2 ∗ hld c arg3 X3 ∗ hld c arg4 X4 ∗ hld c arg5 X5 ∗ hld c arg6 X6 ∗ hld c arg10 f10 ∗ hld c arg11 f11 ∗ hld c arg12 f12 ∗ hld c arg13 f13)
      ⊢ wp frame (wpE (defs₀ (F := F)) 𝒱₀ (c : Thread nD τ) none) Set.univ (k1_t1_body (F := F) i arg2 harg2 arg3 harg3 arg4 harg4 arg5 harg5 arg6 harg6 arg7 harg7 arg8 harg8 arg9 harg9 arg10 harg10 arg11 harg11 arg12 harg12 arg13 harg13 v0 v5 v10 g u)
      (fun _ => iprop(hld c arg2 X2 ∗ hld c arg3 X3 ∗ hld c arg4 X4 ∗ hld c arg5 X5 ∗ hld c arg6 X6
        ∗ hld c arg10 (arg10.view.writes (Elt F) f10 [⟨rO g, hO (arg2.view.read (Elt F) X2) (arg3.view.read (Elt F) X3) (arg4.view.read (Elt F) X4) (arg5.view.read (Elt F) X5) (arg6.view.read (Elt F) X6) v0 v5 v10 g⟩])
        ∗ hld c arg11 (arg11.view.writes (Elt F) f11 [⟨rH g, hLp (arg2.view.read (Elt F) X2) (arg3.view.read (Elt F) X3) (arg4.view.read (Elt F) X4) (arg5.view.read (Elt F) X5) g⟩])
        ∗ hld c arg12 (arg12.view.writes (Elt F) f12 [⟨rH g, hLs (arg2.view.read (Elt F) X2) (arg3.view.read (Elt F) X3) (arg6.view.read (Elt F) X6) v0 g⟩])
        ∗ ∃ f, hld c arg13 f)) := by
  have hk : g.val < 7 := Nat.lt_of_lt_of_le g.isLt k1_t1_abs.2.1
  have hsc : (fun k => View.ld (arg13.view.read (Elt F) (arg13.view.writes (Elt F) arg13.view.junk (pcsA (View.ld (arg2.view.read (Elt F) X2) (rQ g)) (View.ld (arg3.view.read (Elt F) X3) (rH g)) (arg4.view.read (Elt F) X4) k1_t2_loop.trips))) (rR k))
      = sc (View.ld (arg2.view.read (Elt F) X2) (rQ g)) (View.ld (arg3.view.read (Elt F) X3) (rH g)) (arg4.view.read (Elt F) X4) := funext fun k => read_scores arg13.view.junk _ _ _ k
  unfold hO hLp hLs hB
  rw [← hsc]
  unfold k1_t1_body
  simp only [k1_part1_eq_skeleton, k1_part2_eq_skeleton]
  iintro ⟨H2, H3, H4, H5, H6, H10, H11, H12, H13⟩
  sl_exec
  sl_step
  sl_close

/-! ## The heads -/

/-- One piece per head, last first. -/
def pcsG {S : Shape} {e : EltTy} (p : Fin k1_t1_loop.trips → View.Piece (Elt F) S e) : ℕ → List (View.Piece (Elt F) S e)
  | 0 => []
  | g + 1 => if h : g < k1_t1_loop.trips then [p ⟨g, h⟩] ++ pcsG p g else pcsG p g

theorem pcsG_succ {S : Shape} {e : EltTy} (p : Fin k1_t1_loop.trips → View.Piece (Elt F) S e) (g : Fin k1_t1_loop.trips) : pcsG p (g.val + 1) = [p g] ++ pcsG p g.val := by
  rw [pcsG]; exact dif_pos g.isLt

theorem mem_pcsG {S : Shape} {e : EltTy} (p : Fin k1_t1_loop.trips → View.Piece (Elt F) S e) (k : Fin k1_t1_loop.trips) : ∀ n, k.val < n → p k ∈ pcsG p n
  | 0, h => absurd h (Nat.not_lt_zero _)
  | n + 1, h => by
    rw [pcsG]
    rcases Nat.lt_succ_iff_lt_or_eq.mp h with h' | h'
    · split
      · exact List.mem_cons_of_mem _ (mem_pcsG p k n h')
      · exact mem_pcsG p k n h'
    · subst h'
      rw [dif_pos k.isLt]; exact List.mem_cons_self

theorem of_mem_pcsG {S : Shape} {e : EltTy} (p : Fin k1_t1_loop.trips → View.Piece (Elt F) S e) : ∀ n, ∀ x ∈ pcsG p n, ∃ k : Fin k1_t1_loop.trips, x = p k
  | 0, x, h => absurd h List.not_mem_nil
  | n + 1, x, h => by
    rw [pcsG] at h
    split at h
    · rcases List.mem_cons.mp h with h' | h'
      · exact ⟨_, h'⟩
      · exact of_mem_pcsG p n x h'
    · exact of_mem_pcsG p n x h

set_option warn.classDefReducibility false in
/-- The loop over the heads by its invariant. -/
@[sl_loop] def loopH (c : Dev nD) (i : grid1.Coords) (arg2 : Memref sig .tc .vmem S7x512x128 .fp8e4m3) (harg2 : arg2.IsWhole) (arg3 : Memref sig .tc .vmem S1x7x512 .f32) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S512x128 .fp8e4m3) (harg6 : arg6.IsWhole) (arg7 : Memref sig .tc .vmem S1x1x512 .f32) (harg7 : arg7.IsWhole) (arg8 : Memref sig .tc .vmem S512x128 .fp8e4m3) (harg8 : arg8.IsWhole) (arg9 : Memref sig .tc .vmem S1x1x512 .f32) (harg9 : arg9.IsWhole) (arg10 : Memref sig .tc .vmem S1x512x896 .bf16) (harg10 : arg10.IsWhole) (arg11 : Memref sig .tc .vmem S1x7x512 .f32) (harg11 : arg11.IsWhole) (arg12 : Memref sig .tc .vmem S1x7x512 .f32) (harg12 : arg12.IsWhole) (arg13 : Memref sig .tc .vmem S8192x512 .f32) (harg13 : arg13.IsWhole) (v0 v5 : Vec F S1x1x512 .f32) (v10 : Vec F S512x128 .fp8e4m3)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (G10 : BufTy.Contents (Elt F) arg10.view.ty) (G11 : BufTy.Contents (Elt F) arg11.view.ty) (G12 : BufTy.Contents (Elt F) arg12.view.ty) :
    Idealize.ShloMosaic.LoopInv (M := 𝕄) Idealize.ShloMosaic.frame (wpE (defs₀ (F := F)) 𝒱₀ (c : Thread nD τ) none) Set.univ
      k1_t1_loop.lb k1_t1_loop.ub k1_t1_loop.st k1_t1_ok () (k1_t1_body (F := F) i arg2 harg2 arg3 harg3 arg4 harg4 arg5 harg5 arg6 harg6 arg7 harg7 arg8 harg8 arg9 harg9 arg10 harg10 arg11 harg11 arg12 harg12 arg13 harg13 v0 v5 v10) where
  inv g _ := iprop(hld c arg2 X2 ∗ hld c arg3 X3 ∗ hld c arg4 X4 ∗ hld c arg5 X5 ∗ hld c arg6 X6
    ∗ (∃ f, hld c arg10 f ∗ ⌜f = arg10.view.writes (Elt F) G10 (pcsG (fun g => ⟨rO g, hO (arg2.view.read (Elt F) X2) (arg3.view.read (Elt F) X3) (arg4.view.read (Elt F) X4) (arg5.view.read (Elt F) X5) (arg6.view.read (Elt F) X6) v0 v5 v10 g⟩) g)⌝)
    ∗ (∃ f, hld c arg11 f ∗ ⌜f = arg11.view.writes (Elt F) G11 (pcsG (fun g => ⟨rH g, hLp (arg2.view.read (Elt F) X2) (arg3.view.read (Elt F) X3) (arg4.view.read (Elt F) X4) (arg5.view.read (Elt F) X5) g⟩) g)⌝)
    ∗ (∃ f, hld c arg12 f ∗ ⌜f = arg12.view.writes (Elt F) G12 (pcsG (fun g => ⟨rH g, hLs (arg2.view.read (Elt F) X2) (arg3.view.read (Elt F) X3) (arg6.view.read (Elt F) X6) v0 g⟩) g)⌝)
    ∗ ∃ f, hld c arg13 f)
  step g u := by
    iintro ⟨H2, H3, H4, H5, H6, ⟨%f10, H10, %h10⟩, ⟨%f11, H11, %h11⟩, ⟨%f12, H12, %h12⟩, ⟨%f13, H13⟩⟩
    iapply (wp_wand_r Idealize.ShloMosaic.frame (wpE (defs₀ (F := F)) 𝒱₀ (c : Thread nD τ) none) Set.univ)
    isplitl [H2 H3 H4 H5 H6 H10 H11 H12 H13]
    · iapply (tripH c i arg2 harg2 arg3 harg3 arg4 harg4 arg5 harg5 arg6 harg6 arg7 harg7 arg8 harg8 arg9 harg9 arg10 harg10 arg11 harg11 arg12 harg12 arg13 harg13 v0 v5 v10 X2 X3 X4 X5 X6 g u f10 f11 f12 f13)
      isplitl [H2]; · iexact H2
      isplitl [H3]; · iexact H3
      isplitl [H4]; · iexact H4
      isplitl [H5]; · iexact H5
      isplitl [H6]; · iexact H6
      isplitl [H10]; · iexact H10
      isplitl [H11]; · iexact H11
      isplitl [H12]; · iexact H12
      iexact H13
    · iintro %yld ⟨H2, H3, H4, H5, H6, H10, H11, H12, H13⟩
      isplitl [H2]; · iexact H2
      isplitl [H3]; · iexact H3
      isplitl [H4]; · iexact H4
      isplitl [H5]; · iexact H5
      isplitl [H6]; · iexact H6
      rw [pcsG_succ, pcsG_succ, pcsG_succ]
      isplitl [H10]
      · iexists _; isplitl [H10]; · iexact H10
        ipureintro; rw [h10, ← View.writes_append]
      isplitl [H11]
      · iexists _; isplitl [H11]; · iexact H11
        ipureintro; rw [h11, ← View.writes_append]
      isplitl [H12]
      · iexists _; isplitl [H12]; · iexact H12
        ipureintro; rw [h12, ← View.writes_append]
      iexact H13

/-! ## The whole body -/

section Out
variable (x2 : Vec F S7x512x128 .fp8e4m3) (x3 : Vec F S1x7x512 .f32) (x4 : Vec F S1x8192x128 .bf16) (x5 : Vec F S1x128x8192 .bf16) (x6 : Vec F S512x128 .fp8e4m3)
  (x7 : Vec F S1x1x512 .f32) (x8 : Vec F S512x128 .fp8e4m3) (x9 : Vec F S1x1x512 .f32)

/-- The seven heads' outputs, -/
def out1_8 : Vec F S1x512x896 .bf16 :=
  View.canon (pcsG (fun g => ⟨rO g, hO x2 x3 x4 x5 x6 (View.ld x7 rT) (View.ld x9 rT) (View.ld x8 rC) g⟩) k1_t1_loop.trips)
/-- their first statistics, -/
def out1_9 : Vec F S1x7x512 .f32 := View.canon (pcsG (fun g => ⟨rH g, hLp x2 x3 x4 x5 g⟩) k1_t1_loop.trips)
/-- and their second. -/
def out1_10 : Vec F S1x7x512 .f32 := View.canon (pcsG (fun g => ⟨rH g, hLs x2 x3 x6 (View.ld x7 rT) g⟩) k1_t1_loop.trips)

end Out

theorem trips1 : k1_t1_loop.trips = 7 := by decide +kernel

/-- Every element of the output block lies in one head's columns, -/
theorem coverO (w : ∀ g, (rO g).shape.Idx → Elt F .bf16) (y : S1x512x896.Idx) :
    ∃ p ∈ pcsG (F := F) (fun g => ⟨rO g, w g⟩) k1_t1_loop.trips, y ∈ p.1.set := by
  have h2 : (y 2).val < 896 := (y 2).isLt
  refine ⟨_, mem_pcsG _ ⟨(y 2).val / 128, by rw [trips1]; omega⟩ _ (Fin.isLt _), ?_⟩
  refine (Rect.mem_set_unit (inb := k1_off7_inb _)).mpr fun a => ?_
  rw [k1_off7_eq]
  have h0 : (y 0).val < 1 := (y 0).isLt
  have h1 : (y 1).val < 512 := (y 1).isLt
  match a with
  | ⟨0, _⟩ => exact ⟨Nat.zero_le _, h0⟩
  | ⟨1, _⟩ => exact ⟨Nat.zero_le _, by show (y 1).val < 0 + 512; omega⟩
  | ⟨2, _⟩ => exact ⟨by show 128 * ((y 2).val / 128) ≤ (y 2).val; omega, by show (y 2).val < 128 * ((y 2).val / 128) + 128; omega⟩

/-- and every element of a statistics block in one head's row. -/
theorem coverH (w : ∀ g, (rH g).shape.Idx → Elt F .f32) (y : S1x7x512.Idx) :
    ∃ p ∈ pcsG (F := F) (fun g => ⟨rH g, w g⟩) k1_t1_loop.trips, y ∈ p.1.set := by
  have h1 : (y 1).val < 7 := (y 1).isLt
  refine ⟨_, mem_pcsG _ ⟨(y 1).val, by rw [trips1]; omega⟩ _ (Fin.isLt _), ?_⟩
  refine (Rect.mem_set_unit (inb := k1_off2_inb _)).mpr fun a => ?_
  rw [k1_off2_eq]
  have h0 : (y 0).val < 1 := (y 0).isLt
  have h2 : (y 2).val < 512 := (y 2).isLt
  match a with
  | ⟨0, _⟩ => exact ⟨Nat.zero_le _, h0⟩
  | ⟨1, _⟩ => exact ⟨le_refl _, by show (y 1).val < (y 1).val + 1; omega⟩
  | ⟨2, _⟩ => exact ⟨Nat.zero_le _, by show (y 2).val < 0 + 512; omega⟩

/-- The attention body at a point, from the blocks in its windows. -/
theorem sound1 (c : Dev nD) (i : grid1.Coords) (arg2 : Memref sig .tc .vmem S7x512x128 .fp8e4m3) (harg2 : arg2.IsWhole) (arg3 : Memref sig .tc .vmem S1x7x512 .f32) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S512x128 .fp8e4m3) (harg6 : arg6.IsWhole) (arg7 : Memref sig .tc .vmem S1x1x512 .f32) (harg7 : arg7.IsWhole) (arg8 : Memref sig .tc .vmem S512x128 .fp8e4m3) (harg8 : arg8.IsWhole) (arg9 : Memref sig .tc .vmem S1x1x512 .f32) (harg9 : arg9.IsWhole) (arg10 : Memref sig .tc .vmem S1x512x896 .bf16) (harg10 : arg10.IsWhole) (arg11 : Memref sig .tc .vmem S1x7x512 .f32) (harg11 : arg11.IsWhole) (arg12 : Memref sig .tc .vmem S1x7x512 .f32) (harg12 : arg12.IsWhole) (arg13 : Memref sig .tc .vmem S8192x512 .f32) (harg13 : arg13.IsWhole)
    (x2 : Vec F S7x512x128 .fp8e4m3) (x3 : Vec F S1x7x512 .f32) (x4 : Vec F S1x8192x128 .bf16) (x5 : Vec F S1x128x8192 .bf16) (x6 : Vec F S512x128 .fp8e4m3)
    (x7 : Vec F S1x1x512 .f32) (x8 : Vec F S512x128 .fp8e4m3) (x9 : Vec F S1x1x512 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d) ∗ (∃ d, owns (c : Thread nD τ) arg12 fullShare d)
        ∗ (∃ f, hld c arg13 f)
        ∗ (iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8 ∗ owns (c : Thread nD τ) arg9 fullShare x9
        ∗ owns (c : Thread nD τ) arg10 fullShare (out1_8 x2 x3 x4 x5 x6 x7 x8 x9) ∗ owns (c : Thread nD τ) arg11 fullShare (out1_9 x2 x3 x4 x5) ∗ owns (c : Thread nD τ) arg12 fullShare (out1_10 x2 x3 x6 x7)
        ∗ (∃ f, hld c arg13 f)) -∗ K PUnit.unit))
      ⊢ wp frame (wpE (defs₀ (F := F)) 𝒱₀ (c : Thread nD τ) none) Set.univ (cc1_shared_prompt_attention (F := F) i arg2 harg2 arg3 harg3 arg4 harg4 arg5 harg5 arg6 harg6 arg7 harg7 arg8 harg8 arg9 harg9 arg10 harg10 arg11 harg11 arg12 harg12 arg13 harg13) K := by
  simp only [cc1_shared_prompt_attention_eq_skeleton]; unfold cc1_shared_prompt_attention_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, H13⟩, Hk⟩
  subst hf2 hf3 hf4 hf5 hf6 hf7 hf8 hf9
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro; exact View.read_writes_eq_canon _ _ _ (coverO _)
  isplitl [H11]
  · iexists _; isplitr; swap; · iexact H11
    ipureintro; exact View.read_writes_eq_canon _ _ _ (coverH _)
  isplitl [H12]
  · iexists _; isplitr; swap; · iexact H12
    ipureintro; exact View.read_writes_eq_canon _ _ _ (coverH _)
  iexists _; iexact H13

end Cert.Kernel.Hand

end
-- ==== Proof.K.Data.lean ====
/-
  The two regions' proof data (`Kernel`): what each window holds at each point, the body obligations, and what each
  array holds after its region.
-/
module

public import proofs.«01_k».proof.Proof.K.Dequant
public import proofs.«01_k».proof.Proof.K.Loops
public import proofs.«01_k».proof.Proof.Gen.Kernel.Regions
public import Idealize.ShloMosaic.Lib.Pipeline.RegionArraysS
public import Idealize.ShloMosaic.Lib.Pipeline.FrameSuffix
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg afterRegion)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the dequantisation finds them. -/
abbrev E0 (c : Dev nD) (b : Ref sig .tc) : Buf (Elt F) ((c : Thread nD τ).loc b) := Gen.V1 m c (Proc.devRef .tc b)

/-! ## Custom call 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (E0 m c (Pipeline.arrRef spec0 w))

/-- The proof data: each input window keeps its block, each output window holds what the body leaves there. -/
def dat0 (c : Dev nD) : Dat τ (Elt F) Unit ℕ (UR sig nD τ) ℕ cfg0 c where
  A w := E0 m c (Pipeline.arrRef spec0 w)
  after w t := match w with
    | ⟨0, _⟩ => iblk0 m c 0 t
    | ⟨1, _⟩ => iblk0 m c 1 t
    | ⟨2, _⟩ => iblk0 m c 2 t
    | ⟨3, _⟩ => iblk0 m c 3 t
    | ⟨4, _⟩ => out0_4 (iblk0 m c 0 t) (iblk0 m c 1 t)
    | ⟨5, _⟩ => out0_5 (iblk0 m c 2 t) (iblk0 m c 3 t)
  Φ _ := Pipeline.scopedRest spec0 c
  q _ := fullShare
  owed _ := 0

theorem A0_eq (c : Dev nD) (w : Fin cfg0.W) : (dat0 m c).A w = E0 m c (Pipeline.arrRef spec0 w) := by
  dsimp only [dat0]
theorem after0_0 (c : Dev nD) (t : Fin cfg0.N) : (dat0 m c).after 0 t = iblk0 m c 0 t := by dsimp only [dat0]
theorem after0_1 (c : Dev nD) (t : Fin cfg0.N) : (dat0 m c).after 1 t = iblk0 m c 1 t := by dsimp only [dat0]
theorem after0_2 (c : Dev nD) (t : Fin cfg0.N) : (dat0 m c).after 2 t = iblk0 m c 2 t := by dsimp only [dat0]
theorem after0_3 (c : Dev nD) (t : Fin cfg0.N) : (dat0 m c).after 3 t = iblk0 m c 3 t := by dsimp only [dat0]
theorem after0_4 (c : Dev nD) (t : Fin cfg0.N) : (dat0 m c).after 4 t = out0_4 (iblk0 m c 0 t) (iblk0 m c 1 t) := by dsimp only [dat0]
theorem after0_5 (c : Dev nD) (t : Fin cfg0.N) : (dat0 m c).after 5 t = out0_5 (iblk0 m c 2 t) (iblk0 m c 3 t) := by dsimp only [dat0]

theorem before0_0 (c : Dev nD) (t : Fin cfg0.N) (d) : (dat0 m c).before 0 t d = iblk0 m c 0 t :=
  ((dat0 m c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)

theorem before0_1 (c : Dev nD) (t : Fin cfg0.N) (d) : (dat0 m c).before 1 t d = iblk0 m c 1 t :=
  ((dat0 m c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)

theorem before0_2 (c : Dev nD) (t : Fin cfg0.N) (d) : (dat0 m c).before 2 t d = iblk0 m c 2 t :=
  ((dat0 m c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)

theorem before0_3 (c : Dev nD) (t : Fin cfg0.N) (d) : (dat0 m c).before 3 t d = iblk0 m c 3 t :=
  ((dat0 m c).before_in_eq_fetched 3 rfl (fun _ => rfl) (fun _ _ _ => rfl) (fun t => by rw [after0_3]; unfold Dat.blockOf iblk0; rw [A0_eq]; try rfl) t d).trans
    (by unfold Dat.fetched Dat.blockOf iblk0; rw [A0_eq]; try rfl)

/-- What the body is called with at point `t`, -/
def bodyPre0 (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d))
    ∗ (∃ d, owns (c : Thread nD τ) (st0_4 t) fullShare ((dat0 m c).before 4 t d))
    ∗ (∃ d, owns (c : Thread nD τ) (st0_5 t) fullShare ((dat0 m c).before 5 t d)))
/-- and what it returns. -/
def bodyPost0 (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t)
    ∗ owns (c : Thread nD τ) (st0_3 t) fullShare ((dat0 m c).after 3 t)
    ∗ owns (c : Thread nD τ) (st0_4 t) fullShare ((dat0 m c).after 4 t)
    ∗ owns (c : Thread nD τ) (st0_5 t) fullShare ((dat0 m c).after 5 t))

/-- The body at any point. -/
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1, before0_2, before0_3]
  rw [show (dat0 m c).Φ t.succ = (dat0 m c).Φ t.castSucc from rfl,
    show (dat0 m c).owesAt () t.succ = (dat0 m c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound0 c _ _ _ _ _ _ _ _ _ _ _ _ _ (iblk0 m c 0 t) (iblk0 m c 1 t) (iblk0 m c 2 t) (iblk0 m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row0 (t : Fin cfg0.N) :
    defs₀ (F := F) .tc cfg0.body (cfg0.bodyArgs t (cfg0.slots t)) = bodyAt0 t := by
  unfold defs₀; rw [Defs.onTc_tc]

/-- The library's body obligation. -/
theorem body_obligation0 (c : Dev nD) : BodyObligation (dat0 (F := F) m c) (defs₀ (F := F)) Variants.none () Set.univ := fun t => by
  rw [bigSep_W0, bigSep_W0, defs₀_row0]
  exact triple_restated (sound_body0 m c t) rfl .rfl fun _ => .rfl

/-- The buffers after the dequantisation. -/
def W2 (c : Dev nD) : Valuation τ sig (Elt F) := afterRegion (dat0 m c) (Gen.V1 m c)
/-- The same, as the contents the first region leaves. -/
def outs0 : Gen.Outs (F := F) := fun _ r c => W2 m c (Proc.devRef .tc r)
/-- The buffers as the attention finds them. -/
abbrev E1 (c : Dev nD) (b : Ref sig .tc) : Buf (Elt F) ((c : Thread nD τ).loc b) := Gen.V3 m (outs0 m) c (Proc.devRef .tc b)

/-- The scratch buffer held whole, as the memref of it is held. -/
theorem hld_scratch (c : Dev nD) (f) :
    (hld (F := F) c (Memref.whole cc1_scratch0) f : sProp 𝕄) = (((c : Thread nD τ).loc cc1_scratch0) ↦{fullShare} f) := by
  unfold hld
  rw [show (Memref.whole cc1_scratch0 : Memref sig .tc _ _ _).view.set = Finset.univ from View.set_whole cc1_scratch0]

/-! ## Custom call 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (E1 m c (Pipeline.arrRef spec1 w))

/-- The proof data: each input window keeps its block, each output window holds what the body leaves there. -/
def dat1 (c : Dev nD) : Dat τ (Elt F) Unit ℕ (UR sig nD τ) ℕ cfg1 c where
  A w := E1 m c (Pipeline.arrRef spec1 w)
  after w t := match w with
    | ⟨0, _⟩ => iblk1 m c 0 t
    | ⟨1, _⟩ => iblk1 m c 1 t
    | ⟨2, _⟩ => iblk1 m c 2 t
    | ⟨3, _⟩ => iblk1 m c 3 t
    | ⟨4, _⟩ => iblk1 m c 4 t
    | ⟨5, _⟩ => iblk1 m c 5 t
    | ⟨6, _⟩ => iblk1 m c 6 t
    | ⟨7, _⟩ => iblk1 m c 7 t
    | ⟨8, _⟩ => out1_8 (iblk1 m c 0 t) (iblk1 m c 1 t) (iblk1 m c 2 t) (iblk1 m c 3 t) (iblk1 m c 4 t) (iblk1 m c 5 t) (iblk1 m c 6 t) (iblk1 m c 7 t)
    | ⟨9, _⟩ => out1_9 (iblk1 m c 0 t) (iblk1 m c 1 t) (iblk1 m c 2 t) (iblk1 m c 3 t)
    | ⟨10, _⟩ => out1_10 (iblk1 m c 0 t) (iblk1 m c 1 t) (iblk1 m c 4 t) (iblk1 m c 5 t)
  Φ _ := Pipeline.scopedRest spec1 c
  q _ := fullShare
  owed _ := 0

theorem A1_eq (c : Dev nD) (w : Fin cfg1.W) : (dat1 m c).A w = E1 m c (Pipeline.arrRef spec1 w) := by
  dsimp only [dat1]
theorem after1_0 (c : Dev nD) (t : Fin cfg1.N) : (dat1 m c).after 0 t = iblk1 m c 0 t := by dsimp only [dat1]
theorem after1_1 (c : Dev nD) (t : Fin cfg1.N) : (dat1 m c).after 1 t = iblk1 m c 1 t := by dsimp only [dat1]
theorem after1_2 (c : Dev nD) (t : Fin cfg1.N) : (dat1 m c).after 2 t = iblk1 m c 2 t := by dsimp only [dat1]
theorem after1_3 (c : Dev nD) (t : Fin cfg1.N) : (dat1 m c).after 3 t = iblk1 m c 3 t := by dsimp only [dat1]
theorem after1_4 (c : Dev nD) (t : Fin cfg1.N) : (dat1 m c).after 4 t = iblk1 m c 4 t := by dsimp only [dat1]
theorem after1_5 (c : Dev nD) (t : Fin cfg1.N) : (dat1 m c).after 5 t = iblk1 m c 5 t := by dsimp only [dat1]
theorem after1_6 (c : Dev nD) (t : Fin cfg1.N) : (dat1 m c).after 6 t = iblk1 m c 6 t := by dsimp only [dat1]
theorem after1_7 (c : Dev nD) (t : Fin cfg1.N) : (dat1 m c).after 7 t = iblk1 m c 7 t := by dsimp only [dat1]
theorem after1_8 (c : Dev nD) (t : Fin cfg1.N) : (dat1 m c).after 8 t = out1_8 (iblk1 m c 0 t) (iblk1 m c 1 t) (iblk1 m c 2 t) (iblk1 m c 3 t) (iblk1 m c 4 t) (iblk1 m c 5 t) (iblk1 m c 6 t) (iblk1 m c 7 t) := by dsimp only [dat1]
theorem after1_9 (c : Dev nD) (t : Fin cfg1.N) : (dat1 m c).after 9 t = out1_9 (iblk1 m c 0 t) (iblk1 m c 1 t) (iblk1 m c 2 t) (iblk1 m c 3 t) := by dsimp only [dat1]
theorem after1_10 (c : Dev nD) (t : Fin cfg1.N) : (dat1 m c).after 10 t = out1_10 (iblk1 m c 0 t) (iblk1 m c 1 t) (iblk1 m c 4 t) (iblk1 m c 5 t) := by dsimp only [dat1]

theorem before1_0 (c : Dev nD) (t : Fin cfg1.N) (d) : (dat1 m c).before 0 t d = iblk1 m c 0 t :=
  ((dat1 m c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)

theorem before1_1 (c : Dev nD) (t : Fin cfg1.N) (d) : (dat1 m c).before 1 t d = iblk1 m c 1 t :=
  ((dat1 m c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)

theorem before1_2 (c : Dev nD) (t : Fin cfg1.N) (d) : (dat1 m c).before 2 t d = iblk1 m c 2 t :=
  ((dat1 m c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)

theorem before1_3 (c : Dev nD) (t : Fin cfg1.N) (d) : (dat1 m c).before 3 t d = iblk1 m c 3 t :=
  ((dat1 m c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)

theorem before1_4 (c : Dev nD) (t : Fin cfg1.N) (d) : (dat1 m c).before 4 t d = iblk1 m c 4 t :=
  ((dat1 m c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)

theorem before1_5 (c : Dev nD) (t : Fin cfg1.N) (d) : (dat1 m c).before 5 t d = iblk1 m c 5 t :=
  ((dat1 m c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)

theorem before1_6 (c : Dev nD) (t : Fin cfg1.N) (d) : (dat1 m c).before 6 t d = iblk1 m c 6 t :=
  ((dat1 m c).before_in_eq_fetched 6 rfl (fun _ => rfl) (fun _ _ _ => rfl) (fun t => by rw [after1_6]; unfold Dat.blockOf iblk1; rw [A1_eq]; try rfl) t d).trans
    (by unfold Dat.fetched Dat.blockOf iblk1; rw [A1_eq]; try rfl)

theorem before1_7 (c : Dev nD) (t : Fin cfg1.N) (d) : (dat1 m c).before 7 t d = iblk1 m c 7 t :=
  ((dat1 m c).before_in_eq_fetched 7 rfl (fun _ => rfl) (fun _ _ _ => rfl) (fun t => by rw [after1_7]; unfold Dat.blockOf iblk1; rw [A1_eq]; try rfl) t d).trans
    (by unfold Dat.fetched Dat.blockOf iblk1; rw [A1_eq]; try rfl)

/-- What the body is called with at point `t`, -/
def bodyPre1 (c : Dev nD) (t : Fin cfg1.N) : sProp 𝕄 :=
  iprop((dat1 m c).Φ t.castSucc ∗ (dat1 m c).owesAt () t.castSucc
    ∗ (∃ d, owns (c : Thread nD τ) (st1_0 t) fullShare ((dat1 m c).before 0 t d))
    ∗ (∃ d, owns (c : Thread nD τ) (st1_1 t) fullShare ((dat1 m c).before 1 t d))
    ∗ (∃ d, owns (c : Thread nD τ) (st1_2 t) fullShare ((dat1 m c).before 2 t d))
    ∗ (∃ d, owns (c : Thread nD τ) (st1_3 t) fullShare ((dat1 m c).before 3 t d))
    ∗ (∃ d, owns (c : Thread nD τ) (st1_4 t) fullShare ((dat1 m c).before 4 t d))
    ∗ (∃ d, owns (c : Thread nD τ) (st1_5 t) fullShare ((dat1 m c).before 5 t d))
    ∗ (∃ d, owns (c : Thread nD τ) (st1_6 t) fullShare ((dat1 m c).before 6 t d))
    ∗ (∃ d, owns (c : Thread nD τ) (st1_7 t) fullShare ((dat1 m c).before 7 t d))
    ∗ (∃ d, owns (c : Thread nD τ) (st1_8 t) fullShare ((dat1 m c).before 8 t d))
    ∗ (∃ d, owns (c : Thread nD τ) (st1_9 t) fullShare ((dat1 m c).before 9 t d))
    ∗ (∃ d, owns (c : Thread nD τ) (st1_10 t) fullShare ((dat1 m c).before 10 t d)))
/-- and what it returns. -/
def bodyPost1 (c : Dev nD) (t : Fin cfg1.N) : sProp 𝕄 :=
  iprop((dat1 m c).Φ t.succ ∗ (dat1 m c).owesAt () t.succ
    ∗ owns (c : Thread nD τ) (st1_0 t) fullShare ((dat1 m c).after 0 t)
    ∗ owns (c : Thread nD τ) (st1_1 t) fullShare ((dat1 m c).after 1 t)
    ∗ owns (c : Thread nD τ) (st1_2 t) fullShare ((dat1 m c).after 2 t)
    ∗ owns (c : Thread nD τ) (st1_3 t) fullShare ((dat1 m c).after 3 t)
    ∗ owns (c : Thread nD τ) (st1_4 t) fullShare ((dat1 m c).after 4 t)
    ∗ owns (c : Thread nD τ) (st1_5 t) fullShare ((dat1 m c).after 5 t)
    ∗ owns (c : Thread nD τ) (st1_6 t) fullShare ((dat1 m c).after 6 t)
    ∗ owns (c : Thread nD τ) (st1_7 t) fullShare ((dat1 m c).after 7 t)
    ∗ owns (c : Thread nD τ) (st1_8 t) fullShare ((dat1 m c).after 8 t)
    ∗ owns (c : Thread nD τ) (st1_9 t) fullShare ((dat1 m c).after 9 t)
    ∗ owns (c : Thread nD τ) (st1_10 t) fullShare ((dat1 m c).after 10 t))

/-- The body at any point. -/
theorem sound_body1 (c : Dev nD) (t : Fin cfg1.N) :
    bodyPre1 m c t ⊢ wp frame (wpE (defs₀ (F := F)) Variants.none c none) Set.univ (bodyAt1 t) (fun _ => bodyPost1 m c t) := by
  unfold bodyPre1 bodyPost1 bodyAt1
  simp only [before1_0, before1_1, before1_2, before1_3, before1_4, before1_5, before1_6, before1_7]
  rw [show (dat1 m c).Φ t.succ = (dat1 m c).Φ t.castSucc from rfl,
    show (dat1 m c).owesAt () t.succ = (dat1 m c).owesAt () t.castSucc from rfl,
    after1_0, after1_1, after1_2, after1_3, after1_4, after1_5, after1_6, after1_7, after1_8, after1_9, after1_10]
  rw [show (dat1 m c).Φ t.castSucc = Pipeline.scopedRest spec1 c from rfl, scopedRest1_eq]
  iintro ⟨⟨S0, S1, S2, S3, S4, S5, S6, S7, S8, S9, S10, S11, ⟨%fs, HS⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound1 c _ _ _ _ _ _ _ _ _ _ _ _ _ _ _ _ _ _ _ _ _ _ _ _ _ (iblk1 m c 0 t) (iblk1 m c 1 t) (iblk1 m c 2 t) (iblk1 m c 3 t) (iblk1 m c 4 t) (iblk1 m c 5 t) (iblk1 m c 6 t) (iblk1 m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS]
  · iexists fs; rw [hld_scratch]; iexact HS
  iintro ⟨H0, H1, H2, H3, H4, H5, H6, H7, H8, H9, H10, ⟨%fs2, HS⟩⟩
  isplitl [S0 S1 S2 S3 S4 S5 S6 S7 S8 S9 S10 S11 HS]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexists fs2; rw [← hld_scratch c fs2]; iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row1 (t : Fin cfg1.N) :
    defs₀ (F := F) .tc cfg1.body (cfg1.bodyArgs t (cfg1.slots t)) = bodyAt1 t := by
  unfold defs₀; rw [Defs.onTc_tc]

/-- The library's body obligation. -/
theorem body_obligation1 (c : Dev nD) : BodyObligation (dat1 (F := F) m c) (defs₀ (F := F)) Variants.none () Set.univ := fun t => by
  rw [bigSep_W1, bigSep_W1, defs₀_row1]
  exact triple_restated (sound_body1 m c t) rfl .rfl fun _ => .rfl

/-- The buffers after the attention. -/
def W4 (c : Dev nD) : Valuation τ sig (Elt F) := afterRegion (dat1 m c) (Gen.V3 m (outs0 m) c)
/-- The contents the two regions leave. -/
def outs : Gen.Outs (F := F) := fun n r c => if n = 2 then W2 m c (Proc.devRef .tc r) else W4 m c (Proc.devRef .tc r)

end Cert.Kernel.Hand

end
-- ==== Proof.K.Records.lean ====
/-
  The two regions' records (`Kernel`): what each is entered from and what it leaves.
-/
module

public import proofs.«01_k».proof.Proof.K.Data

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg PLaunchFacts LevelCut Dat Cfg Window BodyObligation cellOf RegionSeg afterRegion)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two regions' proof data. -/
def pd (m : (ℓ : Loc nD τ sig) → Buf (Elt F) ℓ) : (p : Fin 2) → (c : Dev nD) → Dat τ (Elt F) Unit ℕ (UR sig nD τ) ℕ (cfgs p) c
  | ⟨0, _⟩ => fun c => dat0 m c
  | ⟨1, _⟩ => fun c => dat1 m c

/-- Every counter of a TensorCore may be waited on, -/
def Lv (g : GSem nD τ sig) : Finset Unit := if g.1.2 = .tc then {()} else ∅
/-- all at one level. -/
def lv (_ : GSem nD τ sig) (_ : Unit) : ℕ := 0

theorem hL (g : GSem nD τ sig) (h : g.1.2 ≠ .tc) : Lv g = ∅ := if_neg h

/-- What rides between the items: the core owes nothing. -/
abbrev EE (c : Dev nD) : sProp 𝕄 := iprop((∃ Wd, owes (c : Thread nD τ) (0 : CellTallies nD τ sig Unit) Wd) ∗ emp ∗ emp)

theorem cut (p : Fin 2) : LevelCut (pcfgs (F := F)) Gen.adm () Lv lv p (0 : Dev nD → CellTallies nD τ sig Unit) (fun _ => 0) where
  hι _ _ _ := by unfold Lv; rw [if_pos rfl]; exact Finset.mem_singleton_self _
  hιb _ _ _ := le_refl _
  hD _ _ _ h := absurd h (Nat.lt_irrefl 0)

theorem emp_out (P : sProp 𝕄) : iprop(P ∗ emp) ⊢ P := by
  iintro ⟨H, -⟩; iexact H
theorem emp_in (P : sProp 𝕄) : P ⊢ iprop(P ∗ emp) := by
  iintro H
  isplitl [H]; · iexact H
  iempintro

theorem pin_rest0 (c : Dev nD) : (Pipeline.scopedRest (Pipeline.pin (pcfgs (F := F)) Gen.adm 0).spec c : sProp 𝕄) = Pipeline.scopedRest spec0 c := rfl
theorem hin0 (c : Dev nD) : iprop(Pipeline.scopedRest (Pipeline.pin (pcfgs (F := F)) Gen.adm 0).spec c ∗ emp) ⊢ (pd m 0 c).Φ 0 := by
  rw [pin_rest0, show (pd m 0 c).Φ 0 = Pipeline.scopedRest spec0 c from rfl]; exact emp_out _
theorem hout0 (c : Dev nD) : (pd m 0 c).Φ (Fin.last (Pipeline.pin (pcfgs (F := F)) Gen.adm 0).N) ⊢ iprop(Pipeline.scopedRest (Pipeline.pin (pcfgs (F := F)) Gen.adm 0).spec c ∗ emp) := by
  rw [pin_rest0, show (pd m 0 c).Φ (Fin.last (Pipeline.pin (pcfgs (F := F)) Gen.adm 0).N) = Pipeline.scopedRest spec0 c from rfl]; exact emp_in _
theorem pin_rest1 (c : Dev nD) : (Pipeline.scopedRest (Pipeline.pin (pcfgs (F := F)) Gen.adm 1).spec c : sProp 𝕄) = Pipeline.scopedRest spec1 c := rfl
theorem hin1 (c : Dev nD) : iprop(Pipeline.scopedRest (Pipeline.pin (pcfgs (F := F)) Gen.adm 1).spec c ∗ emp) ⊢ (pd m 1 c).Φ 0 := by
  rw [pin_rest1, show (pd m 1 c).Φ 0 = Pipeline.scopedRest spec1 c from rfl]; exact emp_out _
theorem hout1 (c : Dev nD) : (pd m 1 c).Φ (Fin.last (Pipeline.pin (pcfgs (F := F)) Gen.adm 1).N) ⊢ iprop(Pipeline.scopedRest (Pipeline.pin (pcfgs (F := F)) Gen.adm 1).spec c ∗ emp) := by
  rw [pin_rest1, show (pd m 1 c).Φ (Fin.last (Pipeline.pin (pcfgs (F := F)) Gen.adm 1).N) = Pipeline.scopedRest spec1 c from rfl]; exact emp_in _

/-- The dequantisation's record. -/
def R0 : Pipeline.RegionSeg (pcfgs (F := F)) Gen.adm (pd m) () defs₀ Variants.none Lv lv 0 :=
  Pipeline.RegionSeg.ofHeldIn (pcfgs (F := F)) Gen.adm (pd m) () defs₀ Variants.none Lv lv 0 0 (Pipeline.ucRefs τ sig) (fun _ => iprop(emp)) (fun _ => iprop(emp))
    launch0.toP rfl (fun c => (body_obligation0 m c).loose) (fun _ _ => rfl) (fun _ => rfl) (fun c => (dat0 m c).share_full fun _ => rfl)
    (fun c => hin0 m c) (fun c => hout0 m c)
    (fun _ => 0) (cut 0) (fun _ => iprop(emp)) (fun c => Gen.V1 m c) (fun c w => A0_eq m c w)

/-- The attention's record. -/
def R1 : Pipeline.RegionSeg (pcfgs (F := F)) Gen.adm (pd m) () defs₀ Variants.none Lv lv 1 :=
  Pipeline.RegionSeg.ofHeldIn (pcfgs (F := F)) Gen.adm (pd m) () defs₀ Variants.none Lv lv 1 0 (Pipeline.ucRefs τ sig) (fun _ => iprop(emp)) (fun _ => iprop(emp))
    launch1.toP rfl (fun c => (body_obligation1 m c).loose) (fun _ _ => rfl) (fun _ => rfl) (fun c => (dat1 m c).share_full fun _ => rfl)
    (fun c => hin1 m c) (fun c => hout1 m c)
    (fun _ => 0) (cut 1) (fun _ => iprop(emp)) (fun c => Gen.V3 m (outs0 m) c) (fun c w => A1_eq m c w)

theorem arrRefs_sub0 : Pipeline.arrRefs (τ := τ) spec0 ⊆ Pipeline.ucRefs τ sig := by decide
theorem arrRefs_sub1 : Pipeline.arrRefs (τ := τ) spec1 ⊆ Pipeline.ucRefs τ sig := by decide

theorem arr_sub0 : Pipeline.arrRefs (τ := τ) ((pcfgs (F := F)) 0).spec ⊆ Pipeline.ucRefs τ sig := by
  rw [show Pipeline.arrRefs (τ := τ) ((pcfgs (F := F)) 0).spec = Pipeline.arrRefs (τ := τ) spec0 from rfl]; exact arrRefs_sub0
theorem arr_sub1 : Pipeline.arrRefs (τ := τ) ((pcfgs (F := F)) 1).spec ⊆ Pipeline.ucRefs τ sig := by
  rw [show Pipeline.arrRefs (τ := τ) ((pcfgs (F := F)) 1).spec = Pipeline.arrRefs (τ := τ) spec1 from rfl]; exact arrRefs_sub1

/-- Every window of the dequantisation but the last two is read only. -/
theorem outRef0 : ∀ w : Fin cfg0.W, Pipeline.arrRef spec0 w ∉ ([main_v4_0, main_v4_1] : List (Ref sig .tc)) → (cfg0.win w).isOut = false := by decide
/-- Every window of the attention but the last three is read only. -/
theorem outRef1 : ∀ w : Fin cfg1.W, Pipeline.arrRef spec1 w ∉ ([main_v17_0, main_v17_1, main_v17_2] : List (Ref sig .tc)) → (cfg1.win w).isOut = false := by decide

theorem ne_of (r s : Ref sig .tc) (h : r ≠ s) : (Proc.devRef .tc r : DevRef τ sig) ≠ Proc.devRef .tc s := StableHlo.devRef_ne_of_ne h
theorem outs_two (r : Ref sig .tc) (c : Dev nD) : outs m 2 r c = W2 m c (Proc.devRef .tc r) := rfl
theorem outs_four (r : Ref sig .tc) (c : Dev nD) : outs m 4 r c = W4 m c (Proc.devRef .tc r) := rfl

/-- The buffers after the dequantisation, an array at a time. -/
theorem W2_eq (c : Dev nD) (r : Ref sig .tc) : W2 m c (Proc.devRef .tc r) = Gen.V2 m (outs m) c (Proc.devRef .tc r) := by
  by_cases h : r ∈ ([main_v4_0, main_v4_1] : List (Ref sig .tc))
  · simp only [List.mem_cons, List.mem_singleton, List.not_mem_nil, or_false] at h
    rcases h with rfl | rfl
    · simp only [Gen.V2, Function.update_self, Function.update_of_ne (ne_of main_v4_0 main_v4_1 (by decide)), outs_two]
    · simp only [Gen.V2, Function.update_self, outs_two]
  · rw [Gen.V2_of m (outs m) c r h]
    exact Pipeline.afterRegion_keeps (dat0 m c) (Gen.V1 m c) launch0.win.arr_inj (fun w => A0_eq m c w) r (fun w e => outRef0 w (e ▸ h))

theorem V3_outs (c : Dev nD) : Gen.V3 m (outs m) c = Gen.V3 m (outs0 m) c := rfl

/-- The buffers after the attention, an array at a time. -/
theorem W4_eq (c : Dev nD) (r : Ref sig .tc) : W4 m c (Proc.devRef .tc r) = Gen.V4 m (outs m) c (Proc.devRef .tc r) := by
  by_cases h : r ∈ ([main_v17_0, main_v17_1, main_v17_2] : List (Ref sig .tc))
  · simp only [List.mem_cons, List.mem_singleton, List.not_mem_nil, or_false] at h
    rcases h with rfl | rfl | rfl
    · simp only [Gen.V4, Function.update_self, Function.update_of_ne (ne_of main_v17_0 main_v17_1 (by decide)), Function.update_of_ne (ne_of main_v17_0 main_v17_2 (by decide)), outs_four]
    · simp only [Gen.V4, Function.update_self, Function.update_of_ne (ne_of main_v17_1 main_v17_2 (by decide)), outs_four]
    · simp only [Gen.V4, Function.update_self, outs_four]
  · rw [Gen.V4_of m (outs m) c r h, V3_outs]
    exact Pipeline.afterRegion_keeps (dat1 m c) (Gen.V3 m (outs0 m) c) launch1.win.arr_inj (fun w => A1_eq m c w) r (fun w e => outRef1 w (e ▸ h))

theorem uc_tc (b : DevRef τ sig) (h : b ∈ Pipeline.ucRefs τ sig) : ∃ r : Ref sig .tc, b = Proc.devRef .tc r := by
  have := (Finset.mem_filter.mp h).1
  simp only [StableHlo.tcRefs, Finset.mem_map, Finset.mem_univ, true_and] at this
  obtain ⟨r, e⟩ := this
  exact ⟨r, e.symm⟩

theorem hpre0 (c : Dev nD) : iprop(StableHlo.held (c : Thread nD τ) (Pipeline.ucRefs τ sig) (Gen.V1 m c) ∗ EE c) ⊢ (R0 m).pre c := by
  unfold R0
  exact Pipeline.RegionSeg.ofHeldIn_pre (pcs := pcfgs (F := F)) (a := Gen.adm) (pdats := pd m) (ι := ()) (defs₀ := defs₀) (𝒱₀ := Variants.none) (L := Lv) (lv := lv) (p := 0) (D := (0 : Dev nD → CellTallies nD τ sig Unit)) (S := Pipeline.ucRefs τ sig) (X := fun _ => iprop(emp)) (Y := fun _ => iprop(emp)) (R := fun _ => iprop(emp)) (W := fun c => Gen.V1 m c) (arr_sub0 (F := F)) c
theorem W2_pd (c : Dev nD) : afterRegion (pd m 0 c) (Gen.V1 m c) = W2 m c := by unfold W2; rfl
theorem held0 (c : Dev nD) : (StableHlo.held (c : Thread nD τ) (Pipeline.ucRefs τ sig) (W2 m c) : sProp 𝕄)
    = StableHlo.held (c : Thread nD τ) (Pipeline.ucRefs τ sig) (Gen.V2 m (outs m) c) :=
  StableHlo.held_congr (c : Thread nD τ) (fun b hb => by
    obtain ⟨r, rfl⟩ := uc_tc b hb
    exact W2_eq m c r)
theorem hpost0' (c : Dev nD) : (R0 m).post c ⊢ iprop(StableHlo.held (c : Thread nD τ) (Pipeline.ucRefs τ sig) (afterRegion (pd m 0 c) (Gen.V1 m c)) ∗ EE c) := by
  unfold R0
  exact Pipeline.RegionSeg.ofHeldIn_post (W := fun c => Gen.V1 m c) (arr_sub0 (F := F)) c
theorem hpost0 (c : Dev nD) : (R0 m).post c ⊢ iprop(StableHlo.held (c : Thread nD τ) (Pipeline.ucRefs τ sig) (Gen.V2 m (outs m) c) ∗ EE c) := by
  rw [← held0, ← W2_pd]
  exact hpost0' m c

theorem hpre1 (c : Dev nD) : iprop(StableHlo.held (c : Thread nD τ) (Pipeline.ucRefs τ sig) (Gen.V3 m (outs m) c) ∗ EE c) ⊢ (R1 m).pre c := by
  unfold R1
  exact Pipeline.RegionSeg.ofHeldIn_pre (pcs := pcfgs (F := F)) (a := Gen.adm) (pdats := pd m) (ι := ()) (defs₀ := defs₀) (𝒱₀ := Variants.none) (L := Lv) (lv := lv) (p := 1) (D := (0 : Dev nD → CellTallies nD τ sig Unit)) (S := Pipeline.ucRefs τ sig) (X := fun _ => iprop(emp)) (Y := fun _ => iprop(emp)) (R := fun _ => iprop(emp)) (W := fun c => Gen.V3 m (outs0 m) c) (arr_sub1 (F := F)) c
theorem W4_pd (c : Dev nD) : afterRegion (pd m 1 c) (Gen.V3 m (outs0 m) c) = W4 m c := by unfold W4; rfl
theorem held1 (c : Dev nD) : (StableHlo.held (c : Thread nD τ) (Pipeline.ucRefs τ sig) (W4 m c) : sProp 𝕄)
    = StableHlo.held (c : Thread nD τ) (Pipeline.ucRefs τ sig) (Gen.V4 m (outs m) c) :=
  StableHlo.held_congr (c : Thread nD τ) (fun b hb => by
    obtain ⟨r, rfl⟩ := uc_tc b hb
    exact W4_eq m c r)
theorem hpost1' (c : Dev nD) : (R1 m).post c ⊢ iprop(StableHlo.held (c : Thread nD τ) (Pipeline.ucRefs τ sig) (afterRegion (pd m 1 c) (Gen.V3 m (outs0 m) c)) ∗ EE c) := by
  unfold R1
  exact Pipeline.RegionSeg.ofHeldIn_post (W := fun c => Gen.V3 m (outs0 m) c) (arr_sub1 (F := F)) c
theorem hpost1 (c : Dev nD) : (R1 m).post c ⊢ iprop(StableHlo.held (c : Thread nD τ) (Pipeline.ucRefs τ sig) (Gen.V4 m (outs m) c) ∗ EE c) := by
  rw [← held1, ← W4_pd]
  exact hpost1' m c

theorem hE0c (c : Dev nD) : (iprop(unscopedSems0 c ∗ owes (c : Thread nD τ) ((0 : Dev nD → CellTallies nD τ sig Unit) c) ∅ ∗ Pipeline.launchCred (0 : Dev nD → CellTallies nD τ sig Unit) c ∗ prngReg c (ρ c) ∗ emp) : sProp 𝕄)
    ⊢ EE (F := F) c := by
  iintro ⟨-, H, -⟩
  isplitl [H]; · iexists _; iexact H
  isplitl []; · iempintro
  iempintro

theorem hE0' : (bigSep Finset.univ (fun c : Dev nD => (iprop(unscopedSems0 c ∗ owes (c : Thread nD τ) ((0 : Dev nD → CellTallies nD τ sig Unit) c) ∅ ∗ Pipeline.launchCred (0 : Dev nD → CellTallies nD τ sig Unit) c ∗ prngReg c (ρ c) ∗ emp) : sProp 𝕄)) : sProp 𝕄)
    ⊢ (bigSep Finset.univ (fun c : Dev nD => EE (F := F) c) : sProp 𝕄) :=
  bigSep_mono fun c _ => hE0c ρ c

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp)) ∗ levAts Lv lv)
      ⊢ (|={Set.univ}=> bigSep Finset.univ (fun c : Dev nD => EE (F := F) c) : sProp 𝕄) := by
  iintro ⟨H, -⟩
  imodintro
  iapply (hE0' ρ)
  iexact H

theorem glue (P Q : Dev nD → sProp 𝕄) : iprop((bigSep Finset.univ fun c => P c) ∗ (bigSep Finset.univ fun c => Q c)) ⊢ (bigSep Finset.univ fun c => iprop(P c ∗ Q c)) :=
  Entails.of_eq (bigSep_sep' ..).symm

theorem hE2 (c : Dev nD) : EE c ⊢ (iprop(∃ W, owes (c : Thread nD τ) (0 : CellTallies nD τ sig Unit) W) : sProp 𝕄) := by
  iintro ⟨H, -⟩; iexact H

theorem emp_big : (iprop(emp) : sProp 𝕄) ⊢ bigSep Finset.univ (fun _ : Dev nD => (iprop(emp) : sProp 𝕄)) := by
  exact Entails.of_eq (bigSep_emp_const _).symm

theorem hu₀ : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj))) ∗ bigSep Finset.univ (fun _ : Dev nD => (iprop(emp) : sProp 𝕄))) := by
  rw [ownU_emb₁ (nD := nD) (τ := τ) (sig := sig) (Ix := Unit) (Val := Elt F) (Name := ℕ) (Lvl := ℕ)]
  iintro H
  imodintro
  isplitl [H]; · iexact H
  iapply emp_big
  iempintro

end Cert.Kernel.Hand

end
-- ==== Proof.K.Run.lean ====
/-
  The whole program (`Kernel`) runs: its arguments are unchanged, its results at the last valuation, and every
  counter at zero.
-/
module

public import proofs.«01_k».proof.Proof.K.Records

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg PLaunchFacts LevelCut Dat Cfg Window BodyObligation cellOf RegionSeg afterRegion)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs to its end: its arguments as launched, its three results at the last valuation, every counter at zero. -/
theorem run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_v17_0) = Gen.V5 m (outs m) c main_v17_0
      ∧ r.2.mem ((c.tc : Thread nD τ).loc main_v19) = Gen.V5 m (outs m) c main_v19
      ∧ r.2.mem ((c.tc : Thread nD τ).loc main_v21) = Gen.V5 m (outs m) c main_v21)
      ∧ r.2.sem = fun _ => 0) := by
  refine Pipeline.θ_run_regions_kit_dev_sems (pcfgs (F := F)) Gen.adm (pd m) () cellOf_inj emb₁ defs₀ Variants.none Lv lv m ρ main
    (Gen.segs m (outs m) Variants.none Lv lv (fun _ => EE) () (pd m) (R0 m) (R1 m))
    (fun c Q => by
      rewrite [main_chain c, Pipeline.Seg.run_eq_chain,
        show (Gen.segs m (outs m) Variants.none Lv lv (fun _ => EE) () (pd m) (R0 m) (R1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) (0 : Dev nD → CellTallies nD τ sig Unit) hL (fun _ => iprop(emp)) (initOf (Pipeline.cells cfgs cellOf_inj) (Pipeline.launchToks cfgs cellOf_inj)) hu₀
    (T₀ := fun c => iprop(StableHlo.held (c : Thread nD τ) (Pipeline.ucRefs τ sig) (Gen.V0 m c) ∗ EE c))
    (Tₙ := fun c => StableHlo.held (c : Thread nD τ) (Pipeline.ucRefs τ sig) (Gen.V5 m (outs m) c))
    (hch := fun c => ⟨.rfl, hpre0 m c, hpost0 m c, hpre1 m c, hpost1 m c, sep_mono .rfl (hE2 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_v17_0) = Gen.V5 m (outs m) c main_v17_0 ∧ s.mem ((c.tc : Thread nD τ).loc main_v19) = Gen.V5 m (outs m) c main_v19 ∧ s.mem ((c.tc : Thread nD τ).loc main_v21) = Gen.V5 m (outs m) c main_v21)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ emp))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    iapply (glue (fun c => StableHlo.held (c : Thread nD τ) (Pipeline.ucRefs τ sig) (Gen.V0 m c)) (fun c => EE c))
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c),
        (h (Proc.devRef .tc main_arg4) (Finset.mem_filter.mpr ⟨StableHlo.devRef_mem_tcRefs main_arg4, by decide⟩)).trans (Gen.V5_main_arg4 m (outs m) c),
        (h (Proc.devRef .tc main_arg5) (Finset.mem_filter.mpr ⟨StableHlo.devRef_mem_tcRefs main_arg5, by decide⟩)).trans (Gen.V5_main_arg5 m (outs m) c),
        (h (Proc.devRef .tc main_arg6) (Finset.mem_filter.mpr ⟨StableHlo.devRef_mem_tcRefs main_arg6, by decide⟩)).trans (Gen.V5_main_arg6 m (outs m) c),
        (h (Proc.devRef .tc main_arg7) (Finset.mem_filter.mpr ⟨StableHlo.devRef_mem_tcRefs main_arg7, by decide⟩)).trans (Gen.V5_main_arg7 m (outs m) c),
        (h (Proc.devRef .tc main_arg8) (Finset.mem_filter.mpr ⟨StableHlo.devRef_mem_tcRefs main_arg8, by decide⟩)).trans (Gen.V5_main_arg8 m (outs m) c),
        (h (Proc.devRef .tc main_arg9) (Finset.mem_filter.mpr ⟨StableHlo.devRef_mem_tcRefs main_arg9, by decide⟩)).trans (Gen.V5_main_arg9 m (outs m) c),
        h (Proc.devRef .tc main_v17_0) (Finset.mem_filter.mpr ⟨StableHlo.devRef_mem_tcRefs main_v17_0, by decide⟩),
        h (Proc.devRef .tc main_v19) (Finset.mem_filter.mpr ⟨StableHlo.devRef_mem_tcRefs main_v19, by decide⟩),
        h (Proc.devRef .tc main_v21) (Finset.mem_filter.mpr ⟨StableHlo.devRef_mem_tcRefs main_v21, by decide⟩)⟩
    · iexact HSI

end Cert.Kernel.Hand

end
-- ==== Proof.KI.Dequant.lean ====
/-
  The dequantisation kernel's body (`KernelIdeal`): what it leaves in its two output blocks, as explicit functions of the
  blocks it reads (`out0_4`: the keys; `out0_5`: the values, transposed), and the body's triple.
-/
module

public import proofs.«01_k».proof.Proof.Gen.KernelIdeal.Skeleton
public import proofs.«01_k».proof.Proof.Gen.KernelIdeal.Points
public import Idealize.ShloMosaic.Lib.Exec
public import Idealize.ShloMosaic.Lib.Tactic
public import Idealize.ShloMosaic.Lib.Ring
public import Idealize.ShloMosaic.Lib.Pipeline.Kit
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The keys' block: eight row groups, each its codes times its row of scales (the last store first). -/
def pcs0_4 (x2 : Vec F S1024x128 .fp8e4m3) (x3 : Vec F S8x128 .f32) : List (View.Piece (Elt F) S1x1024x128 .bf16) :=
  [ ⟨Rect.unit (s := S1x1024x128) ![0, 896, 0] S1x128x128.size inb_S1x1024x128_S1x128x128_0_896_0, k0_pay17 (View.ld x2 (Rect.unit (s := S1024x128) ![896, 0] S128x128.size inb_S1024x128_S128x128_896_0)) (View.ld x3 (Rect.unit (s := S8x128) ![7, 0] S1x128.size inb_S8x128_S1x128_7_0))⟩,
    ⟨Rect.unit (s := S1x1024x128) ![0, 768, 0] S1x128x128.size inb_S1x1024x128_S1x128x128_0_768_0, k0_pay15 (k0_pay14 (View.ld x2 (Rect.unit (s := S1024x128) ![768, 0] S128x128.size inb_S1024x128_S128x128_768_0))) (View.ld x3 (Rect.unit (s := S8x128) ![6, 0] S1x128.size inb_S8x128_S1x128_6_0))⟩,
    ⟨Rect.unit (s := S1x1024x128) ![0, 640, 0] S1x128x128.size inb_S1x1024x128_S1x128x128_0_640_0, k0_pay12 (View.ld x2 (Rect.unit (s := S1024x128) ![640, 0] S128x128.size inb_S1024x128_S128x128_640_0)) (View.ld x3 (Rect.unit (s := S8x128) ![5, 0] S1x128.size inb_S8x128_S1x128_5_0))⟩,
    ⟨Rect.unit (s := S1x1024x128) ![0, 512, 0] S1x128x128.size inb_S1x1024x128_S1x128x128_0_512_0, k0_pay10 (View.ld x2 (Rect.unit (s := S1024x128) ![512, 0] S128x128.size inb_S1024x128_S128x128_512_0)) (View.ld x3 (Rect.unit (s := S8x128) ![4, 0] S1x128.size inb_S8x128_S1x128_4_0))⟩,
    ⟨Rect.unit (s := S1x1024x128) ![0, 384, 0] S1x128x128.size inb_S1x1024x128_S1x128x128_0_384_0, k0_pay8 (View.ld x2 (Rect.unit (s := S1024x128) ![384, 0] S128x128.size inb_S1024x128_S128x128_384_0)) (View.ld x3 (Rect.unit (s := S8x128) ![3, 0] S1x128.size inb_S8x128_S1x128_3_0))⟩,
    ⟨Rect.unit (s := S1x1024x128) ![0, 256, 0] S1x128x128.size inb_S1x1024x128_S1x128x128_0_256_0, k0_pay6 (View.ld x2 (Rect.unit (s := S1024x128) ![256, 0] S128x128.size inb_S1024x128_S128x128_256_0)) (View.ld x3 (Rect.unit (s := S8x128) ![2, 0] S1x128.size inb_S8x128_S1x128_2_0))⟩,
    ⟨Rect.unit (s := S1x1024x128) ![0, 128, 0] S1x128x128.size inb_S1x1024x128_S1x128x128_0_128_0, k0_pay4 (View.ld x2 (Rect.unit (s := S1024x128) ![128, 0] S128x128.size inb_S1024x128_S128x128_128_0)) (View.ld x3 (Rect.unit (s := S8x128) ![1, 0] S1x128.size inb_S8x128_S1x128_1_0))⟩,
    ⟨Rect.unit (s := S1x1024x128) ![0, 0, 0] S1x128x128.size inb_S1x1024x128_S1x128x128_0_0_0, k0_pay2 (View.ld x2 (Rect.unit (s := S1024x128) ![0, 0] S128x128.size inb_S1024x128_S128x128_0_0)) (View.ld x3 (Rect.unit (s := S8x128) ![0, 0] S1x128.size inb_S8x128_S1x128_0_0))⟩]
def out0_4 (x2 : Vec F S1024x128 .fp8e4m3) (x3 : Vec F S8x128 .f32) : Vec F S1x1024x128 .bf16 := View.canon (pcs0_4 x2 x3)

/-- The values' block: eight column groups, each its codes times its row of scales, transposed. -/
def pcs0_5 (x4 : Vec F S1024x128 .fp8e4m3) (x5 : Vec F S8x128 .f32) : List (View.Piece (Elt F) S1x128x1024 .bf16) :=
  [ ⟨Rect.unit (s := S1x128x1024) ![0, 0, 896] S1x128x128.size inb_S1x128x1024_S1x128x128_0_0_896, k0_pay1 (k0_pay18 (View.ld x4 (Rect.unit (s := S1024x128) ![896, 0] S128x128.size inb_S1024x128_S128x128_896_0))) (View.ld x5 (Rect.unit (s := S8x128) ![7, 0] S1x128.size inb_S8x128_S1x128_7_0))⟩,
    ⟨Rect.unit (s := S1x128x1024) ![0, 0, 768] S1x128x128.size inb_S1x128x1024_S1x128x128_0_0_768, k0_pay16 (View.ld x4 (Rect.unit (s := S1024x128) ![768, 0] S128x128.size inb_S1024x128_S128x128_768_0)) (View.ld x5 (Rect.unit (s := S8x128) ![6, 0] S1x128.size inb_S8x128_S1x128_6_0))⟩,
    ⟨Rect.unit (s := S1x128x1024) ![0, 0, 640] S1x128x128.size inb_S1x128x1024_S1x128x128_0_0_640, k0_pay13 (View.ld x4 (Rect.unit (s := S1024x128) ![640, 0] S128x128.size inb_S1024x128_S128x128_640_0)) (View.ld x5 (Rect.unit (s := S8x128) ![5, 0] S1x128.size inb_S8x128_S1x128_5_0))⟩,
    ⟨Rect.unit (s := S1x128x1024) ![0, 0, 512] S1x128x128.size inb_S1x128x1024_S1x128x128_0_0_512, k0_pay11 (View.ld x4 (Rect.unit (s := S1024x128) ![512, 0] S128x128.size inb_S1024x128_S128x128_512_0)) (View.ld x5 (Rect.unit (s := S8x128) ![4, 0] S1x128.size inb_S8x128_S1x128_4_0))⟩,
    ⟨Rect.unit (s := S1x128x1024) ![0, 0, 384] S1x128x128.size inb_S1x128x1024_S1x128x128_0_0_384, k0_pay9 (View.ld x4 (Rect.unit (s := S1024x128) ![384, 0] S128x128.size inb_S1024x128_S128x128_384_0)) (View.ld x5 (Rect.unit (s := S8x128) ![3, 0] S1x128.size inb_S8x128_S1x128_3_0))⟩,
    ⟨Rect.unit (s := S1x128x1024) ![0, 0, 256] S1x128x128.size inb_S1x128x1024_S1x128x128_0_0_256, k0_pay7 (View.ld x4 (Rect.unit (s := S1024x128) ![256, 0] S128x128.size inb_S1024x128_S128x128_256_0)) (View.ld x5 (Rect.unit (s := S8x128) ![2, 0] S1x128.size inb_S8x128_S1x128_2_0))⟩,
    ⟨Rect.unit (s := S1x128x1024) ![0, 0, 128] S1x128x128.size inb_S1x128x1024_S1x128x128_0_0_128, k0_pay5 (View.ld x4 (Rect.unit (s := S1024x128) ![128, 0] S128x128.size inb_S1024x128_S128x128_128_0)) (View.ld x5 (Rect.unit (s := S8x128) ![1, 0] S1x128.size inb_S8x128_S1x128_1_0))⟩,
    ⟨Rect.unit (s := S1x128x1024) ![0, 0, 0] S1x128x128.size inb_S1x128x1024_S1x128x128_0_0_0, k0_pay3 (View.ld x4 (Rect.unit (s := S1024x128) ![0, 0] S128x128.size inb_S1024x128_S128x128_0_0)) (View.ld x5 (Rect.unit (s := S8x128) ![0, 0] S1x128.size inb_S8x128_S1x128_0_0))⟩]
def out0_5 (x4 : Vec F S1024x128 .fp8e4m3) (x5 : Vec F S8x128 .f32) : Vec F S1x128x1024 .bf16 := View.canon (pcs0_5 x4 x5)

theorem cover0_4 (x2 : Vec F S1024x128 .fp8e4m3) (x3 : Vec F S8x128 .f32) (y : S1x1024x128.Idx) : ∃ p ∈ pcs0_4 x2 x3, y ∈ p.1.set :=
  View.cover_of_tiled (pcs0_4 x2 x3) S1x128x128.size (by rfl) y
theorem cover0_5 (x4 : Vec F S1024x128 .fp8e4m3) (x5 : Vec F S8x128 .f32) (y : S1x128x1024.Idx) : ∃ p ∈ pcs0_5 x4 x5, y ∈ p.1.set :=
  View.cover_of_tiled (pcs0_5 x4 x5) S1x128x128.size (by rfl) y

set_option maxHeartbeats 1600000 in
/-- The dequantisation body at a point, from the blocks in its windows. -/
theorem sound0 (c : Dev nD) (i : grid0.Coords) (arg2 : Memref sig .tc .vmem S1024x128 .fp8e4m3) (harg2 : arg2.IsWhole) (arg3 : Memref sig .tc .vmem S8x128 .f32) (harg3 : arg3.IsWhole) (arg4 : Memref sig .tc .vmem S1024x128 .fp8e4m3) (harg4 : arg4.IsWhole) (arg5 : Memref sig .tc .vmem S8x128 .f32) (harg5 : arg5.IsWhole) (arg6 : Memref sig .tc .vmem S1x1024x128 .bf16) (harg6 : arg6.IsWhole) (arg7 : Memref sig .tc .vmem S1x128x1024 .bf16) (harg7 : arg7.IsWhole)
    (x2 : Vec F S1024x128 .fp8e4m3) (x3 : Vec F S8x128 .f32) (x4 : Vec F S1024x128 .fp8e4m3) (x5 : Vec F S8x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare (out0_4 x2 x3) ∗ owns (c : Thread nD τ) arg7 fullShare (out0_5 x4 x5)) -∗ K PUnit.unit))
      ⊢ wp frame (wpE (defs₀ (F := F)) Variants.none (c : Thread nD τ) none) Set.univ (cc0_prompt_dequant (F := F) i arg2 harg2 arg3 harg3 arg4 harg4 arg5 harg5 arg6 harg6 arg7 harg7) K := by
  simp only [cc0_prompt_dequant_eq_skeleton, k0_part1_eq_skeleton, k0_part2_eq_skeleton, k0_part3_eq_skeleton, k0_part4_eq_skeleton, k0_part5_eq_skeleton]; unfold cc0_prompt_dequant_skel
  simp only [k0_part1_eq_skeleton, k0_part2_eq_skeleton, k0_part3_eq_skeleton, k0_part4_eq_skeleton, k0_part5_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro; exact View.read_writes_eq_canon _ _ (pcs0_4 _ _) (cover0_4 _ _)
  iexists _; isplitr; swap; · iexact H7
  ipureintro; exact View.read_writes_eq_canon _ _ (pcs0_5 _ _) (cover0_5 _ _)

end Cert.KernelIdeal.Hand

end
-- ==== Proof.KI.Loops.lean ====
/-
  The attention kernel's loops (`KernelIdeal`): what one trip of each counted loop does, as EXPLICIT functions of the
  blocks read — the running maximum and the score pieces of the first pass over the prompt (`accA`, `pcsA`), the running
  sum and weighted values of the second (`accB`) —, and the three `LoopInv` records the run goes through the loops by.
-/
module

public import proofs.«01_k».proof.Proof.Gen.KernelIdeal.Skeleton
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The rectangles the loops read and write -/

abbrev rK (k : Fin k1_t2_loop.trips) : Rect S1x8192x128 := Rect.unit (s := S1x8192x128) (k1_off3 k) S1x1024x128.size (k1_off3_inb k)
abbrev rS (k : Fin k1_t2_loop.trips) : Rect S8192x512 := Rect.unit (s := S8192x512) (k1_off4 k) S1024x512.size (k1_off4_inb k)
abbrev rR (k : Fin k1_t3_loop.trips) : Rect S8192x512 := Rect.unit (s := S8192x512) (k1_off5 k) S1024x512.size (k1_off5_inb k)
abbrev rV (k : Fin k1_t3_loop.trips) : Rect S1x128x8192 := Rect.unit (s := S1x128x8192) (k1_off6 k) S1x128x1024.size (k1_off6_inb k)
abbrev rQ (g : Fin k1_t1_loop.trips) : Rect S7x512x128 := Rect.unit (s := S7x512x128) (k1_off1 g) S1x512x128.size (k1_off1_inb g)
abbrev rH (g : Fin k1_t1_loop.trips) : Rect S1x7x512 := Rect.unit (s := S1x7x512) (k1_off2 g) S1x1x512.size (k1_off2_inb g)
abbrev rO (g : Fin k1_t1_loop.trips) : Rect S1x512x896 := Rect.unit (s := S1x512x896) (k1_off7 g) S1x512x128.size (k1_off7_inb g)
abbrev rT : Rect S1x1x512 := Rect.unit (s := S1x1x512) ![0, 0, 0] S1x1x512.size inb_S1x1x512_S1x1x512_0_0_0
abbrev rC : Rect S512x128 := Rect.unit (s := S512x128) ![0, 0] S512x128.size inb_S512x128_S512x128_0_0

/-! ## The carried values and pieces, explicitly -/

/-- The running maximum of the scores before trip `k` of the first pass. -/
def accA (q : Vec F S1x512x128 .fp8e4m3) (qs : Vec F S1x1x512 .f32) (x4 : Vec F S1x8192x128 .bf16) : ℕ → FVec F S1x512 .f32
  | 0 => k1_pay7
  | k + 1 => if h : k < k1_t2_loop.trips then k1_pay10 q qs (accA q qs x4 k) (View.ld x4 (rK ⟨k, h⟩)) else accA q qs x4 k

theorem accA_succ (q : Vec F S1x512x128 .fp8e4m3) (qs : Vec F S1x1x512 .f32) (x4 : Vec F S1x8192x128 .bf16) (k : Fin k1_t2_loop.trips) :
    accA q qs x4 (k.val + 1) = k1_pay10 q qs (accA q qs x4 k.val) (View.ld x4 (rK k)) := by
  rw [accA]; exact dif_pos k.isLt

/-- The score pieces written before trip `k` of the first pass, last first. -/
def pcsA (q : Vec F S1x512x128 .fp8e4m3) (qs : Vec F S1x1x512 .f32) (x4 : Vec F S1x8192x128 .bf16) : ℕ → List (View.Piece (Elt F) S8192x512 .f32)
  | 0 => []
  | k + 1 => if h : k < k1_t2_loop.trips then [⟨rS ⟨k, h⟩, k1_pay9 q qs (View.ld x4 (rK ⟨k, h⟩))⟩] ++ pcsA q qs x4 k else pcsA q qs x4 k

theorem pcsA_succ (q : Vec F S1x512x128 .fp8e4m3) (qs : Vec F S1x1x512 .f32) (x4 : Vec F S1x8192x128 .bf16) (k : Fin k1_t2_loop.trips) :
    pcsA q qs x4 (k.val + 1) = [⟨rS k, k1_pay9 q qs (View.ld x4 (rK k))⟩] ++ pcsA q qs x4 k.val := by
  rw [pcsA]; exact dif_pos k.isLt

theorem mem_pcsA (q : Vec F S1x512x128 .fp8e4m3) (qs : Vec F S1x1x512 .f32) (x4 : Vec F S1x8192x128 .bf16) (k : Fin k1_t2_loop.trips) :
    ∀ n, k.val < n → (⟨rS k, k1_pay9 q qs (View.ld x4 (rK k))⟩ : View.Piece (Elt F) S8192x512 .f32) ∈ pcsA q qs x4 n
  | 0, h => absurd h (Nat.not_lt_zero _)
  | n + 1, h => by
    rw [pcsA]
    rcases Nat.lt_succ_iff_lt_or_eq.mp h with h' | h'
    · split
      · exact List.mem_cons_of_mem _ (mem_pcsA q qs x4 k n h')
      · exact mem_pcsA q qs x4 k n h'
    · subst h'
      rw [dif_pos k.isLt]; exact List.mem_cons_self

theorem of_mem_pcsA (q : Vec F S1x512x128 .fp8e4m3) (qs : Vec F S1x1x512 .f32) (x4 : Vec F S1x8192x128 .bf16) :
    ∀ n, ∀ p ∈ pcsA q qs x4 n, ∃ k : Fin k1_t2_loop.trips, k.val < n ∧ p = ⟨rS k, k1_pay9 q qs (View.ld x4 (rK k))⟩
  | 0, p, h => absurd h List.not_mem_nil
  | n + 1, p, h => by
    rw [pcsA] at h
    split at h
    · rcases List.mem_cons.mp h with h' | h'
      · exact ⟨_, Nat.lt_succ_self _, h'⟩
      · obtain ⟨k, hk, e⟩ := of_mem_pcsA q qs x4 n p h'
        exact ⟨k, by omega, e⟩
    · obtain ⟨k, hk, e⟩ := of_mem_pcsA q qs x4 n p h
      exact ⟨k, by omega, e⟩

/-- The running sum of weights and weighted sum of values before trip `k` of the second pass, from the score chunks. -/
def accB (m : FVec F S1x512 .f32) (s : Fin k1_t3_loop.trips → Vec F S1024x512 .f32) (x5 : Vec F S1x128x8192 .bf16) : ℕ → FVec F S1x512 .f32 × FVec F S128x512 .f32
  | 0 => (k1_pay11, k1_pay12)
  | k + 1 => if h : k < k1_t3_loop.trips then
      (k1_pay14 m (accB m s x5 k).1 (s ⟨k, h⟩), k1_pay15 m (accB m s x5 k).2 (s ⟨k, h⟩) (View.ld x5 (rV ⟨k, h⟩))) else accB m s x5 k

theorem accB_succ (m : FVec F S1x512 .f32) (s : Fin k1_t3_loop.trips → Vec F S1024x512 .f32) (x5 : Vec F S1x128x8192 .bf16) (k : Fin k1_t3_loop.trips) :
    accB m s x5 (k.val + 1) = (k1_pay14 m (accB m s x5 k.val).1 (s k), k1_pay15 m (accB m s x5 k.val).2 (s k) (View.ld x5 (rV k))) := by
  rw [accB]; exact dif_pos k.isLt

abbrev 𝒱₀ : Variants := Variants.none

/-- A memref's elements held whole. -/
abbrev hld (c : Dev nD) {sp : Space} {S : Shape} {e : EltTy} (M : Memref sig .tc sp S e) (f : BufTy.Contents (Elt F) M.view.ty) : sProp 𝕄 :=
  M.view.loc (c : Thread nD τ) ↦[M.view.set]{fullShare} f

/-! ## The first pass -/

/-- One trip of the first pass: it writes its chunk's scores and yields the new maximum. -/
theorem tripA (c : Dev nD) (i : grid1.Coords) (arg2 : Memref sig .tc .vmem S7x512x128 .fp8e4m3) (harg2 : arg2.IsWhole) (arg3 : Memref sig .tc .vmem S1x7x512 .f32) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S512x128 .fp8e4m3) (harg6 : arg6.IsWhole) (arg7 : Memref sig .tc .vmem S1x1x512 .f32) (harg7 : arg7.IsWhole) (arg8 : Memref sig .tc .vmem S512x128 .fp8e4m3) (harg8 : arg8.IsWhole) (arg9 : Memref sig .tc .vmem S1x1x512 .f32) (harg9 : arg9.IsWhole) (arg10 : Memref sig .tc .vmem S1x512x896 .bf16) (harg10 : arg10.IsWhole) (arg11 : Memref sig .tc .vmem S1x7x512 .f32) (harg11 : arg11.IsWhole) (arg12 : Memref sig .tc .vmem S1x7x512 .f32) (harg12 : arg12.IsWhole) (arg13 : Memref sig .tc .vmem S8192x512 .f32) (harg13 : arg13.IsWhole) (v4 : FVec F S512x128 .f32) (c0 c1 : BitVec 32) (g : Fin k1_t1_loop.trips) (q : Vec F S1x512x128 .fp8e4m3) (qs : Vec F S1x1x512 .f32)
    (X4 : BufTy.Contents (Elt F) arg4.view.ty) (k : Fin k1_t2_loop.trips) (E : Set ℕ) (acc : FVec F S1x512 .f32) (f13 : BufTy.Contents (Elt F) arg13.view.ty) :
    iprop(hld c arg4 X4 ∗ hld c arg13 f13) ⊢ wp frame (wpE (defs₀ (F := F)) 𝒱₀ (c : Thread nD τ) none) E (k1_t2_body (F := F) i arg2 harg2 arg3 harg3 arg4 harg4 arg5 harg5 arg6 harg6 arg7 harg7 arg8 harg8 arg9 harg9 arg10 harg10 arg11 harg11 arg12 harg12 arg13 harg13 v4 c0 c1 g q qs k acc)
      (fun yld => iprop(⌜yld = k1_pay10 q qs acc (View.ld (arg4.view.read (Elt F) X4) (rK k))⌝ ∗ hld c arg4 X4
        ∗ hld c arg13 (arg13.view.writes (Elt F) f13 [⟨rS k, k1_pay9 q qs (View.ld (arg4.view.read (Elt F) X4) (rK k))⟩]))) := by
  have hk : k.val < 8 := Nat.lt_of_lt_of_le k.isLt k1_t2_abs.2.1
  unfold k1_t2_body
  iintro ⟨H4, H13⟩
  sl_exec
  sl_step
  sl_close

set_option warn.classDefReducibility false in
/-- The first pass by its invariant. -/
@[sl_loop] def loopA (c : Dev nD) (E : Set ℕ) (i : grid1.Coords) (arg2 : Memref sig .tc .vmem S7x512x128 .fp8e4m3) (harg2 : arg2.IsWhole) (arg3 : Memref sig .tc .vmem S1x7x512 .f32) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S512x128 .fp8e4m3) (harg6 : arg6.IsWhole) (arg7 : Memref sig .tc .vmem S1x1x512 .f32) (harg7 : arg7.IsWhole) (arg8 : Memref sig .tc .vmem S512x128 .fp8e4m3) (harg8 : arg8.IsWhole) (arg9 : Memref sig .tc .vmem S1x1x512 .f32) (harg9 : arg9.IsWhole) (arg10 : Memref sig .tc .vmem S1x512x896 .bf16) (harg10 : arg10.IsWhole) (arg11 : Memref sig .tc .vmem S1x7x512 .f32) (harg11 : arg11.IsWhole) (arg12 : Memref sig .tc .vmem S1x7x512 .f32) (harg12 : arg12.IsWhole) (arg13 : Memref sig .tc .vmem S8192x512 .f32) (harg13 : arg13.IsWhole) (v4 : FVec F S512x128 .f32) (c0 c1 : BitVec 32) (g : Fin k1_t1_loop.trips) (q : Vec F S1x512x128 .fp8e4m3) (qs : Vec F S1x1x512 .f32)
    (X4 : BufTy.Contents (Elt F) arg4.view.ty) (G13 : BufTy.Contents (Elt F) arg13.view.ty) :
    Idealize.ShloMosaic.LoopInv (M := 𝕄) Idealize.ShloMosaic.frame (wpE (defs₀ (F := F)) 𝒱₀ (c : Thread nD τ) none) E
      k1_t2_loop.lb k1_t2_loop.ub k1_t2_loop.st k1_t2_ok (k1_pay7 (F := F)) (k1_t2_body (F := F) i arg2 harg2 arg3 harg3 arg4 harg4 arg5 harg5 arg6 harg6 arg7 harg7 arg8 harg8 arg9 harg9 arg10 harg10 arg11 harg11 arg12 harg12 arg13 harg13 v4 c0 c1 g q qs) where
  inv k acc := iprop(hld c arg4 X4 ∗ (∃ f, hld c arg13 f ∗ ⌜f = arg13.view.writes (Elt F) G13 (pcsA q qs (arg4.view.read (Elt F) X4) k)⌝)
    ∗ ⌜acc = accA q qs (arg4.view.read (Elt F) X4) k⌝)
  step k acc := by
    iintro ⟨H4, ⟨%f, H13, %hf⟩, %hacc⟩
    subst hacc
    iapply (wp_wand_r Idealize.ShloMosaic.frame (wpE (defs₀ (F := F)) 𝒱₀ (c : Thread nD τ) none) E)
    isplitl [H4 H13]
    · iapply (tripA c i arg2 harg2 arg3 harg3 arg4 harg4 arg5 harg5 arg6 harg6 arg7 harg7 arg8 harg8 arg9 harg9 arg10 harg10 arg11 harg11 arg12 harg12 arg13 harg13 v4 c0 c1 g q qs X4 k E _ f)
      isplitl [H4]; · iexact H4
      iexact H13
    · iintro %yld ⟨%hres, H4, H13⟩
      isplitl [H4]; · iexact H4
      rw [pcsA_succ, accA_succ]
      isplitl [H13]
      · iexists _; isplitl [H13]; · iexact H13
        ipureintro; rw [hf, ← View.writes_append]
      ipureintro; rw [hres]

/-! ## The second pass -/

/-- One trip of the second pass: it reads its chunk's scores and values and yields the new sums. -/
theorem tripB (c : Dev nD) (i : grid1.Coords) (arg2 : Memref sig .tc .vmem S7x512x128 .fp8e4m3) (harg2 : arg2.IsWhole) (arg3 : Memref sig .tc .vmem S1x7x512 .f32) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S512x128 .fp8e4m3) (harg6 : arg6.IsWhole) (arg7 : Memref sig .tc .vmem S1x1x512 .f32) (harg7 : arg7.IsWhole) (arg8 : Memref sig .tc .vmem S512x128 .fp8e4m3) (harg8 : arg8.IsWhole) (arg9 : Memref sig .tc .vmem S1x1x512 .f32) (harg9 : arg9.IsWhole) (arg10 : Memref sig .tc .vmem S1x512x896 .bf16) (harg10 : arg10.IsWhole) (arg11 : Memref sig .tc .vmem S1x7x512 .f32) (harg11 : arg11.IsWhole) (arg12 : Memref sig .tc .vmem S1x7x512 .f32) (harg12 : arg12.IsWhole) (arg13 : Memref sig .tc .vmem S8192x512 .f32) (harg13 : arg13.IsWhole) (v4 : FVec F S512x128 .f32) (c0 c1 : BitVec 32) (g : Fin k1_t1_loop.trips) (m : FVec F S1x512 .f32)
    (X5 : BufTy.Contents (Elt F) arg5.view.ty) (X13 : BufTy.Contents (Elt F) arg13.view.ty) (k : Fin k1_t3_loop.trips) (E : Set ℕ) (acc : FVec F S1x512 .f32 × FVec F S128x512 .f32) :
    iprop(hld c arg5 X5 ∗ hld c arg13 X13) ⊢ wp frame (wpE (defs₀ (F := F)) 𝒱₀ (c : Thread nD τ) none) E (k1_t3_body (F := F) i arg2 harg2 arg3 harg3 arg4 harg4 arg5 harg5 arg6 harg6 arg7 harg7 arg8 harg8 arg9 harg9 arg10 harg10 arg11 harg11 arg12 harg12 arg13 harg13 v4 c0 c1 g m k acc)
      (fun yld => iprop(⌜yld = (k1_pay14 m acc.1 (View.ld (arg13.view.read (Elt F) X13) (rR k)), k1_pay15 m acc.2 (View.ld (arg13.view.read (Elt F) X13) (rR k)) (View.ld (arg5.view.read (Elt F) X5) (rV k)))⌝
        ∗ hld c arg5 X5 ∗ hld c arg13 X13)) := by
  have hk : k.val < 8 := Nat.lt_of_lt_of_le k.isLt k1_t3_abs.2.1
  unfold k1_t3_body
  iintro ⟨H5, H13⟩
  sl_exec
  sl_step
  sl_close

set_option warn.classDefReducibility false in
/-- The second pass by its invariant. -/
@[sl_loop] def loopB (c : Dev nD) (E : Set ℕ) (i : grid1.Coords) (arg2 : Memref sig .tc .vmem S7x512x128 .fp8e4m3) (harg2 : arg2.IsWhole) (arg3 : Memref sig .tc .vmem S1x7x512 .f32) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S512x128 .fp8e4m3) (harg6 : arg6.IsWhole) (arg7 : Memref sig .tc .vmem S1x1x512 .f32) (harg7 : arg7.IsWhole) (arg8 : Memref sig .tc .vmem S512x128 .fp8e4m3) (harg8 : arg8.IsWhole) (arg9 : Memref sig .tc .vmem S1x1x512 .f32) (harg9 : arg9.IsWhole) (arg10 : Memref sig .tc .vmem S1x512x896 .bf16) (harg10 : arg10.IsWhole) (arg11 : Memref sig .tc .vmem S1x7x512 .f32) (harg11 : arg11.IsWhole) (arg12 : Memref sig .tc .vmem S1x7x512 .f32) (harg12 : arg12.IsWhole) (arg13 : Memref sig .tc .vmem S8192x512 .f32) (harg13 : arg13.IsWhole) (v4 : FVec F S512x128 .f32) (c0 c1 : BitVec 32) (g : Fin k1_t1_loop.trips) (m : FVec F S1x512 .f32)
    (X5 : BufTy.Contents (Elt F) arg5.view.ty) (X13 : BufTy.Contents (Elt F) arg13.view.ty) :
    Idealize.ShloMosaic.LoopInv (M := 𝕄) Idealize.ShloMosaic.frame (wpE (defs₀ (F := F)) 𝒱₀ (c : Thread nD τ) none) E
      k1_t3_loop.lb k1_t3_loop.ub k1_t3_loop.st k1_t3_ok (k1_pay11 (F := F), k1_pay12 (F := F)) (k1_t3_body (F := F) i arg2 harg2 arg3 harg3 arg4 harg4 arg5 harg5 arg6 harg6 arg7 harg7 arg8 harg8 arg9 harg9 arg10 harg10 arg11 harg11 arg12 harg12 arg13 harg13 v4 c0 c1 g m) where
  inv k acc := iprop(hld c arg5 X5 ∗ hld c arg13 X13 ∗ ⌜acc = accB m (fun k => View.ld (arg13.view.read (Elt F) X13) (rR k)) (arg5.view.read (Elt F) X5) k⌝)
  step k acc := by
    iintro ⟨H5, H13, %hacc⟩
    subst hacc
    iapply (wp_wand_r Idealize.ShloMosaic.frame (wpE (defs₀ (F := F)) 𝒱₀ (c : Thread nD τ) none) E)
    isplitl [H5 H13]
    · iapply (tripB c i arg2 harg2 arg3 harg3 arg4 harg4 arg5 harg5 arg6 harg6 arg7 harg7 arg8 harg8 arg9 harg9 arg10 harg10 arg11 harg11 arg12 harg12 arg13 harg13 v4 c0 c1 g m X5 X13 k E _)
      isplitl [H5]; · iexact H5
      iexact H13
    · iintro %yld ⟨%hres, H5, H13⟩
      isplitl [H5]; · iexact H5
      isplitl [H13]; · iexact H13
      ipureintro; rw [accB_succ, hres]

/-! ## One head -/

/-- The scores the second pass reads at chunk `k` are those the first pass wrote there. -/
theorem read_scores {v : View sig .tc .vmem S8192x512 .f32} (f : v.ty.Contents (Elt F)) (q : Vec F S1x512x128 .fp8e4m3) (qs : Vec F S1x1x512 .f32) (x4 : Vec F S1x8192x128 .bf16)
    (k : Fin k1_t3_loop.trips) :
    View.ld (v.read (Elt F) (v.writes (Elt F) f (pcsA q qs x4 k1_t2_loop.trips))) (rR k) = k1_pay9 q qs (View.ld x4 (rK ⟨k.val, k.isLt⟩)) := by
  funext x
  exact View.read_writes_of_unique v f ⟨rS ⟨k.val, k.isLt⟩, k1_pay9 q qs (View.ld x4 (rK ⟨k.val, k.isLt⟩))⟩ x _
    (mem_pcsA q qs x4 ⟨k.val, k.isLt⟩ _ k.isLt) fun p hp hx => by
      obtain ⟨j, -, rfl⟩ := of_mem_pcsA q qs x4 _ p hp
      have h1 := (Rect.mem_set_unit (inb := k1_off4_inb j)).mp hx 0
      have hj : j = ⟨k.val, k.isLt⟩ := by
        rw [k1_off4_eq] at h1
        have h2 : ((Rect.unit (s := S8192x512) (k1_off4 ⟨k.val, k.isLt⟩) S1024x512.size (k1_off4_inb ⟨k.val, k.isLt⟩)).emb x 0).val
            = k1_off4 ⟨k.val, k.isLt⟩ 0 + 1 * (x 0).val := rfl
        have h2e : k1_off4 ⟨k.val, k.isLt⟩ 0 = 1024 * k.val := by rw [k1_off4_eq]; rfl
        change 1024 * j.val ≤ _ ∧ _ < 1024 * j.val + 1024 at h1
        have h3 : (x 0).val < 1024 := (x 0).isLt
        rw [h2e] at h2
        change 1024 * j.val ≤ ((Rect.unit (s := S8192x512) (k1_off4 ⟨k.val, k.isLt⟩) S1024x512.size (k1_off4_inb ⟨k.val, k.isLt⟩)).emb x 0).val ∧ ((Rect.unit (s := S8192x512) (k1_off4 ⟨k.val, k.isLt⟩) S1024x512.size (k1_off4_inb ⟨k.val, k.isLt⟩)).emb x 0).val < 1024 * j.val + 1024 at h1
        exact Fin.ext (by show j.val = k.val; omega)
      rw [hj]

/-- The scores' chunk `k` of a head. -/
abbrev sc (q : Vec F S1x512x128 .fp8e4m3) (qs : Vec F S1x1x512 .f32) (x4 : Vec F S1x8192x128 .bf16) (k : Fin k1_t3_loop.trips) : Vec F S1024x512 .f32 :=
  k1_pay9 q qs (View.ld x4 (rK ⟨k.val, k.isLt⟩))
/-- The prompt's maximum of a head, -/
abbrev hM (q : Vec F S1x512x128 .fp8e4m3) (qs : Vec F S1x1x512 .f32) (x4 : Vec F S1x8192x128 .bf16) : FVec F S1x512 .f32 := accA q qs x4 k1_t2_loop.trips
/-- and its sums. -/
abbrev hB (q : Vec F S1x512x128 .fp8e4m3) (qs : Vec F S1x1x512 .f32) (x4 : Vec F S1x8192x128 .bf16) (x5 : Vec F S1x128x8192 .bf16) : FVec F S1x512 .f32 × FVec F S128x512 .f32 :=
  accB (hM q qs x4) (sc q qs x4) x5 k1_t3_loop.trips

/-- The combined output of head `g`, -/
def hO (x2 : Vec F S7x512x128 .fp8e4m3) (x3 : Vec F S1x7x512 .f32) (x4 : Vec F S1x8192x128 .bf16) (x5 : Vec F S1x128x8192 .bf16) (x6 : Vec F S512x128 .fp8e4m3)
    (v0 v5 : Vec F S1x1x512 .f32) (v10 : Vec F S512x128 .fp8e4m3) (g : Fin k1_t1_loop.trips) : FVec F S1x512x128 .bf16 :=
  k1_pay23 (k1_pay2 v5) (k1_pay3 v10) (hM (View.ld x2 (rQ g)) (View.ld x3 (rH g)) x4) (hB (View.ld x2 (rQ g)) (View.ld x3 (rH g)) x4 x5).1 (hB (View.ld x2 (rQ g)) (View.ld x3 (rH g)) x4 x5).2
    (k1_pay17 (k1_pay1 v0) (View.ld x2 (rQ g)) (View.ld x3 (rH g)) (View.ld x6 rC)) (k1_pay18 (k1_pay1 v0) (View.ld x2 (rQ g)) (View.ld x3 (rH g)) (View.ld x6 rC))
    (k1_pay19 (k1_pay1 v0) (View.ld x2 (rQ g)) (View.ld x3 (rH g)) (View.ld x6 rC))
/-- its first statistic, -/
def hLp (x2 : Vec F S7x512x128 .fp8e4m3) (x3 : Vec F S1x7x512 .f32) (x4 : Vec F S1x8192x128 .bf16) (x5 : Vec F S1x128x8192 .bf16) (g : Fin k1_t1_loop.trips) : FVec F S1x1x512 .f32 :=
  k1_pay24 (hM (View.ld x2 (rQ g)) (View.ld x3 (rH g)) x4) (hB (View.ld x2 (rQ g)) (View.ld x3 (rH g)) x4 x5).1
/-- and its second. -/
def hLs (x2 : Vec F S7x512x128 .fp8e4m3) (x3 : Vec F S1x7x512 .f32) (x6 : Vec F S512x128 .fp8e4m3) (v0 : Vec F S1x1x512 .f32) (g : Fin k1_t1_loop.trips) : FVec F S1x1x512 .f32 :=
  k1_pay4 (k1_pay22 (k1_pay17 (k1_pay1 v0) (View.ld x2 (rQ g)) (View.ld x3 (rH g)) (View.ld x6 rC)) (k1_pay19 (k1_pay1 v0) (View.ld x2 (rQ g)) (View.ld x3 (rH g)) (View.ld x6 rC))) k1_pay25

/-- One trip of the loop over the heads. -/
theorem tripH (c : Dev nD) (i : grid1.Coords) (arg2 : Memref sig .tc .vmem S7x512x128 .fp8e4m3) (harg2 : arg2.IsWhole) (arg3 : Memref sig .tc .vmem S1x7x512 .f32) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S512x128 .fp8e4m3) (harg6 : arg6.IsWhole) (arg7 : Memref sig .tc .vmem S1x1x512 .f32) (harg7 : arg7.IsWhole) (arg8 : Memref sig .tc .vmem S512x128 .fp8e4m3) (harg8 : arg8.IsWhole) (arg9 : Memref sig .tc .vmem S1x1x512 .f32) (harg9 : arg9.IsWhole) (arg10 : Memref sig .tc .vmem S1x512x896 .bf16) (harg10 : arg10.IsWhole) (arg11 : Memref sig .tc .vmem S1x7x512 .f32) (harg11 : arg11.IsWhole) (arg12 : Memref sig .tc .vmem S1x7x512 .f32) (harg12 : arg12.IsWhole) (arg13 : Memref sig .tc .vmem S8192x512 .f32) (harg13 : arg13.IsWhole) (v0 v5 : Vec F S1x1x512 .f32) (v10 : Vec F S512x128 .fp8e4m3)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (g : Fin k1_t1_loop.trips) (u : Unit) (f10 : BufTy.Contents (Elt F) arg10.view.ty) (f11 : BufTy.Contents (Elt F) arg11.view.ty) (f12 : BufTy.Contents (Elt F) arg12.view.ty) (f13 : BufTy.Contents (Elt F) arg13.view.ty) :
    iprop(hld c arg2 X2 ∗ hld c arg3 X3 ∗ hld c arg4 X4 ∗ hld c arg5 X5 ∗ hld c arg6 X6 ∗ hld c arg10 f10 ∗ hld c arg11 f11 ∗ hld c arg12 f12 ∗ hld c arg13 f13)
      ⊢ wp frame (wpE (defs₀ (F := F)) 𝒱₀ (c : Thread nD τ) none) Set.univ (k1_t1_body (F := F) i arg2 harg2 arg3 harg3 arg4 harg4 arg5 harg5 arg6 harg6 arg7 harg7 arg8 harg8 arg9 harg9 arg10 harg10 arg11 harg11 arg12 harg12 arg13 harg13 v0 v5 v10 g u)
      (fun _ => iprop(hld c arg2 X2 ∗ hld c arg3 X3 ∗ hld c arg4 X4 ∗ hld c arg5 X5 ∗ hld c arg6 X6
        ∗ hld c arg10 (arg10.view.writes (Elt F) f10 [⟨rO g, hO (arg2.view.read (Elt F) X2) (arg3.view.read (Elt F) X3) (arg4.view.read (Elt F) X4) (arg5.view.read (Elt F) X5) (arg6.view.read (Elt F) X6) v0 v5 v10 g⟩])
        ∗ hld c arg11 (arg11.view.writes (Elt F) f11 [⟨rH g, hLp (arg2.view.read (Elt F) X2) (arg3.view.read (Elt F) X3) (arg4.view.read (Elt F) X4) (arg5.view.read (Elt F) X5) g⟩])
        ∗ hld c arg12 (arg12.view.writes (Elt F) f12 [⟨rH g, hLs (arg2.view.read (Elt F) X2) (arg3.view.read (Elt F) X3) (arg6.view.read (Elt F) X6) v0 g⟩])
        ∗ ∃ f, hld c arg13 f)) := by
  have hk : g.val < 7 := Nat.lt_of_lt_of_le g.isLt k1_t1_abs.2.1
  have hsc : (fun k => View.ld (arg13.view.read (Elt F) (arg13.view.writes (Elt F) arg13.view.junk (pcsA (View.ld (arg2.view.read (Elt F) X2) (rQ g)) (View.ld (arg3.view.read (Elt F) X3) (rH g)) (arg4.view.read (Elt F) X4) k1_t2_loop.trips))) (rR k))
      = sc (View.ld (arg2.view.read (Elt F) X2) (rQ g)) (View.ld (arg3.view.read (Elt F) X3) (rH g)) (arg4.view.read (Elt F) X4) := funext fun k => read_scores arg13.view.junk _ _ _ k
  unfold hO hLp hLs hB
  rw [← hsc]
  unfold k1_t1_body
  simp only [k1_part1_eq_skeleton, k1_part2_eq_skeleton]
  iintro ⟨H2, H3, H4, H5, H6, H10, H11, H12, H13⟩
  sl_exec
  sl_step
  sl_close

/-! ## The heads -/

/-- One piece per head, last first. -/
def pcsG {S : Shape} {e : EltTy} (p : Fin k1_t1_loop.trips → View.Piece (Elt F) S e) : ℕ → List (View.Piece (Elt F) S e)
  | 0 => []
  | g + 1 => if h : g < k1_t1_loop.trips then [p ⟨g, h⟩] ++ pcsG p g else pcsG p g

theorem pcsG_succ {S : Shape} {e : EltTy} (p : Fin k1_t1_loop.trips → View.Piece (Elt F) S e) (g : Fin k1_t1_loop.trips) : pcsG p (g.val + 1) = [p g] ++ pcsG p g.val := by
  rw [pcsG]; exact dif_pos g.isLt

theorem mem_pcsG {S : Shape} {e : EltTy} (p : Fin k1_t1_loop.trips → View.Piece (Elt F) S e) (k : Fin k1_t1_loop.trips) : ∀ n, k.val < n → p k ∈ pcsG p n
  | 0, h => absurd h (Nat.not_lt_zero _)
  | n + 1, h => by
    rw [pcsG]
    rcases Nat.lt_succ_iff_lt_or_eq.mp h with h' | h'
    · split
      · exact List.mem_cons_of_mem _ (mem_pcsG p k n h')
      · exact mem_pcsG p k n h'
    · subst h'
      rw [dif_pos k.isLt]; exact List.mem_cons_self

theorem of_mem_pcsG {S : Shape} {e : EltTy} (p : Fin k1_t1_loop.trips → View.Piece (Elt F) S e) : ∀ n, ∀ x ∈ pcsG p n, ∃ k : Fin k1_t1_loop.trips, x = p k
  | 0, x, h => absurd h List.not_mem_nil
  | n + 1, x, h => by
    rw [pcsG] at h
    split at h
    · rcases List.mem_cons.mp h with h' | h'
      · exact ⟨_, h'⟩
      · exact of_mem_pcsG p n x h'
    · exact of_mem_pcsG p n x h

set_option warn.classDefReducibility false in
/-- The loop over the heads by its invariant. -/
@[sl_loop] def loopH (c : Dev nD) (i : grid1.Coords) (arg2 : Memref sig .tc .vmem S7x512x128 .fp8e4m3) (harg2 : arg2.IsWhole) (arg3 : Memref sig .tc .vmem S1x7x512 .f32) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S512x128 .fp8e4m3) (harg6 : arg6.IsWhole) (arg7 : Memref sig .tc .vmem S1x1x512 .f32) (harg7 : arg7.IsWhole) (arg8 : Memref sig .tc .vmem S512x128 .fp8e4m3) (harg8 : arg8.IsWhole) (arg9 : Memref sig .tc .vmem S1x1x512 .f32) (harg9 : arg9.IsWhole) (arg10 : Memref sig .tc .vmem S1x512x896 .bf16) (harg10 : arg10.IsWhole) (arg11 : Memref sig .tc .vmem S1x7x512 .f32) (harg11 : arg11.IsWhole) (arg12 : Memref sig .tc .vmem S1x7x512 .f32) (harg12 : arg12.IsWhole) (arg13 : Memref sig .tc .vmem S8192x512 .f32) (harg13 : arg13.IsWhole) (v0 v5 : Vec F S1x1x512 .f32) (v10 : Vec F S512x128 .fp8e4m3)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (G10 : BufTy.Contents (Elt F) arg10.view.ty) (G11 : BufTy.Contents (Elt F) arg11.view.ty) (G12 : BufTy.Contents (Elt F) arg12.view.ty) :
    Idealize.ShloMosaic.LoopInv (M := 𝕄) Idealize.ShloMosaic.frame (wpE (defs₀ (F := F)) 𝒱₀ (c : Thread nD τ) none) Set.univ
      k1_t1_loop.lb k1_t1_loop.ub k1_t1_loop.st k1_t1_ok () (k1_t1_body (F := F) i arg2 harg2 arg3 harg3 arg4 harg4 arg5 harg5 arg6 harg6 arg7 harg7 arg8 harg8 arg9 harg9 arg10 harg10 arg11 harg11 arg12 harg12 arg13 harg13 v0 v5 v10) where
  inv g _ := iprop(hld c arg2 X2 ∗ hld c arg3 X3 ∗ hld c arg4 X4 ∗ hld c arg5 X5 ∗ hld c arg6 X6
    ∗ (∃ f, hld c arg10 f ∗ ⌜f = arg10.view.writes (Elt F) G10 (pcsG (fun g => ⟨rO g, hO (arg2.view.read (Elt F) X2) (arg3.view.read (Elt F) X3) (arg4.view.read (Elt F) X4) (arg5.view.read (Elt F) X5) (arg6.view.read (Elt F) X6) v0 v5 v10 g⟩) g)⌝)
    ∗ (∃ f, hld c arg11 f ∗ ⌜f = arg11.view.writes (Elt F) G11 (pcsG (fun g => ⟨rH g, hLp (arg2.view.read (Elt F) X2) (arg3.view.read (Elt F) X3) (arg4.view.read (Elt F) X4) (arg5.view.read (Elt F) X5) g⟩) g)⌝)
    ∗ (∃ f, hld c arg12 f ∗ ⌜f = arg12.view.writes (Elt F) G12 (pcsG (fun g => ⟨rH g, hLs (arg2.view.read (Elt F) X2) (arg3.view.read (Elt F) X3) (arg6.view.read (Elt F) X6) v0 g⟩) g)⌝)
    ∗ ∃ f, hld c arg13 f)
  step g u := by
    iintro ⟨H2, H3, H4, H5, H6, ⟨%f10, H10, %h10⟩, ⟨%f11, H11, %h11⟩, ⟨%f12, H12, %h12⟩, ⟨%f13, H13⟩⟩
    iapply (wp_wand_r Idealize.ShloMosaic.frame (wpE (defs₀ (F := F)) 𝒱₀ (c : Thread nD τ) none) Set.univ)
    isplitl [H2 H3 H4 H5 H6 H10 H11 H12 H13]
    · iapply (tripH c i arg2 harg2 arg3 harg3 arg4 harg4 arg5 harg5 arg6 harg6 arg7 harg7 arg8 harg8 arg9 harg9 arg10 harg10 arg11 harg11 arg12 harg12 arg13 harg13 v0 v5 v10 X2 X3 X4 X5 X6 g u f10 f11 f12 f13)
      isplitl [H2]; · iexact H2
      isplitl [H3]; · iexact H3
      isplitl [H4]; · iexact H4
      isplitl [H5]; · iexact H5
      isplitl [H6]; · iexact H6
      isplitl [H10]; · iexact H10
      isplitl [H11]; · iexact H11
      isplitl [H12]; · iexact H12
      iexact H13
    · iintro %yld ⟨H2, H3, H4, H5, H6, H10, H11, H12, H13⟩
      isplitl [H2]; · iexact H2
      isplitl [H3]; · iexact H3
      isplitl [H4]; · iexact H4
      isplitl [H5]; · iexact H5
      isplitl [H6]; · iexact H6
      rw [pcsG_succ, pcsG_succ, pcsG_succ]
      isplitl [H10]
      · iexists _; isplitl [H10]; · iexact H10
        ipureintro; rw [h10, ← View.writes_append]
      isplitl [H11]
      · iexists _; isplitl [H11]; · iexact H11
        ipureintro; rw [h11, ← View.writes_append]
      isplitl [H12]
      · iexists _; isplitl [H12]; · iexact H12
        ipureintro; rw [h12, ← View.writes_append]
      iexact H13

/-! ## The whole body -/

section Out
variable (x2 : Vec F S7x512x128 .fp8e4m3) (x3 : Vec F S1x7x512 .f32) (x4 : Vec F S1x8192x128 .bf16) (x5 : Vec F S1x128x8192 .bf16) (x6 : Vec F S512x128 .fp8e4m3)
  (x7 : Vec F S1x1x512 .f32) (x8 : Vec F S512x128 .fp8e4m3) (x9 : Vec F S1x1x512 .f32)

/-- The seven heads' outputs, -/
def out1_8 : Vec F S1x512x896 .bf16 :=
  View.canon (pcsG (fun g => ⟨rO g, hO x2 x3 x4 x5 x6 (View.ld x7 rT) (View.ld x9 rT) (View.ld x8 rC) g⟩) k1_t1_loop.trips)
/-- their first statistics, -/
def out1_9 : Vec F S1x7x512 .f32 := View.canon (pcsG (fun g => ⟨rH g, hLp x2 x3 x4 x5 g⟩) k1_t1_loop.trips)
/-- and their second. -/
def out1_10 : Vec F S1x7x512 .f32 := View.canon (pcsG (fun g => ⟨rH g, hLs x2 x3 x6 (View.ld x7 rT) g⟩) k1_t1_loop.trips)

end Out

theorem trips1 : k1_t1_loop.trips = 7 := by decide +kernel

/-- Every element of the output block lies in one head's columns, -/
theorem coverO (w : ∀ g, (rO g).shape.Idx → Elt F .bf16) (y : S1x512x896.Idx) :
    ∃ p ∈ pcsG (F := F) (fun g => ⟨rO g, w g⟩) k1_t1_loop.trips, y ∈ p.1.set := by
  have h2 : (y 2).val < 896 := (y 2).isLt
  refine ⟨_, mem_pcsG _ ⟨(y 2).val / 128, by rw [trips1]; omega⟩ _ (Fin.isLt _), ?_⟩
  refine (Rect.mem_set_unit (inb := k1_off7_inb _)).mpr fun a => ?_
  rw [k1_off7_eq]
  have h0 : (y 0).val < 1 := (y 0).isLt
  have h1 : (y 1).val < 512 := (y 1).isLt
  match a with
  | ⟨0, _⟩ => exact ⟨Nat.zero_le _, h0⟩
  | ⟨1, _⟩ => exact ⟨Nat.zero_le _, by show (y 1).val < 0 + 512; omega⟩
  | ⟨2, _⟩ => exact ⟨by show 128 * ((y 2).val / 128) ≤ (y 2).val; omega, by show (y 2).val < 128 * ((y 2).val / 128) + 128; omega⟩

/-- and every element of a statistics block in one head's row. -/
theorem coverH (w : ∀ g, (rH g).shape.Idx → Elt F .f32) (y : S1x7x512.Idx) :
    ∃ p ∈ pcsG (F := F) (fun g => ⟨rH g, w g⟩) k1_t1_loop.trips, y ∈ p.1.set := by
  have h1 : (y 1).val < 7 := (y 1).isLt
  refine ⟨_, mem_pcsG _ ⟨(y 1).val, by rw [trips1]; omega⟩ _ (Fin.isLt _), ?_⟩
  refine (Rect.mem_set_unit (inb := k1_off2_inb _)).mpr fun a => ?_
  rw [k1_off2_eq]
  have h0 : (y 0).val < 1 := (y 0).isLt
  have h2 : (y 2).val < 512 := (y 2).isLt
  match a with
  | ⟨0, _⟩ => exact ⟨Nat.zero_le _, h0⟩
  | ⟨1, _⟩ => exact ⟨le_refl _, by show (y 1).val < (y 1).val + 1; omega⟩
  | ⟨2, _⟩ => exact ⟨Nat.zero_le _, by show (y 2).val < 0 + 512; omega⟩

/-- The attention body at a point, from the blocks in its windows. -/
theorem sound1 (c : Dev nD) (i : grid1.Coords) (arg2 : Memref sig .tc .vmem S7x512x128 .fp8e4m3) (harg2 : arg2.IsWhole) (arg3 : Memref sig .tc .vmem S1x7x512 .f32) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S512x128 .fp8e4m3) (harg6 : arg6.IsWhole) (arg7 : Memref sig .tc .vmem S1x1x512 .f32) (harg7 : arg7.IsWhole) (arg8 : Memref sig .tc .vmem S512x128 .fp8e4m3) (harg8 : arg8.IsWhole) (arg9 : Memref sig .tc .vmem S1x1x512 .f32) (harg9 : arg9.IsWhole) (arg10 : Memref sig .tc .vmem S1x512x896 .bf16) (harg10 : arg10.IsWhole) (arg11 : Memref sig .tc .vmem S1x7x512 .f32) (harg11 : arg11.IsWhole) (arg12 : Memref sig .tc .vmem S1x7x512 .f32) (harg12 : arg12.IsWhole) (arg13 : Memref sig .tc .vmem S8192x512 .f32) (harg13 : arg13.IsWhole)
    (x2 : Vec F S7x512x128 .fp8e4m3) (x3 : Vec F S1x7x512 .f32) (x4 : Vec F S1x8192x128 .bf16) (x5 : Vec F S1x128x8192 .bf16) (x6 : Vec F S512x128 .fp8e4m3)
    (x7 : Vec F S1x1x512 .f32) (x8 : Vec F S512x128 .fp8e4m3) (x9 : Vec F S1x1x512 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d) ∗ (∃ d, owns (c : Thread nD τ) arg12 fullShare d)
        ∗ (∃ f, hld c arg13 f)
        ∗ (iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8 ∗ owns (c : Thread nD τ) arg9 fullShare x9
        ∗ owns (c : Thread nD τ) arg10 fullShare (out1_8 x2 x3 x4 x5 x6 x7 x8 x9) ∗ owns (c : Thread nD τ) arg11 fullShare (out1_9 x2 x3 x4 x5) ∗ owns (c : Thread nD τ) arg12 fullShare (out1_10 x2 x3 x6 x7)
        ∗ (∃ f, hld c arg13 f)) -∗ K PUnit.unit))
      ⊢ wp frame (wpE (defs₀ (F := F)) 𝒱₀ (c : Thread nD τ) none) Set.univ (cc1_shared_prompt_attention (F := F) i arg2 harg2 arg3 harg3 arg4 harg4 arg5 harg5 arg6 harg6 arg7 harg7 arg8 harg8 arg9 harg9 arg10 harg10 arg11 harg11 arg12 harg12 arg13 harg13) K := by
  simp only [cc1_shared_prompt_attention_eq_skeleton]; unfold cc1_shared_prompt_attention_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, H13⟩, Hk⟩
  subst hf2 hf3 hf4 hf5 hf6 hf7 hf8 hf9
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro; exact View.read_writes_eq_canon _ _ _ (coverO _)
  isplitl [H11]
  · iexists _; isplitr; swap; · iexact H11
    ipureintro; exact View.read_writes_eq_canon _ _ _ (coverH _)
  isplitl [H12]
  · iexists _; isplitr; swap; · iexact H12
    ipureintro; exact View.read_writes_eq_canon _ _ _ (coverH _)
  iexists _; iexact H13

end Cert.KernelIdeal.Hand

end
-- ==== Proof.KI.Data.lean ====
/-
  The two regions' proof data (`KernelIdeal`): what each window holds at each point, the body obligations, and what each
  array holds after its region.
-/
module

public import proofs.«01_k».proof.Proof.KI.Dequant
public import proofs.«01_k».proof.Proof.KI.Loops
public import proofs.«01_k».proof.Proof.Gen.KernelIdeal.Regions
public import Idealize.ShloMosaic.Lib.Pipeline.RegionArraysS
public import Idealize.ShloMosaic.Lib.Pipeline.FrameSuffix
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg afterRegion)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers as the dequantisation finds them. -/
abbrev E0 (c : Dev nD) (b : Ref sig .tc) : Buf (Elt F) ((c : Thread nD τ).loc b) := Gen.V1 m c (Proc.devRef .tc b)

/-! ## Custom call 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (E0 m c (Pipeline.arrRef spec0 w))

/-- The proof data: each input window keeps its block, each output window holds what the body leaves there. -/
def dat0 (c : Dev nD) : Dat τ (Elt F) Unit ℕ (UR sig nD τ) ℕ cfg0 c where
  A w := E0 m c (Pipeline.arrRef spec0 w)
  after w t := match w with
    | ⟨0, _⟩ => iblk0 m c 0 t
    | ⟨1, _⟩ => iblk0 m c 1 t
    | ⟨2, _⟩ => iblk0 m c 2 t
    | ⟨3, _⟩ => iblk0 m c 3 t
    | ⟨4, _⟩ => out0_4 (iblk0 m c 0 t) (iblk0 m c 1 t)
    | ⟨5, _⟩ => out0_5 (iblk0 m c 2 t) (iblk0 m c 3 t)
  Φ _ := Pipeline.scopedRest spec0 c
  q _ := fullShare
  owed _ := 0

theorem A0_eq (c : Dev nD) (w : Fin cfg0.W) : (dat0 m c).A w = E0 m c (Pipeline.arrRef spec0 w) := by
  dsimp only [dat0]
theorem after0_0 (c : Dev nD) (t : Fin cfg0.N) : (dat0 m c).after 0 t = iblk0 m c 0 t := by dsimp only [dat0]
theorem after0_1 (c : Dev nD) (t : Fin cfg0.N) : (dat0 m c).after 1 t = iblk0 m c 1 t := by dsimp only [dat0]
theorem after0_2 (c : Dev nD) (t : Fin cfg0.N) : (dat0 m c).after 2 t = iblk0 m c 2 t := by dsimp only [dat0]
theorem after0_3 (c : Dev nD) (t : Fin cfg0.N) : (dat0 m c).after 3 t = iblk0 m c 3 t := by dsimp only [dat0]
theorem after0_4 (c : Dev nD) (t : Fin cfg0.N) : (dat0 m c).after 4 t = out0_4 (iblk0 m c 0 t) (iblk0 m c 1 t) := by dsimp only [dat0]
theorem after0_5 (c : Dev nD) (t : Fin cfg0.N) : (dat0 m c).after 5 t = out0_5 (iblk0 m c 2 t) (iblk0 m c 3 t) := by dsimp only [dat0]

theorem before0_0 (c : Dev nD) (t : Fin cfg0.N) (d) : (dat0 m c).before 0 t d = iblk0 m c 0 t :=
  ((dat0 m c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)

theorem before0_1 (c : Dev nD) (t : Fin cfg0.N) (d) : (dat0 m c).before 1 t d = iblk0 m c 1 t :=
  ((dat0 m c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)

theorem before0_2 (c : Dev nD) (t : Fin cfg0.N) (d) : (dat0 m c).before 2 t d = iblk0 m c 2 t :=
  ((dat0 m c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)

theorem before0_3 (c : Dev nD) (t : Fin cfg0.N) (d) : (dat0 m c).before 3 t d = iblk0 m c 3 t :=
  ((dat0 m c).before_in_eq_fetched 3 rfl (fun _ => rfl) (fun _ _ _ => rfl) (fun t => by rw [after0_3]; unfold Dat.blockOf iblk0; rw [A0_eq]; try rfl) t d).trans
    (by unfold Dat.fetched Dat.blockOf iblk0; rw [A0_eq]; try rfl)

/-- What the body is called with at point `t`, -/
def bodyPre0 (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d))
    ∗ (∃ d, owns (c : Thread nD τ) (st0_4 t) fullShare ((dat0 m c).before 4 t d))
    ∗ (∃ d, owns (c : Thread nD τ) (st0_5 t) fullShare ((dat0 m c).before 5 t d)))
/-- and what it returns. -/
def bodyPost0 (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t)
    ∗ owns (c : Thread nD τ) (st0_3 t) fullShare ((dat0 m c).after 3 t)
    ∗ owns (c : Thread nD τ) (st0_4 t) fullShare ((dat0 m c).after 4 t)
    ∗ owns (c : Thread nD τ) (st0_5 t) fullShare ((dat0 m c).after 5 t))

/-- The body at any point. -/
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1, before0_2, before0_3]
  rw [show (dat0 m c).Φ t.succ = (dat0 m c).Φ t.castSucc from rfl,
    show (dat0 m c).owesAt () t.succ = (dat0 m c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound0 c _ _ _ _ _ _ _ _ _ _ _ _ _ (iblk0 m c 0 t) (iblk0 m c 1 t) (iblk0 m c 2 t) (iblk0 m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row0 (t : Fin cfg0.N) :
    defs₀ (F := F) .tc cfg0.body (cfg0.bodyArgs t (cfg0.slots t)) = bodyAt0 t := by
  unfold defs₀; rw [Defs.onTc_tc]

/-- The library's body obligation. -/
theorem body_obligation0 (c : Dev nD) : BodyObligation (dat0 (F := F) m c) (defs₀ (F := F)) Variants.none () Set.univ := fun t => by
  rw [bigSep_W0, bigSep_W0, defs₀_row0]
  exact triple_restated (sound_body0 m c t) rfl .rfl fun _ => .rfl

/-- The buffers after the dequantisation. -/
def W2 (c : Dev nD) : Valuation τ sig (Elt F) := afterRegion (dat0 m c) (Gen.V1 m c)
/-- The same, as the contents the first region leaves. -/
def outs0 : Gen.Outs (F := F) := fun _ r c => W2 m c (Proc.devRef .tc r)
/-- The buffers as the attention finds them. -/
abbrev E1 (c : Dev nD) (b : Ref sig .tc) : Buf (Elt F) ((c : Thread nD τ).loc b) := Gen.V3 m (outs0 m) c (Proc.devRef .tc b)

/-- The scratch buffer held whole, as the memref of it is held. -/
theorem hld_scratch (c : Dev nD) (f) :
    (hld (F := F) c (Memref.whole cc1_scratch0) f : sProp 𝕄) = (((c : Thread nD τ).loc cc1_scratch0) ↦{fullShare} f) := by
  unfold hld
  rw [show (Memref.whole cc1_scratch0 : Memref sig .tc _ _ _).view.set = Finset.univ from View.set_whole cc1_scratch0]

/-! ## Custom call 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (E1 m c (Pipeline.arrRef spec1 w))

/-- The proof data: each input window keeps its block, each output window holds what the body leaves there. -/
def dat1 (c : Dev nD) : Dat τ (Elt F) Unit ℕ (UR sig nD τ) ℕ cfg1 c where
  A w := E1 m c (Pipeline.arrRef spec1 w)
  after w t := match w with
    | ⟨0, _⟩ => iblk1 m c 0 t
    | ⟨1, _⟩ => iblk1 m c 1 t
    | ⟨2, _⟩ => iblk1 m c 2 t
    | ⟨3, _⟩ => iblk1 m c 3 t
    | ⟨4, _⟩ => iblk1 m c 4 t
    | ⟨5, _⟩ => iblk1 m c 5 t
    | ⟨6, _⟩ => iblk1 m c 6 t
    | ⟨7, _⟩ => iblk1 m c 7 t
    | ⟨8, _⟩ => out1_8 (iblk1 m c 0 t) (iblk1 m c 1 t) (iblk1 m c 2 t) (iblk1 m c 3 t) (iblk1 m c 4 t) (iblk1 m c 5 t) (iblk1 m c 6 t) (iblk1 m c 7 t)
    | ⟨9, _⟩ => out1_9 (iblk1 m c 0 t) (iblk1 m c 1 t) (iblk1 m c 2 t) (iblk1 m c 3 t)
    | ⟨10, _⟩ => out1_10 (iblk1 m c 0 t) (iblk1 m c 1 t) (iblk1 m c 4 t) (iblk1 m c 5 t)
  Φ _ := Pipeline.scopedRest spec1 c
  q _ := fullShare
  owed _ := 0

theorem A1_eq (c : Dev nD) (w : Fin cfg1.W) : (dat1 m c).A w = E1 m c (Pipeline.arrRef spec1 w) := by
  dsimp only [dat1]
theorem after1_0 (c : Dev nD) (t : Fin cfg1.N) : (dat1 m c).after 0 t = iblk1 m c 0 t := by dsimp only [dat1]
theorem after1_1 (c : Dev nD) (t : Fin cfg1.N) : (dat1 m c).after 1 t = iblk1 m c 1 t := by dsimp only [dat1]
theorem after1_2 (c : Dev nD) (t : Fin cfg1.N) : (dat1 m c).after 2 t = iblk1 m c 2 t := by dsimp only [dat1]
theorem after1_3 (c : Dev nD) (t : Fin cfg1.N) : (dat1 m c).after 3 t = iblk1 m c 3 t := by dsimp only [dat1]
theorem after1_4 (c : Dev nD) (t : Fin cfg1.N) : (dat1 m c).after 4 t = iblk1 m c 4 t := by dsimp only [dat1]
theorem after1_5 (c : Dev nD) (t : Fin cfg1.N) : (dat1 m c).after 5 t = iblk1 m c 5 t := by dsimp only [dat1]
theorem after1_6 (c : Dev nD) (t : Fin cfg1.N) : (dat1 m c).after 6 t = iblk1 m c 6 t := by dsimp only [dat1]
theorem after1_7 (c : Dev nD) (t : Fin cfg1.N) : (dat1 m c).after 7 t = iblk1 m c 7 t := by dsimp only [dat1]
theorem after1_8 (c : Dev nD) (t : Fin cfg1.N) : (dat1 m c).after 8 t = out1_8 (iblk1 m c 0 t) (iblk1 m c 1 t) (iblk1 m c 2 t) (iblk1 m c 3 t) (iblk1 m c 4 t) (iblk1 m c 5 t) (iblk1 m c 6 t) (iblk1 m c 7 t) := by dsimp only [dat1]
theorem after1_9 (c : Dev nD) (t : Fin cfg1.N) : (dat1 m c).after 9 t = out1_9 (iblk1 m c 0 t) (iblk1 m c 1 t) (iblk1 m c 2 t) (iblk1 m c 3 t) := by dsimp only [dat1]
theorem after1_10 (c : Dev nD) (t : Fin cfg1.N) : (dat1 m c).after 10 t = out1_10 (iblk1 m c 0 t) (iblk1 m c 1 t) (iblk1 m c 4 t) (iblk1 m c 5 t) := by dsimp only [dat1]

theorem before1_0 (c : Dev nD) (t : Fin cfg1.N) (d) : (dat1 m c).before 0 t d = iblk1 m c 0 t :=
  ((dat1 m c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)

theorem before1_1 (c : Dev nD) (t : Fin cfg1.N) (d) : (dat1 m c).before 1 t d = iblk1 m c 1 t :=
  ((dat1 m c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)

theorem before1_2 (c : Dev nD) (t : Fin cfg1.N) (d) : (dat1 m c).before 2 t d = iblk1 m c 2 t :=
  ((dat1 m c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)

theorem before1_3 (c : Dev nD) (t : Fin cfg1.N) (d) : (dat1 m c).before 3 t d = iblk1 m c 3 t :=
  ((dat1 m c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)

theorem before1_4 (c : Dev nD) (t : Fin cfg1.N) (d) : (dat1 m c).before 4 t d = iblk1 m c 4 t :=
  ((dat1 m c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)

theorem before1_5 (c : Dev nD) (t : Fin cfg1.N) (d) : (dat1 m c).before 5 t d = iblk1 m c 5 t :=
  ((dat1 m c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)

theorem before1_6 (c : Dev nD) (t : Fin cfg1.N) (d) : (dat1 m c).before 6 t d = iblk1 m c 6 t :=
  ((dat1 m c).before_in_eq_fetched 6 rfl (fun _ => rfl) (fun _ _ _ => rfl) (fun t => by rw [after1_6]; unfold Dat.blockOf iblk1; rw [A1_eq]; try rfl) t d).trans
    (by unfold Dat.fetched Dat.blockOf iblk1; rw [A1_eq]; try rfl)

theorem before1_7 (c : Dev nD) (t : Fin cfg1.N) (d) : (dat1 m c).before 7 t d = iblk1 m c 7 t :=
  ((dat1 m c).before_in_eq_fetched 7 rfl (fun _ => rfl) (fun _ _ _ => rfl) (fun t => by rw [after1_7]; unfold Dat.blockOf iblk1; rw [A1_eq]; try rfl) t d).trans
    (by unfold Dat.fetched Dat.blockOf iblk1; rw [A1_eq]; try rfl)

/-- What the body is called with at point `t`, -/
def bodyPre1 (c : Dev nD) (t : Fin cfg1.N) : sProp 𝕄 :=
  iprop((dat1 m c).Φ t.castSucc ∗ (dat1 m c).owesAt () t.castSucc
    ∗ (∃ d, owns (c : Thread nD τ) (st1_0 t) fullShare ((dat1 m c).before 0 t d))
    ∗ (∃ d, owns (c : Thread nD τ) (st1_1 t) fullShare ((dat1 m c).before 1 t d))
    ∗ (∃ d, owns (c : Thread nD τ) (st1_2 t) fullShare ((dat1 m c).before 2 t d))
    ∗ (∃ d, owns (c : Thread nD τ) (st1_3 t) fullShare ((dat1 m c).before 3 t d))
    ∗ (∃ d, owns (c : Thread nD τ) (st1_4 t) fullShare ((dat1 m c).before 4 t d))
    ∗ (∃ d, owns (c : Thread nD τ) (st1_5 t) fullShare ((dat1 m c).before 5 t d))
    ∗ (∃ d, owns (c : Thread nD τ) (st1_6 t) fullShare ((dat1 m c).before 6 t d))
    ∗ (∃ d, owns (c : Thread nD τ) (st1_7 t) fullShare ((dat1 m c).before 7 t d))
    ∗ (∃ d, owns (c : Thread nD τ) (st1_8 t) fullShare ((dat1 m c).before 8 t d))
    ∗ (∃ d, owns (c : Thread nD τ) (st1_9 t) fullShare ((dat1 m c).before 9 t d))
    ∗ (∃ d, owns (c : Thread nD τ) (st1_10 t) fullShare ((dat1 m c).before 10 t d)))
/-- and what it returns. -/
def bodyPost1 (c : Dev nD) (t : Fin cfg1.N) : sProp 𝕄 :=
  iprop((dat1 m c).Φ t.succ ∗ (dat1 m c).owesAt () t.succ
    ∗ owns (c : Thread nD τ) (st1_0 t) fullShare ((dat1 m c).after 0 t)
    ∗ owns (c : Thread nD τ) (st1_1 t) fullShare ((dat1 m c).after 1 t)
    ∗ owns (c : Thread nD τ) (st1_2 t) fullShare ((dat1 m c).after 2 t)
    ∗ owns (c : Thread nD τ) (st1_3 t) fullShare ((dat1 m c).after 3 t)
    ∗ owns (c : Thread nD τ) (st1_4 t) fullShare ((dat1 m c).after 4 t)
    ∗ owns (c : Thread nD τ) (st1_5 t) fullShare ((dat1 m c).after 5 t)
    ∗ owns (c : Thread nD τ) (st1_6 t) fullShare ((dat1 m c).after 6 t)
    ∗ owns (c : Thread nD τ) (st1_7 t) fullShare ((dat1 m c).after 7 t)
    ∗ owns (c : Thread nD τ) (st1_8 t) fullShare ((dat1 m c).after 8 t)
    ∗ owns (c : Thread nD τ) (st1_9 t) fullShare ((dat1 m c).after 9 t)
    ∗ owns (c : Thread nD τ) (st1_10 t) fullShare ((dat1 m c).after 10 t))

/-- The body at any point. -/
theorem sound_body1 (c : Dev nD) (t : Fin cfg1.N) :
    bodyPre1 m c t ⊢ wp frame (wpE (defs₀ (F := F)) Variants.none c none) Set.univ (bodyAt1 t) (fun _ => bodyPost1 m c t) := by
  unfold bodyPre1 bodyPost1 bodyAt1
  simp only [before1_0, before1_1, before1_2, before1_3, before1_4, before1_5, before1_6, before1_7]
  rw [show (dat1 m c).Φ t.succ = (dat1 m c).Φ t.castSucc from rfl,
    show (dat1 m c).owesAt () t.succ = (dat1 m c).owesAt () t.castSucc from rfl,
    after1_0, after1_1, after1_2, after1_3, after1_4, after1_5, after1_6, after1_7, after1_8, after1_9, after1_10]
  rw [show (dat1 m c).Φ t.castSucc = Pipeline.scopedRest spec1 c from rfl, scopedRest1_eq]
  iintro ⟨⟨S0, S1, S2, S3, S4, S5, S6, S7, S8, S9, S10, S11, ⟨%fs, HS⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound1 c _ _ _ _ _ _ _ _ _ _ _ _ _ _ _ _ _ _ _ _ _ _ _ _ _ (iblk1 m c 0 t) (iblk1 m c 1 t) (iblk1 m c 2 t) (iblk1 m c 3 t) (iblk1 m c 4 t) (iblk1 m c 5 t) (iblk1 m c 6 t) (iblk1 m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS]
  · iexists fs; rw [hld_scratch]; iexact HS
  iintro ⟨H0, H1, H2, H3, H4, H5, H6, H7, H8, H9, H10, ⟨%fs2, HS⟩⟩
  isplitl [S0 S1 S2 S3 S4 S5 S6 S7 S8 S9 S10 S11 HS]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexists fs2; rw [← hld_scratch c fs2]; iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row1 (t : Fin cfg1.N) :
    defs₀ (F := F) .tc cfg1.body (cfg1.bodyArgs t (cfg1.slots t)) = bodyAt1 t := by
  unfold defs₀; rw [Defs.onTc_tc]

/-- The library's body obligation. -/
theorem body_obligation1 (c : Dev nD) : BodyObligation (dat1 (F := F) m c) (defs₀ (F := F)) Variants.none () Set.univ := fun t => by
  rw [bigSep_W1, bigSep_W1, defs₀_row1]
  exact triple_restated (sound_body1 m c t) rfl .rfl fun _ => .rfl

/-- The buffers after the attention. -/
def W4 (c : Dev nD) : Valuation τ sig (Elt F) := afterRegion (dat1 m c) (Gen.V3 m (outs0 m) c)
/-- The contents the two regions leave. -/
def outs : Gen.Outs (F := F) := fun n r c => if n = 2 then W2 m c (Proc.devRef .tc r) else W4 m c (Proc.devRef .tc r)

end Cert.KernelIdeal.Hand

end
-- ==== Proof.KI.Records.lean ====
/-
  The two regions' records (`KernelIdeal`): what each is entered from and what it leaves.
-/
module

public import proofs.«01_k».proof.Proof.KI.Data

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg PLaunchFacts LevelCut Dat Cfg Window BodyObligation cellOf RegionSeg afterRegion)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The two regions' proof data. -/
def pd (m : (ℓ : Loc nD τ sig) → Buf (Elt F) ℓ) : (p : Fin 2) → (c : Dev nD) → Dat τ (Elt F) Unit ℕ (UR sig nD τ) ℕ (cfgs p) c
  | ⟨0, _⟩ => fun c => dat0 m c
  | ⟨1, _⟩ => fun c => dat1 m c

/-- Every counter of a TensorCore may be waited on, -/
def Lv (g : GSem nD τ sig) : Finset Unit := if g.1.2 = .tc then {()} else ∅
/-- all at one level. -/
def lv (_ : GSem nD τ sig) (_ : Unit) : ℕ := 0

theorem hL (g : GSem nD τ sig) (h : g.1.2 ≠ .tc) : Lv g = ∅ := if_neg h

/-- What rides between the items: the core owes nothing. -/
abbrev EE (c : Dev nD) : sProp 𝕄 := iprop((∃ Wd, owes (c : Thread nD τ) (0 : CellTallies nD τ sig Unit) Wd) ∗ emp ∗ emp)

theorem cut (p : Fin 2) : LevelCut (pcfgs (F := F)) Gen.adm () Lv lv p (0 : Dev nD → CellTallies nD τ sig Unit) (fun _ => 0) where
  hι _ _ _ := by unfold Lv; rw [if_pos rfl]; exact Finset.mem_singleton_self _
  hιb _ _ _ := le_refl _
  hD _ _ _ h := absurd h (Nat.lt_irrefl 0)

theorem emp_out (P : sProp 𝕄) : iprop(P ∗ emp) ⊢ P := by
  iintro ⟨H, -⟩; iexact H
theorem emp_in (P : sProp 𝕄) : P ⊢ iprop(P ∗ emp) := by
  iintro H
  isplitl [H]; · iexact H
  iempintro

theorem pin_rest0 (c : Dev nD) : (Pipeline.scopedRest (Pipeline.pin (pcfgs (F := F)) Gen.adm 0).spec c : sProp 𝕄) = Pipeline.scopedRest spec0 c := rfl
theorem hin0 (c : Dev nD) : iprop(Pipeline.scopedRest (Pipeline.pin (pcfgs (F := F)) Gen.adm 0).spec c ∗ emp) ⊢ (pd m 0 c).Φ 0 := by
  rw [pin_rest0, show (pd m 0 c).Φ 0 = Pipeline.scopedRest spec0 c from rfl]; exact emp_out _
theorem hout0 (c : Dev nD) : (pd m 0 c).Φ (Fin.last (Pipeline.pin (pcfgs (F := F)) Gen.adm 0).N) ⊢ iprop(Pipeline.scopedRest (Pipeline.pin (pcfgs (F := F)) Gen.adm 0).spec c ∗ emp) := by
  rw [pin_rest0, show (pd m 0 c).Φ (Fin.last (Pipeline.pin (pcfgs (F := F)) Gen.adm 0).N) = Pipeline.scopedRest spec0 c from rfl]; exact emp_in _
theorem pin_rest1 (c : Dev nD) : (Pipeline.scopedRest (Pipeline.pin (pcfgs (F := F)) Gen.adm 1).spec c : sProp 𝕄) = Pipeline.scopedRest spec1 c := rfl
theorem hin1 (c : Dev nD) : iprop(Pipeline.scopedRest (Pipeline.pin (pcfgs (F := F)) Gen.adm 1).spec c ∗ emp) ⊢ (pd m 1 c).Φ 0 := by
  rw [pin_rest1, show (pd m 1 c).Φ 0 = Pipeline.scopedRest spec1 c from rfl]; exact emp_out _
theorem hout1 (c : Dev nD) : (pd m 1 c).Φ (Fin.last (Pipeline.pin (pcfgs (F := F)) Gen.adm 1).N) ⊢ iprop(Pipeline.scopedRest (Pipeline.pin (pcfgs (F := F)) Gen.adm 1).spec c ∗ emp) := by
  rw [pin_rest1, show (pd m 1 c).Φ (Fin.last (Pipeline.pin (pcfgs (F := F)) Gen.adm 1).N) = Pipeline.scopedRest spec1 c from rfl]; exact emp_in _

/-- The dequantisation's record. -/
def R0 : Pipeline.RegionSeg (pcfgs (F := F)) Gen.adm (pd m) () defs₀ Variants.none Lv lv 0 :=
  Pipeline.RegionSeg.ofHeldIn (pcfgs (F := F)) Gen.adm (pd m) () defs₀ Variants.none Lv lv 0 0 (Pipeline.ucRefs τ sig) (fun _ => iprop(emp)) (fun _ => iprop(emp))
    launch0.toP rfl (fun c => (body_obligation0 m c).loose) (fun _ _ => rfl) (fun _ => rfl) (fun c => (dat0 m c).share_full fun _ => rfl)
    (fun c => hin0 m c) (fun c => hout0 m c)
    (fun _ => 0) (cut 0) (fun _ => iprop(emp)) (fun c => Gen.V1 m c) (fun c w => A0_eq m c w)

/-- The attention's record. -/
def R1 : Pipeline.RegionSeg (pcfgs (F := F)) Gen.adm (pd m) () defs₀ Variants.none Lv lv 1 :=
  Pipeline.RegionSeg.ofHeldIn (pcfgs (F := F)) Gen.adm (pd m) () defs₀ Variants.none Lv lv 1 0 (Pipeline.ucRefs τ sig) (fun _ => iprop(emp)) (fun _ => iprop(emp))
    launch1.toP rfl (fun c => (body_obligation1 m c).loose) (fun _ _ => rfl) (fun _ => rfl) (fun c => (dat1 m c).share_full fun _ => rfl)
    (fun c => hin1 m c) (fun c => hout1 m c)
    (fun _ => 0) (cut 1) (fun _ => iprop(emp)) (fun c => Gen.V3 m (outs0 m) c) (fun c w => A1_eq m c w)

theorem arrRefs_sub0 : Pipeline.arrRefs (τ := τ) spec0 ⊆ Pipeline.ucRefs τ sig := by decide
theorem arrRefs_sub1 : Pipeline.arrRefs (τ := τ) spec1 ⊆ Pipeline.ucRefs τ sig := by decide

theorem arr_sub0 : Pipeline.arrRefs (τ := τ) ((pcfgs (F := F)) 0).spec ⊆ Pipeline.ucRefs τ sig := by
  rw [show Pipeline.arrRefs (τ := τ) ((pcfgs (F := F)) 0).spec = Pipeline.arrRefs (τ := τ) spec0 from rfl]; exact arrRefs_sub0
theorem arr_sub1 : Pipeline.arrRefs (τ := τ) ((pcfgs (F := F)) 1).spec ⊆ Pipeline.ucRefs τ sig := by
  rw [show Pipeline.arrRefs (τ := τ) ((pcfgs (F := F)) 1).spec = Pipeline.arrRefs (τ := τ) spec1 from rfl]; exact arrRefs_sub1

/-- Every window of the dequantisation but the last two is read only. -/
theorem outRef0 : ∀ w : Fin cfg0.W, Pipeline.arrRef spec0 w ∉ ([main_v4_0, main_v4_1] : List (Ref sig .tc)) → (cfg0.win w).isOut = false := by decide
/-- Every window of the attention but the last three is read only. -/
theorem outRef1 : ∀ w : Fin cfg1.W, Pipeline.arrRef spec1 w ∉ ([main_v17_0, main_v17_1, main_v17_2] : List (Ref sig .tc)) → (cfg1.win w).isOut = false := by decide

theorem ne_of (r s : Ref sig .tc) (h : r ≠ s) : (Proc.devRef .tc r : DevRef τ sig) ≠ Proc.devRef .tc s := StableHlo.devRef_ne_of_ne h
theorem outs_two (r : Ref sig .tc) (c : Dev nD) : outs m 2 r c = W2 m c (Proc.devRef .tc r) := rfl
theorem outs_four (r : Ref sig .tc) (c : Dev nD) : outs m 4 r c = W4 m c (Proc.devRef .tc r) := rfl

/-- The buffers after the dequantisation, an array at a time. -/
theorem W2_eq (c : Dev nD) (r : Ref sig .tc) : W2 m c (Proc.devRef .tc r) = Gen.V2 m (outs m) c (Proc.devRef .tc r) := by
  by_cases h : r ∈ ([main_v4_0, main_v4_1] : List (Ref sig .tc))
  · simp only [List.mem_cons, List.mem_singleton, List.not_mem_nil, or_false] at h
    rcases h with rfl | rfl
    · simp only [Gen.V2, Function.update_self, Function.update_of_ne (ne_of main_v4_0 main_v4_1 (by decide)), outs_two]
    · simp only [Gen.V2, Function.update_self, outs_two]
  · rw [Gen.V2_of m (outs m) c r h]
    exact Pipeline.afterRegion_keeps (dat0 m c) (Gen.V1 m c) launch0.win.arr_inj (fun w => A0_eq m c w) r (fun w e => outRef0 w (e ▸ h))

theorem V3_outs (c : Dev nD) : Gen.V3 m (outs m) c = Gen.V3 m (outs0 m) c := rfl

/-- The buffers after the attention, an array at a time. -/
theorem W4_eq (c : Dev nD) (r : Ref sig .tc) : W4 m c (Proc.devRef .tc r) = Gen.V4 m (outs m) c (Proc.devRef .tc r) := by
  by_cases h : r ∈ ([main_v17_0, main_v17_1, main_v17_2] : List (Ref sig .tc))
  · simp only [List.mem_cons, List.mem_singleton, List.not_mem_nil, or_false] at h
    rcases h with rfl | rfl | rfl
    · simp only [Gen.V4, Function.update_self, Function.update_of_ne (ne_of main_v17_0 main_v17_1 (by decide)), Function.update_of_ne (ne_of main_v17_0 main_v17_2 (by decide)), outs_four]
    · simp only [Gen.V4, Function.update_self, Function.update_of_ne (ne_of main_v17_1 main_v17_2 (by decide)), outs_four]
    · simp only [Gen.V4, Function.update_self, outs_four]
  · rw [Gen.V4_of m (outs m) c r h, V3_outs]
    exact Pipeline.afterRegion_keeps (dat1 m c) (Gen.V3 m (outs0 m) c) launch1.win.arr_inj (fun w => A1_eq m c w) r (fun w e => outRef1 w (e ▸ h))

theorem uc_tc (b : DevRef τ sig) (h : b ∈ Pipeline.ucRefs τ sig) : ∃ r : Ref sig .tc, b = Proc.devRef .tc r := by
  have := (Finset.mem_filter.mp h).1
  simp only [StableHlo.tcRefs, Finset.mem_map, Finset.mem_univ, true_and] at this
  obtain ⟨r, e⟩ := this
  exact ⟨r, e.symm⟩

theorem hpre0 (c : Dev nD) : iprop(StableHlo.held (c : Thread nD τ) (Pipeline.ucRefs τ sig) (Gen.V1 m c) ∗ EE c) ⊢ (R0 m).pre c := by
  unfold R0
  exact Pipeline.RegionSeg.ofHeldIn_pre (pcs := pcfgs (F := F)) (a := Gen.adm) (pdats := pd m) (ι := ()) (defs₀ := defs₀) (𝒱₀ := Variants.none) (L := Lv) (lv := lv) (p := 0) (D := (0 : Dev nD → CellTallies nD τ sig Unit)) (S := Pipeline.ucRefs τ sig) (X := fun _ => iprop(emp)) (Y := fun _ => iprop(emp)) (R := fun _ => iprop(emp)) (W := fun c => Gen.V1 m c) (arr_sub0 (F := F)) c
theorem W2_pd (c : Dev nD) : afterRegion (pd m 0 c) (Gen.V1 m c) = W2 m c := by unfold W2; rfl
theorem held0 (c : Dev nD) : (StableHlo.held (c : Thread nD τ) (Pipeline.ucRefs τ sig) (W2 m c) : sProp 𝕄)
    = StableHlo.held (c : Thread nD τ) (Pipeline.ucRefs τ sig) (Gen.V2 m (outs m) c) :=
  StableHlo.held_congr (c : Thread nD τ) (fun b hb => by
    obtain ⟨r, rfl⟩ := uc_tc b hb
    exact W2_eq m c r)
theorem hpost0' (c : Dev nD) : (R0 m).post c ⊢ iprop(StableHlo.held (c : Thread nD τ) (Pipeline.ucRefs τ sig) (afterRegion (pd m 0 c) (Gen.V1 m c)) ∗ EE c) := by
  unfold R0
  exact Pipeline.RegionSeg.ofHeldIn_post (W := fun c => Gen.V1 m c) (arr_sub0 (F := F)) c
theorem hpost0 (c : Dev nD) : (R0 m).post c ⊢ iprop(StableHlo.held (c : Thread nD τ) (Pipeline.ucRefs τ sig) (Gen.V2 m (outs m) c) ∗ EE c) := by
  rw [← held0, ← W2_pd]
  exact hpost0' m c

theorem hpre1 (c : Dev nD) : iprop(StableHlo.held (c : Thread nD τ) (Pipeline.ucRefs τ sig) (Gen.V3 m (outs m) c) ∗ EE c) ⊢ (R1 m).pre c := by
  unfold R1
  exact Pipeline.RegionSeg.ofHeldIn_pre (pcs := pcfgs (F := F)) (a := Gen.adm) (pdats := pd m) (ι := ()) (defs₀ := defs₀) (𝒱₀ := Variants.none) (L := Lv) (lv := lv) (p := 1) (D := (0 : Dev nD → CellTallies nD τ sig Unit)) (S := Pipeline.ucRefs τ sig) (X := fun _ => iprop(emp)) (Y := fun _ => iprop(emp)) (R := fun _ => iprop(emp)) (W := fun c => Gen.V3 m (outs0 m) c) (arr_sub1 (F := F)) c
theorem W4_pd (c : Dev nD) : afterRegion (pd m 1 c) (Gen.V3 m (outs0 m) c) = W4 m c := by unfold W4; rfl
theorem held1 (c : Dev nD) : (StableHlo.held (c : Thread nD τ) (Pipeline.ucRefs τ sig) (W4 m c) : sProp 𝕄)
    = StableHlo.held (c : Thread nD τ) (Pipeline.ucRefs τ sig) (Gen.V4 m (outs m) c) :=
  StableHlo.held_congr (c : Thread nD τ) (fun b hb => by
    obtain ⟨r, rfl⟩ := uc_tc b hb
    exact W4_eq m c r)
theorem hpost1' (c : Dev nD) : (R1 m).post c ⊢ iprop(StableHlo.held (c : Thread nD τ) (Pipeline.ucRefs τ sig) (afterRegion (pd m 1 c) (Gen.V3 m (outs0 m) c)) ∗ EE c) := by
  unfold R1
  exact Pipeline.RegionSeg.ofHeldIn_post (W := fun c => Gen.V3 m (outs0 m) c) (arr_sub1 (F := F)) c
theorem hpost1 (c : Dev nD) : (R1 m).post c ⊢ iprop(StableHlo.held (c : Thread nD τ) (Pipeline.ucRefs τ sig) (Gen.V4 m (outs m) c) ∗ EE c) := by
  rw [← held1, ← W4_pd]
  exact hpost1' m c

theorem hE0c (c : Dev nD) : (iprop(unscopedSems0 c ∗ owes (c : Thread nD τ) ((0 : Dev nD → CellTallies nD τ sig Unit) c) ∅ ∗ Pipeline.launchCred (0 : Dev nD → CellTallies nD τ sig Unit) c ∗ prngReg c (ρ c) ∗ emp) : sProp 𝕄)
    ⊢ EE (F := F) c := by
  iintro ⟨-, H, -⟩
  isplitl [H]; · iexists _; iexact H
  isplitl []; · iempintro
  iempintro

theorem hE0' : (bigSep Finset.univ (fun c : Dev nD => (iprop(unscopedSems0 c ∗ owes (c : Thread nD τ) ((0 : Dev nD → CellTallies nD τ sig Unit) c) ∅ ∗ Pipeline.launchCred (0 : Dev nD → CellTallies nD τ sig Unit) c ∗ prngReg c (ρ c) ∗ emp) : sProp 𝕄)) : sProp 𝕄)
    ⊢ (bigSep Finset.univ (fun c : Dev nD => EE (F := F) c) : sProp 𝕄) :=
  bigSep_mono fun c _ => hE0c ρ c

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp)) ∗ levAts Lv lv)
      ⊢ (|={Set.univ}=> bigSep Finset.univ (fun c : Dev nD => EE (F := F) c) : sProp 𝕄) := by
  iintro ⟨H, -⟩
  imodintro
  iapply (hE0' ρ)
  iexact H

theorem glue (P Q : Dev nD → sProp 𝕄) : iprop((bigSep Finset.univ fun c => P c) ∗ (bigSep Finset.univ fun c => Q c)) ⊢ (bigSep Finset.univ fun c => iprop(P c ∗ Q c)) :=
  Entails.of_eq (bigSep_sep' ..).symm

theorem hE2 (c : Dev nD) : EE c ⊢ (iprop(∃ W, owes (c : Thread nD τ) (0 : CellTallies nD τ sig Unit) W) : sProp 𝕄) := by
  iintro ⟨H, -⟩; iexact H

theorem emp_big : (iprop(emp) : sProp 𝕄) ⊢ bigSep Finset.univ (fun _ : Dev nD => (iprop(emp) : sProp 𝕄)) := by
  exact Entails.of_eq (bigSep_emp_const _).symm

theorem hu₀ : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj))) ∗ bigSep Finset.univ (fun _ : Dev nD => (iprop(emp) : sProp 𝕄))) := by
  rw [ownU_emb₁ (nD := nD) (τ := τ) (sig := sig) (Ix := Unit) (Val := Elt F) (Name := ℕ) (Lvl := ℕ)]
  iintro H
  imodintro
  isplitl [H]; · iexact H
  iapply emp_big
  iempintro

end Cert.KernelIdeal.Hand

end
-- ==== Proof.KI.Run.lean ====
/-
  The whole program (`KernelIdeal`) runs: its arguments are unchanged, its results at the last valuation, and every
  counter at zero.
-/
module

public import proofs.«01_k».proof.Proof.KI.Records

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg PLaunchFacts LevelCut Dat Cfg Window BodyObligation cellOf RegionSeg afterRegion)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs to its end: its arguments as launched, its three results at the last valuation, every counter at zero. -/
theorem run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_v17_0) = Gen.V5 m (outs m) c main_v17_0
      ∧ r.2.mem ((c.tc : Thread nD τ).loc main_v19) = Gen.V5 m (outs m) c main_v19
      ∧ r.2.mem ((c.tc : Thread nD τ).loc main_v21) = Gen.V5 m (outs m) c main_v21)
      ∧ r.2.sem = fun _ => 0) := by
  refine Pipeline.θ_run_regions_kit_dev_sems (pcfgs (F := F)) Gen.adm (pd m) () cellOf_inj emb₁ defs₀ Variants.none Lv lv m ρ main
    (Gen.segs m (outs m) Variants.none Lv lv (fun _ => EE) () (pd m) (R0 m) (R1 m))
    (fun c Q => by
      rewrite [main_chain c, Pipeline.Seg.run_eq_chain,
        show (Gen.segs m (outs m) Variants.none Lv lv (fun _ => EE) () (pd m) (R0 m) (R1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) (0 : Dev nD → CellTallies nD τ sig Unit) hL (fun _ => iprop(emp)) (initOf (Pipeline.cells cfgs cellOf_inj) (Pipeline.launchToks cfgs cellOf_inj)) hu₀
    (T₀ := fun c => iprop(StableHlo.held (c : Thread nD τ) (Pipeline.ucRefs τ sig) (Gen.V0 m c) ∗ EE c))
    (Tₙ := fun c => StableHlo.held (c : Thread nD τ) (Pipeline.ucRefs τ sig) (Gen.V5 m (outs m) c))
    (hch := fun c => ⟨.rfl, hpre0 m c, hpost0 m c, hpre1 m c, hpost1 m c, sep_mono .rfl (hE2 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_v17_0) = Gen.V5 m (outs m) c main_v17_0 ∧ s.mem ((c.tc : Thread nD τ).loc main_v19) = Gen.V5 m (outs m) c main_v19 ∧ s.mem ((c.tc : Thread nD τ).loc main_v21) = Gen.V5 m (outs m) c main_v21)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ emp))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    iapply (glue (fun c => StableHlo.held (c : Thread nD τ) (Pipeline.ucRefs τ sig) (Gen.V0 m c)) (fun c => EE c))
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c),
        (h (Proc.devRef .tc main_arg4) (Finset.mem_filter.mpr ⟨StableHlo.devRef_mem_tcRefs main_arg4, by decide⟩)).trans (Gen.V5_main_arg4 m (outs m) c),
        (h (Proc.devRef .tc main_arg5) (Finset.mem_filter.mpr ⟨StableHlo.devRef_mem_tcRefs main_arg5, by decide⟩)).trans (Gen.V5_main_arg5 m (outs m) c),
        (h (Proc.devRef .tc main_arg6) (Finset.mem_filter.mpr ⟨StableHlo.devRef_mem_tcRefs main_arg6, by decide⟩)).trans (Gen.V5_main_arg6 m (outs m) c),
        (h (Proc.devRef .tc main_arg7) (Finset.mem_filter.mpr ⟨StableHlo.devRef_mem_tcRefs main_arg7, by decide⟩)).trans (Gen.V5_main_arg7 m (outs m) c),
        (h (Proc.devRef .tc main_arg8) (Finset.mem_filter.mpr ⟨StableHlo.devRef_mem_tcRefs main_arg8, by decide⟩)).trans (Gen.V5_main_arg8 m (outs m) c),
        (h (Proc.devRef .tc main_arg9) (Finset.mem_filter.mpr ⟨StableHlo.devRef_mem_tcRefs main_arg9, by decide⟩)).trans (Gen.V5_main_arg9 m (outs m) c),
        h (Proc.devRef .tc main_v17_0) (Finset.mem_filter.mpr ⟨StableHlo.devRef_mem_tcRefs main_v17_0, by decide⟩),
        h (Proc.devRef .tc main_v19) (Finset.mem_filter.mpr ⟨StableHlo.devRef_mem_tcRefs main_v19, by decide⟩),
        h (Proc.devRef .tc main_v21) (Finset.mem_filter.mpr ⟨StableHlo.devRef_mem_tcRefs main_v21, by decide⟩)⟩
    · iexact HSI

end Cert.KernelIdeal.Hand

end
-- ==== Proof.Value.Block0.lean ====
/-
The dequantisation's two blocks, element by element: a code times its scale.
-/
module

public import proofs.«01_k».proof.Proof.KI.Dequant
public import Idealize.ShloMosaic.Lib.Pipeline.Value
public import Idealize.ShloMosaic.Lib.Pipeline.ValueKit.Geometry
public import Idealize.ShloMosaic.Lib.Pointwise

@[expose] public section

set_option maxRecDepth 16384

noncomputable section

namespace Cert.Value

open Idealize.ShloMosaic
open Cert.KernelIdeal Cert.KernelIdeal.Gen Cert.KernelIdeal.Hand

theorem ix2_congr {n m : ℕ} {a a' : Fin n} {b b' : Fin m} (ha : a.1 = a'.1) (hb : b.1 = b'.1) : ix2 a b = ix2 a' b' := by
  rw [Fin.ext ha, Fin.ext hb]

/-- The keys' block. -/
def G4 (x2 : Vec Ideal S1024x128 .fp8e4m3) (x3 : Vec Ideal S8x128 .f32) (y : S1x1024x128.Idx) : EReal :=
  HMul.hMul (α := EReal) (β := EReal) (x2 (ix2 (y 1) (y 2))) (x3 (ix2 (⟨(y 1).1 / 128, by have : (y 1).1 < 1024 := (y 1).2; omega⟩ : Fin 8) (y 2)))

/-- The values' block. -/
def G5 (x4 : Vec Ideal S1024x128 .fp8e4m3) (x5 : Vec Ideal S8x128 .f32) (y : S1x128x1024.Idx) : EReal :=
  HMul.hMul (α := EReal) (β := EReal) (x4 (ix2 (y 2) (y 1))) (x5 (ix2 (⟨(y 2).1 / 128, by have : (y 2).1 < 1024 := (y 2).2; omega⟩ : Fin 8) (y 1)))

theorem out0_4_apply (x2 : Vec Ideal S1024x128 .fp8e4m3) (x3 : Vec Ideal S8x128 .f32) (y : S1x1024x128.Idx) :
    out0_4 x2 x3 y = G4 x2 x3 y := by
  refine View.canon_apply_of_pieces (Val := Elt Ideal) (e := .bf16) (G4 x2 x3) (pcs0_4 x2 x3) ?_ y (cover0_4 x2 x3 y)
  intro p hp i
  simp only [pcs0_4, List.mem_cons, List.mem_nil_iff, or_false] at hp
  rcases hp with rfl | rfl | rfl | rfl | rfl | rfl | rfl | rfl
  · idx_vars i
    have h1 : ((Rect.unit (s := S1x1024x128) ![0, 896, 0] ![1, 128, 128] inb_S1x1024x128_S1x128x128_0_896_0).emb (ix3 i0 i1 i2) 1 : ℕ) = 896 + i1.1 :=
      ValueKit.rect_emb_unit_val (s := S1x1024x128) ![0, 896, 0] ![1, 128, 128] _ _ 1
    have h2 : ((Rect.unit (s := S1x1024x128) ![0, 896, 0] ![1, 128, 128] inb_S1x1024x128_S1x128x128_0_896_0).emb (ix3 i0 i1 i2) 2 : ℕ) = 0 + i2.1 :=
      ValueKit.rect_emb_unit_val (s := S1x1024x128) ![0, 896, 0] ![1, 128, 128] _ _ 2
    pointwise [k0_pay17]
    generalize (Rect.unit (s := S1x1024x128) ![0, 896, 0] ![1, 128, 128] inb_S1x1024x128_S1x128x128_0_896_0).emb (ix3 i0 i1 i2) = z at h1 h2 ⊢
    refine congrArg₂ (HMul.hMul (α := EReal) (β := EReal)) (congrArg x2 (ix2_congr ?_ ?_)) (congrArg x3 (ix2_congr ?_ ?_))
    all_goals first | exact h1.symm | exact h2.symm | exact (h1.trans (Nat.zero_add _)).symm | exact (h2.trans (Nat.zero_add _)).symm | (show _ = (z 1 : ℕ) / 128; rw [h1]; dsimp; omega) | (show _ = (z 2 : ℕ) / 128; rw [h2]; dsimp; omega)
  · idx_vars i
    have h1 : ((Rect.unit (s := S1x1024x128) ![0, 768, 0] ![1, 128, 128] inb_S1x1024x128_S1x128x128_0_768_0).emb (ix3 i0 i1 i2) 1 : ℕ) = 768 + i1.1 :=
      ValueKit.rect_emb_unit_val (s := S1x1024x128) ![0, 768, 0] ![1, 128, 128] _ _ 1
    have h2 : ((Rect.unit (s := S1x1024x128) ![0, 768, 0] ![1, 128, 128] inb_S1x1024x128_S1x128x128_0_768_0).emb (ix3 i0 i1 i2) 2 : ℕ) = 0 + i2.1 :=
      ValueKit.rect_emb_unit_val (s := S1x1024x128) ![0, 768, 0] ![1, 128, 128] _ _ 2
    pointwise [k0_pay15, k0_pay14]
    generalize (Rect.unit (s := S1x1024x128) ![0, 768, 0] ![1, 128, 128] inb_S1x1024x128_S1x128x128_0_768_0).emb (ix3 i0 i1 i2) = z at h1 h2 ⊢
    refine congrArg₂ (HMul.hMul (α := EReal) (β := EReal)) (congrArg x2 (ix2_congr ?_ ?_)) (congrArg x3 (ix2_congr ?_ ?_))
    all_goals first | exact h1.symm | exact h2.symm | exact (h1.trans (Nat.zero_add _)).symm | exact (h2.trans (Nat.zero_add _)).symm | (show _ = (z 1 : ℕ) / 128; rw [h1]; dsimp; omega) | (show _ = (z 2 : ℕ) / 128; rw [h2]; dsimp; omega)
  · idx_vars i
    have h1 : ((Rect.unit (s := S1x1024x128) ![0, 640, 0] ![1, 128, 128] inb_S1x1024x128_S1x128x128_0_640_0).emb (ix3 i0 i1 i2) 1 : ℕ) = 640 + i1.1 :=
      ValueKit.rect_emb_unit_val (s := S1x1024x128) ![0, 640, 0] ![1, 128, 128] _ _ 1
    have h2 : ((Rect.unit (s := S1x1024x128) ![0, 640, 0] ![1, 128, 128] inb_S1x1024x128_S1x128x128_0_640_0).emb (ix3 i0 i1 i2) 2 : ℕ) = 0 + i2.1 :=
      ValueKit.rect_emb_unit_val (s := S1x1024x128) ![0, 640, 0] ![1, 128, 128] _ _ 2
    pointwise [k0_pay12]
    generalize (Rect.unit (s := S1x1024x128) ![0, 640, 0] ![1, 128, 128] inb_S1x1024x128_S1x128x128_0_640_0).emb (ix3 i0 i1 i2) = z at h1 h2 ⊢
    refine congrArg₂ (HMul.hMul (α := EReal) (β := EReal)) (congrArg x2 (ix2_congr ?_ ?_)) (congrArg x3 (ix2_congr ?_ ?_))
    all_goals first | exact h1.symm | exact h2.symm | exact (h1.trans (Nat.zero_add _)).symm | exact (h2.trans (Nat.zero_add _)).symm | (show _ = (z 1 : ℕ) / 128; rw [h1]; dsimp; omega) | (show _ = (z 2 : ℕ) / 128; rw [h2]; dsimp; omega)
  · idx_vars i
    have h1 : ((Rect.unit (s := S1x1024x128) ![0, 512, 0] ![1, 128, 128] inb_S1x1024x128_S1x128x128_0_512_0).emb (ix3 i0 i1 i2) 1 : ℕ) = 512 + i1.1 :=
      ValueKit.rect_emb_unit_val (s := S1x1024x128) ![0, 512, 0] ![1, 128, 128] _ _ 1
    have h2 : ((Rect.unit (s := S1x1024x128) ![0, 512, 0] ![1, 128, 128] inb_S1x1024x128_S1x128x128_0_512_0).emb (ix3 i0 i1 i2) 2 : ℕ) = 0 + i2.1 :=
      ValueKit.rect_emb_unit_val (s := S1x1024x128) ![0, 512, 0] ![1, 128, 128] _ _ 2
    pointwise [k0_pay10]
    generalize (Rect.unit (s := S1x1024x128) ![0, 512, 0] ![1, 128, 128] inb_S1x1024x128_S1x128x128_0_512_0).emb (ix3 i0 i1 i2) = z at h1 h2 ⊢
    refine congrArg₂ (HMul.hMul (α := EReal) (β := EReal)) (congrArg x2 (ix2_congr ?_ ?_)) (congrArg x3 (ix2_congr ?_ ?_))
    all_goals first | exact h1.symm | exact h2.symm | exact (h1.trans (Nat.zero_add _)).symm | exact (h2.trans (Nat.zero_add _)).symm | (show _ = (z 1 : ℕ) / 128; rw [h1]; dsimp; omega) | (show _ = (z 2 : ℕ) / 128; rw [h2]; dsimp; omega)
  · idx_vars i
    have h1 : ((Rect.unit (s := S1x1024x128) ![0, 384, 0] ![1, 128, 128] inb_S1x1024x128_S1x128x128_0_384_0).emb (ix3 i0 i1 i2) 1 : ℕ) = 384 + i1.1 :=
      ValueKit.rect_emb_unit_val (s := S1x1024x128) ![0, 384, 0] ![1, 128, 128] _ _ 1
    have h2 : ((Rect.unit (s := S1x1024x128) ![0, 384, 0] ![1, 128, 128] inb_S1x1024x128_S1x128x128_0_384_0).emb (ix3 i0 i1 i2) 2 : ℕ) = 0 + i2.1 :=
      ValueKit.rect_emb_unit_val (s := S1x1024x128) ![0, 384, 0] ![1, 128, 128] _ _ 2
    pointwise [k0_pay8]
    generalize (Rect.unit (s := S1x1024x128) ![0, 384, 0] ![1, 128, 128] inb_S1x1024x128_S1x128x128_0_384_0).emb (ix3 i0 i1 i2) = z at h1 h2 ⊢
    refine congrArg₂ (HMul.hMul (α := EReal) (β := EReal)) (congrArg x2 (ix2_congr ?_ ?_)) (congrArg x3 (ix2_congr ?_ ?_))
    all_goals first | exact h1.symm | exact h2.symm | exact (h1.trans (Nat.zero_add _)).symm | exact (h2.trans (Nat.zero_add _)).symm | (show _ = (z 1 : ℕ) / 128; rw [h1]; dsimp; omega) | (show _ = (z 2 : ℕ) / 128; rw [h2]; dsimp; omega)
  · idx_vars i
    have h1 : ((Rect.unit (s := S1x1024x128) ![0, 256, 0] ![1, 128, 128] inb_S1x1024x128_S1x128x128_0_256_0).emb (ix3 i0 i1 i2) 1 : ℕ) = 256 + i1.1 :=
      ValueKit.rect_emb_unit_val (s := S1x1024x128) ![0, 256, 0] ![1, 128, 128] _ _ 1
    have h2 : ((Rect.unit (s := S1x1024x128) ![0, 256, 0] ![1, 128, 128] inb_S1x1024x128_S1x128x128_0_256_0).emb (ix3 i0 i1 i2) 2 : ℕ) = 0 + i2.1 :=
      ValueKit.rect_emb_unit_val (s := S1x1024x128) ![0, 256, 0] ![1, 128, 128] _ _ 2
    pointwise [k0_pay6]
    generalize (Rect.unit (s := S1x1024x128) ![0, 256, 0] ![1, 128, 128] inb_S1x1024x128_S1x128x128_0_256_0).emb (ix3 i0 i1 i2) = z at h1 h2 ⊢
    refine congrArg₂ (HMul.hMul (α := EReal) (β := EReal)) (congrArg x2 (ix2_congr ?_ ?_)) (congrArg x3 (ix2_congr ?_ ?_))
    all_goals first | exact h1.symm | exact h2.symm | exact (h1.trans (Nat.zero_add _)).symm | exact (h2.trans (Nat.zero_add _)).symm | (show _ = (z 1 : ℕ) / 128; rw [h1]; dsimp; omega) | (show _ = (z 2 : ℕ) / 128; rw [h2]; dsimp; omega)
  · idx_vars i
    have h1 : ((Rect.unit (s := S1x1024x128) ![0, 128, 0] ![1, 128, 128] inb_S1x1024x128_S1x128x128_0_128_0).emb (ix3 i0 i1 i2) 1 : ℕ) = 128 + i1.1 :=
      ValueKit.rect_emb_unit_val (s := S1x1024x128) ![0, 128, 0] ![1, 128, 128] _ _ 1
    have h2 : ((Rect.unit (s := S1x1024x128) ![0, 128, 0] ![1, 128, 128] inb_S1x1024x128_S1x128x128_0_128_0).emb (ix3 i0 i1 i2) 2 : ℕ) = 0 + i2.1 :=
      ValueKit.rect_emb_unit_val (s := S1x1024x128) ![0, 128, 0] ![1, 128, 128] _ _ 2
    pointwise [k0_pay4]
    generalize (Rect.unit (s := S1x1024x128) ![0, 128, 0] ![1, 128, 128] inb_S1x1024x128_S1x128x128_0_128_0).emb (ix3 i0 i1 i2) = z at h1 h2 ⊢
    refine congrArg₂ (HMul.hMul (α := EReal) (β := EReal)) (congrArg x2 (ix2_congr ?_ ?_)) (congrArg x3 (ix2_congr ?_ ?_))
    all_goals first | exact h1.symm | exact h2.symm | exact (h1.trans (Nat.zero_add _)).symm | exact (h2.trans (Nat.zero_add _)).symm | (show _ = (z 1 : ℕ) / 128; rw [h1]; dsimp; omega) | (show _ = (z 2 : ℕ) / 128; rw [h2]; dsimp; omega)
  · idx_vars i
    have h1 : ((Rect.unit (s := S1x1024x128) ![0, 0, 0] ![1, 128, 128] inb_S1x1024x128_S1x128x128_0_0_0).emb (ix3 i0 i1 i2) 1 : ℕ) = 0 + i1.1 :=
      ValueKit.rect_emb_unit_val (s := S1x1024x128) ![0, 0, 0] ![1, 128, 128] _ _ 1
    have h2 : ((Rect.unit (s := S1x1024x128) ![0, 0, 0] ![1, 128, 128] inb_S1x1024x128_S1x128x128_0_0_0).emb (ix3 i0 i1 i2) 2 : ℕ) = 0 + i2.1 :=
      ValueKit.rect_emb_unit_val (s := S1x1024x128) ![0, 0, 0] ![1, 128, 128] _ _ 2
    pointwise [k0_pay2]
    generalize (Rect.unit (s := S1x1024x128) ![0, 0, 0] ![1, 128, 128] inb_S1x1024x128_S1x128x128_0_0_0).emb (ix3 i0 i1 i2) = z at h1 h2 ⊢
    refine congrArg₂ (HMul.hMul (α := EReal) (β := EReal)) (congrArg x2 (ix2_congr ?_ ?_)) (congrArg x3 (ix2_congr ?_ ?_))
    all_goals first | exact h1.symm | exact h2.symm | exact (h1.trans (Nat.zero_add _)).symm | exact (h2.trans (Nat.zero_add _)).symm | (show _ = (z 1 : ℕ) / 128; rw [h1]; dsimp; omega) | (show _ = (z 2 : ℕ) / 128; rw [h2]; dsimp; omega)

theorem out0_5_apply (x4 : Vec Ideal S1024x128 .fp8e4m3) (x5 : Vec Ideal S8x128 .f32) (y : S1x128x1024.Idx) :
    out0_5 x4 x5 y = G5 x4 x5 y := by
  refine View.canon_apply_of_pieces (Val := Elt Ideal) (e := .bf16) (G5 x4 x5) (pcs0_5 x4 x5) ?_ y (cover0_5 x4 x5 y)
  intro p hp i
  simp only [pcs0_5, List.mem_cons, List.mem_nil_iff, or_false] at hp
  rcases hp with rfl | rfl | rfl | rfl | rfl | rfl | rfl | rfl
  · idx_vars i
    have h1 : ((Rect.unit (s := S1x128x1024) ![0, 0, 896] ![1, 128, 128] inb_S1x128x1024_S1x128x128_0_0_896).emb (ix3 i0 i1 i2) 1 : ℕ) = 0 + i1.1 :=
      ValueKit.rect_emb_unit_val (s := S1x128x1024) ![0, 0, 896] ![1, 128, 128] _ _ 1
    have h2 : ((Rect.unit (s := S1x128x1024) ![0, 0, 896] ![1, 128, 128] inb_S1x128x1024_S1x128x128_0_0_896).emb (ix3 i0 i1 i2) 2 : ℕ) = 896 + i2.1 :=
      ValueKit.rect_emb_unit_val (s := S1x128x1024) ![0, 0, 896] ![1, 128, 128] _ _ 2
    pointwise [k0_pay1, k0_pay18]
    generalize (Rect.unit (s := S1x128x1024) ![0, 0, 896] ![1, 128, 128] inb_S1x128x1024_S1x128x128_0_0_896).emb (ix3 i0 i1 i2) = z at h1 h2 ⊢
    refine congrArg₂ (HMul.hMul (α := EReal) (β := EReal)) (congrArg x4 (ix2_congr ?_ ?_)) (congrArg x5 (ix2_congr ?_ ?_))
    all_goals first | exact h1.symm | exact h2.symm | exact (h1.trans (Nat.zero_add _)).symm | exact (h2.trans (Nat.zero_add _)).symm | (show _ = (z 1 : ℕ) / 128; rw [h1]; dsimp; omega) | (show _ = (z 2 : ℕ) / 128; rw [h2]; dsimp; omega)
  · idx_vars i
    have h1 : ((Rect.unit (s := S1x128x1024) ![0, 0, 768] ![1, 128, 128] inb_S1x128x1024_S1x128x128_0_0_768).emb (ix3 i0 i1 i2) 1 : ℕ) = 0 + i1.1 :=
      ValueKit.rect_emb_unit_val (s := S1x128x1024) ![0, 0, 768] ![1, 128, 128] _ _ 1
    have h2 : ((Rect.unit (s := S1x128x1024) ![0, 0, 768] ![1, 128, 128] inb_S1x128x1024_S1x128x128_0_0_768).emb (ix3 i0 i1 i2) 2 : ℕ) = 768 + i2.1 :=
      ValueKit.rect_emb_unit_val (s := S1x128x1024) ![0, 0, 768] ![1, 128, 128] _ _ 2
    pointwise [k0_pay16]
    generalize (Rect.unit (s := S1x128x1024) ![0, 0, 768] ![1, 128, 128] inb_S1x128x1024_S1x128x128_0_0_768).emb (ix3 i0 i1 i2) = z at h1 h2 ⊢
    refine congrArg₂ (HMul.hMul (α := EReal) (β := EReal)) (congrArg x4 (ix2_congr ?_ ?_)) (congrArg x5 (ix2_congr ?_ ?_))
    all_goals first | exact h1.symm | exact h2.symm | exact (h1.trans (Nat.zero_add _)).symm | exact (h2.trans (Nat.zero_add _)).symm | (show _ = (z 1 : ℕ) / 128; rw [h1]; dsimp; omega) | (show _ = (z 2 : ℕ) / 128; rw [h2]; dsimp; omega)
  · idx_vars i
    have h1 : ((Rect.unit (s := S1x128x1024) ![0, 0, 640] ![1, 128, 128] inb_S1x128x1024_S1x128x128_0_0_640).emb (ix3 i0 i1 i2) 1 : ℕ) = 0 + i1.1 :=
      ValueKit.rect_emb_unit_val (s := S1x128x1024) ![0, 0, 640] ![1, 128, 128] _ _ 1
    have h2 : ((Rect.unit (s := S1x128x1024) ![0, 0, 640] ![1, 128, 128] inb_S1x128x1024_S1x128x128_0_0_640).emb (ix3 i0 i1 i2) 2 : ℕ) = 640 + i2.1 :=
      ValueKit.rect_emb_unit_val (s := S1x128x1024) ![0, 0, 640] ![1, 128, 128] _ _ 2
    pointwise [k0_pay13]
    generalize (Rect.unit (s := S1x128x1024) ![0, 0, 640] ![1, 128, 128] inb_S1x128x1024_S1x128x128_0_0_640).emb (ix3 i0 i1 i2) = z at h1 h2 ⊢
    refine congrArg₂ (HMul.hMul (α := EReal) (β := EReal)) (congrArg x4 (ix2_congr ?_ ?_)) (congrArg x5 (ix2_congr ?_ ?_))
    all_goals first | exact h1.symm | exact h2.symm | exact (h1.trans (Nat.zero_add _)).symm | exact (h2.trans (Nat.zero_add _)).symm | (show _ = (z 1 : ℕ) / 128; rw [h1]; dsimp; omega) | (show _ = (z 2 : ℕ) / 128; rw [h2]; dsimp; omega)
  · idx_vars i
    have h1 : ((Rect.unit (s := S1x128x1024) ![0, 0, 512] ![1, 128, 128] inb_S1x128x1024_S1x128x128_0_0_512).emb (ix3 i0 i1 i2) 1 : ℕ) = 0 + i1.1 :=
      ValueKit.rect_emb_unit_val (s := S1x128x1024) ![0, 0, 512] ![1, 128, 128] _ _ 1
    have h2 : ((Rect.unit (s := S1x128x1024) ![0, 0, 512] ![1, 128, 128] inb_S1x128x1024_S1x128x128_0_0_512).emb (ix3 i0 i1 i2) 2 : ℕ) = 512 + i2.1 :=
      ValueKit.rect_emb_unit_val (s := S1x128x1024) ![0, 0, 512] ![1, 128, 128] _ _ 2
    pointwise [k0_pay11]
    generalize (Rect.unit (s := S1x128x1024) ![0, 0, 512] ![1, 128, 128] inb_S1x128x1024_S1x128x128_0_0_512).emb (ix3 i0 i1 i2) = z at h1 h2 ⊢
    refine congrArg₂ (HMul.hMul (α := EReal) (β := EReal)) (congrArg x4 (ix2_congr ?_ ?_)) (congrArg x5 (ix2_congr ?_ ?_))
    all_goals first | exact h1.symm | exact h2.symm | exact (h1.trans (Nat.zero_add _)).symm | exact (h2.trans (Nat.zero_add _)).symm | (show _ = (z 1 : ℕ) / 128; rw [h1]; dsimp; omega) | (show _ = (z 2 : ℕ) / 128; rw [h2]; dsimp; omega)
  · idx_vars i
    have h1 : ((Rect.unit (s := S1x128x1024) ![0, 0, 384] ![1, 128, 128] inb_S1x128x1024_S1x128x128_0_0_384).emb (ix3 i0 i1 i2) 1 : ℕ) = 0 + i1.1 :=
      ValueKit.rect_emb_unit_val (s := S1x128x1024) ![0, 0, 384] ![1, 128, 128] _ _ 1
    have h2 : ((Rect.unit (s := S1x128x1024) ![0, 0, 384] ![1, 128, 128] inb_S1x128x1024_S1x128x128_0_0_384).emb (ix3 i0 i1 i2) 2 : ℕ) = 384 + i2.1 :=
      ValueKit.rect_emb_unit_val (s := S1x128x1024) ![0, 0, 384] ![1, 128, 128] _ _ 2
    pointwise [k0_pay9]
    generalize (Rect.unit (s := S1x128x1024) ![0, 0, 384] ![1, 128, 128] inb_S1x128x1024_S1x128x128_0_0_384).emb (ix3 i0 i1 i2) = z at h1 h2 ⊢
    refine congrArg₂ (HMul.hMul (α := EReal) (β := EReal)) (congrArg x4 (ix2_congr ?_ ?_)) (congrArg x5 (ix2_congr ?_ ?_))
    all_goals first | exact h1.symm | exact h2.symm | exact (h1.trans (Nat.zero_add _)).symm | exact (h2.trans (Nat.zero_add _)).symm | (show _ = (z 1 : ℕ) / 128; rw [h1]; dsimp; omega) | (show _ = (z 2 : ℕ) / 128; rw [h2]; dsimp; omega)
  · idx_vars i
    have h1 : ((Rect.unit (s := S1x128x1024) ![0, 0, 256] ![1, 128, 128] inb_S1x128x1024_S1x128x128_0_0_256).emb (ix3 i0 i1 i2) 1 : ℕ) = 0 + i1.1 :=
      ValueKit.rect_emb_unit_val (s := S1x128x1024) ![0, 0, 256] ![1, 128, 128] _ _ 1
    have h2 : ((Rect.unit (s := S1x128x1024) ![0, 0, 256] ![1, 128, 128] inb_S1x128x1024_S1x128x128_0_0_256).emb (ix3 i0 i1 i2) 2 : ℕ) = 256 + i2.1 :=
      ValueKit.rect_emb_unit_val (s := S1x128x1024) ![0, 0, 256] ![1, 128, 128] _ _ 2
    pointwise [k0_pay7]
    generalize (Rect.unit (s := S1x128x1024) ![0, 0, 256] ![1, 128, 128] inb_S1x128x1024_S1x128x128_0_0_256).emb (ix3 i0 i1 i2) = z at h1 h2 ⊢
    refine congrArg₂ (HMul.hMul (α := EReal) (β := EReal)) (congrArg x4 (ix2_congr ?_ ?_)) (congrArg x5 (ix2_congr ?_ ?_))
    all_goals first | exact h1.symm | exact h2.symm | exact (h1.trans (Nat.zero_add _)).symm | exact (h2.trans (Nat.zero_add _)).symm | (show _ = (z 1 : ℕ) / 128; rw [h1]; dsimp; omega) | (show _ = (z 2 : ℕ) / 128; rw [h2]; dsimp; omega)
  · idx_vars i
    have h1 : ((Rect.unit (s := S1x128x1024) ![0, 0, 128] ![1, 128, 128] inb_S1x128x1024_S1x128x128_0_0_128).emb (ix3 i0 i1 i2) 1 : ℕ) = 0 + i1.1 :=
      ValueKit.rect_emb_unit_val (s := S1x128x1024) ![0, 0, 128] ![1, 128, 128] _ _ 1
    have h2 : ((Rect.unit (s := S1x128x1024) ![0, 0, 128] ![1, 128, 128] inb_S1x128x1024_S1x128x128_0_0_128).emb (ix3 i0 i1 i2) 2 : ℕ) = 128 + i2.1 :=
      ValueKit.rect_emb_unit_val (s := S1x128x1024) ![0, 0, 128] ![1, 128, 128] _ _ 2
    pointwise [k0_pay5]
    generalize (Rect.unit (s := S1x128x1024) ![0, 0, 128] ![1, 128, 128] inb_S1x128x1024_S1x128x128_0_0_128).emb (ix3 i0 i1 i2) = z at h1 h2 ⊢
    refine congrArg₂ (HMul.hMul (α := EReal) (β := EReal)) (congrArg x4 (ix2_congr ?_ ?_)) (congrArg x5 (ix2_congr ?_ ?_))
    all_goals first | exact h1.symm | exact h2.symm | exact (h1.trans (Nat.zero_add _)).symm | exact (h2.trans (Nat.zero_add _)).symm | (show _ = (z 1 : ℕ) / 128; rw [h1]; dsimp; omega) | (show _ = (z 2 : ℕ) / 128; rw [h2]; dsimp; omega)
  · idx_vars i
    have h1 : ((Rect.unit (s := S1x128x1024) ![0, 0, 0] ![1, 128, 128] inb_S1x128x1024_S1x128x128_0_0_0).emb (ix3 i0 i1 i2) 1 : ℕ) = 0 + i1.1 :=
      ValueKit.rect_emb_unit_val (s := S1x128x1024) ![0, 0, 0] ![1, 128, 128] _ _ 1
    have h2 : ((Rect.unit (s := S1x128x1024) ![0, 0, 0] ![1, 128, 128] inb_S1x128x1024_S1x128x128_0_0_0).emb (ix3 i0 i1 i2) 2 : ℕ) = 0 + i2.1 :=
      ValueKit.rect_emb_unit_val (s := S1x128x1024) ![0, 0, 0] ![1, 128, 128] _ _ 2
    pointwise [k0_pay3]
    generalize (Rect.unit (s := S1x128x1024) ![0, 0, 0] ![1, 128, 128] inb_S1x128x1024_S1x128x128_0_0_0).emb (ix3 i0 i1 i2) = z at h1 h2 ⊢
    refine congrArg₂ (HMul.hMul (α := EReal) (β := EReal)) (congrArg x4 (ix2_congr ?_ ?_)) (congrArg x5 (ix2_congr ?_ ?_))
    all_goals first | exact h1.symm | exact h2.symm | exact (h1.trans (Nat.zero_add _)).symm | exact (h2.trans (Nat.zero_add _)).symm | (show _ = (z 1 : ℕ) / 128; rw [h1]; dsimp; omega) | (show _ = (z 2 : ℕ) / 128; rw [h2]; dsimp; omega)

end Cert.Value

end

end
-- ==== Proof.Value.Core.lean ====
/-
Softmax over the extended reals: the scaling of the exponent's base, the two cases of a row (its maximum finite, or all
its weights zero), and the merge of two parts.
-/
module

public import Idealize.ShloMosaic.PureOps.Ideal

@[expose] public section

noncomputable section

namespace Cert.Value

open Idealize.ShloMosaic
open scoped BigOperators

/-- The greatest of the scores. -/
def mx {n : ℕ} (s : Fin n → EReal) : EReal := Finset.univ.fold max ⊥ s
/-- The weight of score `i`. -/
def wt {n : ℕ} (s : Fin n → EReal) (i : Fin n) : EReal := Ideal.exp (s i - mx s)
/-- The sum of the weights. -/
def den {n : ℕ} (s : Fin n → EReal) : EReal := ∑ i, wt s i
/-- The logarithm of the sum of the exponentials. -/
def lse {n : ℕ} (s : Fin n → EReal) : EReal := mx s + Ideal.log (den s)

theorem mx_eq_sup {n : ℕ} (s : Fin n → EReal) : mx s = Finset.univ.sup s := rfl

theorem le_mx {n : ℕ} (s : Fin n → EReal) (i : Fin n) : s i ≤ mx s := by
  rw [mx_eq_sup]; exact Finset.le_sup (f := s) (Finset.mem_univ i)

theorem exp_coe (r : ℝ) : Ideal.exp (r : EReal) = ((Real.exp r : ℝ) : EReal) := rfl
theorem exp_bot : Ideal.exp ⊥ = 0 := rfl
theorem exp2_coe (r : ℝ) : Ideal.exp2 (r : EReal) = ((Real.rpow 2 r : ℝ) : EReal) := rfl
theorem log_coe_pos (r : ℝ) (h : 0 < r) : Ideal.log (r : EReal) = ((Real.log r : ℝ) : EReal) := by
  show (if r ≤ 0 then (⊥ : EReal) else (Real.log r : EReal)) = _
  rw [if_neg (not_le.2 h)]
theorem log_zero : Ideal.log 0 = ⊥ := by
  show (if (0 : ℝ) ≤ 0 then (⊥ : EReal) else (Real.log 0 : EReal)) = _
  rw [if_pos le_rfl]

/-- The reciprocal of the natural logarithm of two. -/
def lam : ℝ := (Real.log 2)⁻¹
theorem log2_pos : 0 < Real.log 2 := Real.log_pos (by norm_num)
theorem lam_pos : 0 < lam := inv_pos.2 log2_pos

theorem bot_mul_lam : (⊥ : EReal) * (lam : EReal) = ⊥ := EReal.bot_mul_coe_of_pos lam_pos
theorem top_mul_lam : (⊤ : EReal) * (lam : EReal) = ⊤ := EReal.top_mul_coe_of_pos lam_pos

theorem mx_mul_lam {n : ℕ} (s : Fin n → EReal) : mx (fun i => s i * (lam : EReal)) = mx s * (lam : EReal) := by
  rw [mx_eq_sup, mx_eq_sup]
  have h := Finset.apply_sup_eq_sup_comp (s := Finset.univ) (f := s) (fun x : EReal => x * (lam : EReal))
    (fun x y => (Monotone.map_sup (fun a b hab => mul_le_mul_of_nonneg_right hab (EReal.coe_nonneg.2 lam_pos.le)) x y)) bot_mul_lam
  exact h.symm

theorem mul_lam_log2 (x : EReal) : x * (lam : EReal) * ((Real.log 2 : ℝ) : EReal) = x := by
  rw [mul_assoc, ← EReal.coe_mul, show lam * Real.log 2 = 1 from inv_mul_cancel₀ log2_pos.ne', EReal.coe_one, mul_one]

theorem exp2_mul_lam (x : EReal) : Ideal.exp2 (x * (lam : EReal)) = Ideal.exp x := by
  induction x with
  | bot => rw [bot_mul_lam]; rfl
  | top => rw [top_mul_lam]; rfl
  | coe r =>
    rw [← EReal.coe_mul, exp2_coe, exp_coe]
    congr 1
    show (2 : ℝ) ^ (r * lam) = _
    rw [Real.rpow_def_of_pos (by norm_num : (0:ℝ) < 2)]
    congr 1
    unfold lam
    field_simp [log2_pos.ne']

theorem sub_mul_lam (x y : EReal) : x * (lam : EReal) - y * (lam : EReal) = (x - y) * (lam : EReal) := by
  induction x with
  | bot =>
    rw [bot_mul_lam, EReal.bot_sub, EReal.bot_sub, bot_mul_lam]
  | top =>
    induction y with
    | bot => rw [bot_mul_lam, top_mul_lam, EReal.top_sub_bot, top_mul_lam]
    | top => rw [top_mul_lam, EReal.sub_top, bot_mul_lam]
    | coe r => rw [top_mul_lam, ← EReal.coe_mul, EReal.top_sub_coe, EReal.top_sub_coe, top_mul_lam]
  | coe a =>
    induction y with
    | bot => rw [bot_mul_lam, ← EReal.coe_mul, EReal.coe_sub_bot, EReal.coe_sub_bot, top_mul_lam]
    | top => rw [top_mul_lam, EReal.sub_top, EReal.sub_top, bot_mul_lam]
    | coe r => rw [← EReal.coe_mul, ← EReal.coe_mul, ← EReal.coe_sub, ← EReal.coe_sub, ← EReal.coe_mul, sub_mul]

/-- A weight in base two of the rescaled scores is the weight. -/
theorem exp2_eq_wt {n : ℕ} (s : Fin n → EReal) (i : Fin n) :
    Ideal.exp2 (s i * (lam : EReal) - mx (fun i => s i * (lam : EReal))) = wt s i := by
  rw [mx_mul_lam, sub_mul_lam, exp2_mul_lam]; rfl

/-- One part of the attention: its log-sum-exp, the sum of its weights, and its weighted sum. Either nothing of it
    counts, or its log-sum-exp is finite and its weights sum to something real and at least one. -/
def Side (l D N : EReal) : Prop := (l = ⊥ ∧ D = 0 ∧ N = 0) ∨ ∃ r d : ℝ, l = (r : EReal) ∧ D = (d : EReal) ∧ 1 ≤ d

theorem wt_cases {n : ℕ} (s : Fin n → EReal) :
    (∀ i, wt s i = 0) ∨ ((∃ m : ℝ, mx s = (m : EReal)) ∧ ∃ d : ℝ, den s = (d : EReal) ∧ 1 ≤ d) := by
  generalize hm : mx s = m
  induction m with
  | bot =>
    left; intro i
    have : s i = ⊥ := le_bot_iff.1 (hm ▸ le_mx s i)
    unfold wt; rw [this, EReal.bot_sub]; rfl
  | top => left; intro i; unfold wt; rw [hm, EReal.sub_top]; rfl
  | coe m =>
    right
    refine ⟨⟨m, rfl⟩, ?_⟩
    have hw : ∀ i, ∃ w : ℝ, wt s i = (w : EReal) ∧ 0 ≤ w := by
      intro i
      have hle := hm ▸ le_mx s i
      unfold wt; rw [hm]
      generalize s i = x at hle
      induction x with
      | bot => exact ⟨0, by rw [EReal.bot_sub]; rfl, le_rfl⟩
      | top => exact absurd (top_le_iff.1 hle) (EReal.coe_ne_top m)
      | coe r => exact ⟨Real.exp (r - m), by rw [← EReal.coe_sub]; rfl, (Real.exp_pos _).le⟩
    choose w hw using hw
    have hne : (Finset.univ : Finset (Fin n)).Nonempty := by
      by_contra h
      rw [Finset.not_nonempty_iff_eq_empty] at h
      rw [mx_eq_sup, h, Finset.sup_empty] at hm
      exact absurd hm.symm (EReal.coe_ne_bot m)
    obtain ⟨i, -, hi⟩ := Finset.exists_mem_eq_sup Finset.univ hne s
    have hwi : w i = 1 := by
      have h1 := (hw i).1
      unfold wt at h1
      rw [mx_eq_sup] at hm
      rw [mx_eq_sup, ← hi, hm] at h1
      rw [← EReal.coe_sub, sub_self, exp_coe, Real.exp_zero] at h1
      exact (EReal.coe_injective h1).symm
    refine ⟨∑ i, w i, ?_, ?_⟩
    · unfold den; rw [Finset.sum_congr rfl fun i _ => (hw i).1]
      exact (map_sum (⟨⟨Real.toEReal, EReal.coe_zero⟩, EReal.coe_add⟩ : ℝ →+ EReal) w Finset.univ).symm
    · rw [← hwi]; exact Finset.single_le_sum (f := w) (fun i _ => (hw i).2) (Finset.mem_univ i)

theorem side_of {n : ℕ} (s u : Fin n → EReal) : Side (lse s) (den s) (∑ i, u i * wt s i) := by
  rcases wt_cases s with h | ⟨⟨m, hm⟩, d, hd, h1⟩
  · left
    have hD : den s = 0 := by unfold den; exact Finset.sum_eq_zero fun i _ => h i
    refine ⟨?_, hD, Finset.sum_eq_zero fun i _ => by rw [h i, mul_zero]⟩
    unfold lse; rw [hD, log_zero, EReal.add_bot]
  · right
    refine ⟨m + Real.log d, d, ?_, hd, h1⟩
    unfold lse; rw [hm, hd, log_coe_pos d (by linarith), ← EReal.coe_add]

/-- The merge of two parts with the weights' sums divided out once, of the whole. -/
def mergeK (lp ls Dp Ds Np Ns : EReal) : EReal :=
  Np * Ideal.div (Ideal.exp (lp - max lp ls)) ((Ideal.exp (lp - max lp ls) + Ideal.exp (ls - max lp ls)) * Dp)
    + Ns * Ideal.div (Ideal.exp (ls - max lp ls)) ((Ideal.exp (lp - max lp ls) + Ideal.exp (ls - max lp ls)) * Ds)

/-- The log-sum-exp of two log-sum-exps. -/
def joint (lp ls : EReal) : EReal := max lp ls + Ideal.log1p (Ideal.exp (-(max (lp - ls) (-(lp - ls)))))

/-- The merge of two parts' outputs by the joint log-sum-exp. -/
def mergeR (lp ls Dp Ds Np Ns : EReal) : EReal :=
  Ideal.exp (lp - joint lp ls) * Ideal.div Np Dp + Ideal.exp (ls - joint lp ls) * Ideal.div Ns Ds

theorem div_coe_ne (x : EReal) (d : ℝ) (h : d ≠ 0) : Ideal.div x (d : EReal) = x * ((d⁻¹ : ℝ) : EReal) := by
  unfold Ideal.div
  rw [if_neg (by exact_mod_cast h), EReal.coe_inv]

theorem joint_bot_left (r : ℝ) : joint ⊥ (r : EReal) = (r : EReal) := by
  unfold joint Ideal.log1p
  rw [max_eq_right bot_le, EReal.bot_sub, EReal.neg_bot, max_eq_right bot_le, EReal.neg_top, exp_bot, add_zero,
    ← EReal.coe_one, log_coe_pos 1 one_pos, Real.log_one, EReal.coe_zero, add_zero]

theorem joint_bot_right (r : ℝ) : joint (r : EReal) ⊥ = (r : EReal) := by
  unfold joint Ideal.log1p
  rw [max_eq_left bot_le, EReal.coe_sub_bot, max_eq_left (by rw [EReal.neg_top]; exact bot_le), EReal.neg_top, exp_bot, add_zero,
    ← EReal.coe_one, log_coe_pos 1 one_pos, Real.log_one, EReal.coe_zero, add_zero]

theorem coe_max (a b : ℝ) : max (a : EReal) (b : EReal) = ((max a b : ℝ) : EReal) :=
  (EReal.coe_strictMono.monotone.map_max).symm

theorem joint_coe (a b : ℝ) : joint (a : EReal) (b : EReal) = ((Real.log (Real.exp a + Real.exp b) : ℝ) : EReal) := by
  unfold joint Ideal.log1p
  rw [← EReal.coe_sub, ← EReal.coe_neg, coe_max, coe_max, ← EReal.coe_neg, exp_coe, ← EReal.coe_one, ← EReal.coe_add,
    log_coe_pos _ (by positivity), ← EReal.coe_add]
  congr 1
  have key : ∀ a b : ℝ, b ≤ a → a + Real.log (1 + Real.exp (-(a - b))) = Real.log (Real.exp a + Real.exp b) := by
    intro a b _
    rw [show Real.exp a + Real.exp b = Real.exp a * (1 + Real.exp (-(a - b))) by
      rw [mul_add, mul_one, ← Real.exp_add]; congr 2; ring, Real.log_mul (Real.exp_pos _).ne' (by positivity), Real.log_exp]
  rcases le_total b a with h | h
  · rw [max_eq_left h, max_eq_left (by linarith : -(a - b) ≤ a - b)]; exact key a b h
  · rw [max_eq_right h, max_eq_right (by linarith : a - b ≤ -(a - b)), add_comm (Real.exp a), ← key b a h, neg_neg, neg_sub]

theorem merge_eq {lp ls Dp Ds Np Ns : EReal} (hp : Side lp Dp Np) (hs : Side ls Ds Ns) :
    mergeK lp ls Dp Ds Np Ns = mergeR lp ls Dp Ds Np Ns := by
  unfold mergeK mergeR
  rcases hp with ⟨rfl, rfl, rfl⟩ | ⟨a, d, rfl, rfl, hd⟩ <;> rcases hs with ⟨rfl, rfl, rfl⟩ | ⟨b, e, rfl, rfl, he⟩
  · rw [EReal.bot_sub, EReal.bot_sub, exp_bot]; simp only [zero_mul]
  · rw [joint_bot_left, EReal.bot_sub, EReal.bot_sub, max_eq_right bot_le, exp_bot, zero_mul, zero_mul, zero_add, zero_add,
      zero_add, ← EReal.coe_sub, sub_self, exp_coe, Real.exp_zero, EReal.coe_one, one_mul, one_mul,
      div_coe_ne _ e (by linarith), div_coe_ne _ e (by linarith), one_mul]
  · rw [joint_bot_right, EReal.bot_sub, EReal.bot_sub, max_eq_left bot_le, exp_bot, zero_mul, zero_mul, add_zero, add_zero,
      add_zero, ← EReal.coe_sub, sub_self, exp_coe, Real.exp_zero, EReal.coe_one, one_mul, one_mul,
      div_coe_ne _ d (by linarith), div_coe_ne _ d (by linarith), one_mul]
  · rw [joint_coe, coe_max]
    simp only [← EReal.coe_sub, exp_coe, ← EReal.coe_add, ← EReal.coe_mul]
    have ht : 0 < Real.exp (a - max a b) + Real.exp (b - max a b) := by positivity
    rw [div_coe_ne _ d (by linarith), div_coe_ne _ e (by linarith), div_coe_ne _ _ (mul_pos ht (by linarith)).ne',
      div_coe_ne _ _ (mul_pos ht (by linarith)).ne', mul_left_comm _ Np, mul_left_comm _ Ns]
    simp only [← EReal.coe_mul]
    have hT : 0 < Real.exp a + Real.exp b := by positivity
    have hM : Real.exp (-(max a b)) ≠ 0 := (Real.exp_pos _).ne'
    have e1 : ∀ x y : ℝ, y ≠ 0 → Real.exp (x - max a b) * ((Real.exp (a - max a b) + Real.exp (b - max a b)) * y)⁻¹
        = Real.exp (x - Real.log (Real.exp a + Real.exp b)) * y⁻¹ := by
      intro x y hy
      rw [Real.exp_sub x (Real.log _), Real.exp_log hT, sub_eq_add_neg, sub_eq_add_neg, sub_eq_add_neg, Real.exp_add, Real.exp_add,
        Real.exp_add, ← add_mul]
      field_simp
    rw [e1 a d (by linarith), e1 b e (by linarith)]

end Cert.Value

end

end
-- ==== Proof.Value.Spec.lean ====
/-
Attention of every query against a shared prompt and its own completion, merged: the values of the three results, written once
over plain functions of the ten arguments.
-/
module

public import proofs.«01_k».proof.Proof.Value.Core

@[expose] public section

noncomputable section

namespace Cert.Value

open Idealize.ShloMosaic
open scoped BigOperators

/-- The ten arguments as functions of their coordinates. -/
structure Inp where
  /-- Query codes, by sequence, position, head, lane. -/
  q : Fin 32 → Fin 512 → Fin 56 → Fin 128 → EReal
  /-- Query scales. -/
  qs : Fin 32 → Fin 512 → Fin 56 → EReal
  /-- Prompt key codes, by position, head, lane. -/
  pk : Fin 8192 → Fin 8 → Fin 128 → EReal
  /-- Prompt key scales, one for each 128 positions. -/
  pks : Fin 64 → Fin 8 → Fin 128 → EReal
  /-- Prompt value codes. -/
  pv : Fin 8192 → Fin 8 → Fin 128 → EReal
  /-- Prompt value scales. -/
  pvs : Fin 64 → Fin 8 → Fin 128 → EReal
  /-- Completion key codes, by sequence, position, head, lane. -/
  ck : Fin 32 → Fin 512 → Fin 8 → Fin 128 → EReal
  /-- Completion key scales. -/
  cks : Fin 32 → Fin 512 → Fin 8 → EReal
  /-- Completion value codes. -/
  cv : Fin 32 → Fin 512 → Fin 8 → Fin 128 → EReal
  /-- Completion value scales. -/
  cvs : Fin 32 → Fin 512 → Fin 8 → EReal

/-- The 128-position block of prompt position `p`. -/
def blk (p : Fin 8192) : Fin 64 := ⟨p.1 / 128, by have := p.2; omega⟩
/-- Query head `g` of key head `k`. -/
def hd (k : Fin 8) (g : Fin 7) : Fin 56 := ⟨7 * k.1 + g.1, by have := k.2; have := g.2; omega⟩

namespace Inp

variable (I : Inp)

/-- A prompt key. -/
def key (p : Fin 8192) (k : Fin 8) (d : Fin 128) : EReal := I.pk p k d * I.pks (blk p) k d
/-- A prompt value. -/
def val (p : Fin 8192) (k : Fin 8) (d : Fin 128) : EReal := I.pv p k d * I.pvs (blk p) k d

variable (b : Fin 32) (t : Fin 512) (k : Fin 8) (g : Fin 7)

/-- The query's scale over the root of the head's width. -/
def scale : EReal := Ideal.div (I.qs b t (hd k g)) (Ideal.sqrt ((128 : ℝ) : EReal))
/-- The scores against the prompt. -/
def sp (p : Fin 8192) : EReal := (∑ d, I.key p k d * I.q b t (hd k g) d) * I.scale b t k g
/-- The scores against the completion, later positions masked. -/
def ss (j : Fin 512) : EReal :=
  if j.1 ≤ t.1 then (∑ d, I.ck b j k d * I.q b t (hd k g) d) * I.scale b t k g * I.cks b j k else ⊥
/-- The prompt values' weighted sum. -/
def np (d : Fin 128) : EReal := ∑ p, I.val p k d * wt (I.sp b t k g) p
/-- The completion values' weighted sum. -/
def ns (d : Fin 128) : EReal := ∑ j, I.cv b j k d * (wt (I.ss b t k g) j * I.cvs b j k)

/-- The merged attention. -/
def out1 (d : Fin 128) : EReal :=
  mergeR (lse (I.sp b t k g)) (lse (I.ss b t k g)) (den (I.sp b t k g)) (den (I.ss b t k g)) (I.np b t k g d) (I.ns b t k g d)
/-- The prompt's log-mean-exp. -/
def out2 : EReal := lse (I.sp b t k g) - Ideal.ofBits .f32 0x41102CB3#32
/-- The completion's log-mean-exp over the positions up to `t`. -/
def out3 : EReal := lse (I.ss b t k g) - Ideal.log (((t.1 + 1 : ℕ) : ℝ) : EReal)

theorem side_p (d : Fin 128) : Side (lse (I.sp b t k g)) (den (I.sp b t k g)) (I.np b t k g d) := side_of _ _
theorem side_s (d : Fin 128) : Side (lse (I.ss b t k g)) (den (I.ss b t k g)) (I.ns b t k g d) := by
  have e : I.ns b t k g d = ∑ j, (I.cv b j k d * I.cvs b j k) * wt (I.ss b t k g) j :=
    Finset.sum_congr rfl fun j _ => by rw [mul_comm (wt _ _), mul_assoc]
  rw [e]; exact side_of _ _

end Inp

end Cert.Value

end

end
-- ==== Proof.Value.Arr0.lean ====
/-
The dequantised prompt after the first region: every key and value is its code times the scale of its 128-position block.
-/
module

public import proofs.«01_k».proof.Proof.KI.Data
public import proofs.«01_k».proof.Proof.Value.Block0
public import proofs.«01_k».proof.Proof.Value.Spec
public import Idealize.ShloMosaic.Lib.Pipeline.ValueKit.Point

@[expose] public section

set_option maxRecDepth 16384

noncomputable section

namespace Cert.Value

open Idealize.ShloMosaic Idealize.ShloMosaic.TcCoe
open Cert.KernelIdeal Cert.KernelIdeal.Gen Cert.KernelIdeal.Hand

variable (m : (ℓ : Loc nD τ sig) → Buf (Elt Ideal) ℓ)

theorem e0_v0 (c : Dev nD) : (E0 m c main_v0 : FVec Ideal S8192x1024 .fp8e4m3)
    = shapeCast S8192x1024 (m ((c : Thread nD τ).loc main_arg2) : FVec Ideal S8192x8x128 .fp8e4m3) shapeCasts_S8192x8x128_S8192x1024 := rfl
theorem e0_v1 (c : Dev nD) : (E0 m c main_v1 : FVec Ideal S64x1024 .f32)
    = shapeCast S64x1024 (m ((c : Thread nD τ).loc main_arg3) : FVec Ideal S64x8x128 .f32) shapeCasts_S64x8x128_S64x1024 := rfl
theorem e0_v2 (c : Dev nD) : (E0 m c main_v2 : FVec Ideal S8192x1024 .fp8e4m3)
    = shapeCast S8192x1024 (m ((c : Thread nD τ).loc main_arg4) : FVec Ideal S8192x8x128 .fp8e4m3) shapeCasts_S8192x8x128_S8192x1024 := rfl
theorem e0_v3 (c : Dev nD) : (E0 m c main_v3 : FVec Ideal S64x1024 .f32)
    = shapeCast S64x1024 (m ((c : Thread nD τ).loc main_arg5) : FVec Ideal S64x8x128 .f32) shapeCasts_S64x8x128_S64x1024 := rfl

/-- A matrix of 1024 columns is eight heads of 128 lanes. -/
theorem sc8192 {α : Type} (A : S8192x8x128.Idx → α) (j : S8192x1024.Idx) :
    shapeCast S8192x1024 A shapeCasts_S8192x8x128_S8192x1024 j
      = A (ix3 (j 0) (⟨(j 1).1 / 128, by have : (j 1).1 < 1024 := (j 1).2; omega⟩ : Fin 8) (⟨(j 1).1 % 128, by omega⟩ : Fin 128)) := by
  idx_vars j
  pointwise
theorem sc64 {α : Type} (A : S64x8x128.Idx → α) (j : S64x1024.Idx) :
    shapeCast S64x1024 A shapeCasts_S64x8x128_S64x1024 j
      = A (ix3 (j 0) (⟨(j 1).1 / 128, by have : (j 1).1 < 1024 := (j 1).2; omega⟩ : Fin 8) (⟨(j 1).1 % 128, by omega⟩ : Fin 128)) := by
  idx_vars j
  pointwise

theorem idx0_0 : ∀ t : Fin cfg0.N, win0_0.index t = ![t.1 % 8, t.1 / 8] := (by decide +kernel : ∀ t : Fin grid0.N, _)
theorem idx0_1 : ∀ t : Fin cfg0.N, win0_1.index t = ![t.1 % 8, t.1 / 8] := (by decide +kernel : ∀ t : Fin grid0.N, _)
theorem idx0_2 : ∀ t : Fin cfg0.N, win0_2.index t = ![t.1 % 8, t.1 / 8] := (by decide +kernel : ∀ t : Fin grid0.N, _)
theorem idx0_3 : ∀ t : Fin cfg0.N, win0_3.index t = ![t.1 % 8, t.1 / 8] := (by decide +kernel : ∀ t : Fin grid0.N, _)
theorem idx0_4 : ∀ t : Fin cfg0.N, win0_4.index t = ![t.1 / 8, t.1 % 8, 0] := (by decide +kernel : ∀ t : Fin grid0.N, _)
theorem idx0_5 : ∀ t : Fin cfg0.N, win0_5.index t = ![t.1 / 8, 0, t.1 % 8] := (by decide +kernel : ∀ t : Fin grid0.N, _)

/-- The keys. -/
def K4 (A : FVec Ideal S8192x8x128 .fp8e4m3) (B : FVec Ideal S64x8x128 .f32) : FVec Ideal S8x8192x128 .bf16 := fun i =>
  HMul.hMul (α := EReal) (β := EReal) (A (ix3 (i 1) (i 0) (i 2))) (B (ix3 (blk (i 1)) (i 0) (i 2)))
/-- The values. -/
def K5 (A : FVec Ideal S8192x8x128 .fp8e4m3) (B : FVec Ideal S64x8x128 .f32) : FVec Ideal S8x128x8192 .bf16 := fun i =>
  HMul.hMul (α := EReal) (β := EReal) (A (ix3 (i 2) (i 0) (i 1))) (B (ix3 (blk (i 2)) (i 0) (i 1)))

theorem arr0_4 (c : Dev nD) : (dat0 m c).arrAt 4 cfg0.N
    = K4 (m ((c : Thread nD τ).loc main_arg2)) (m ((c : Thread nD τ).loc main_arg3)) := by
  refine (dat0 m c).arrAt_eq_of_covers 4 _ (by decide +kernel) fun t hf y => ?_
  blk_simp
  rw [after0_4, out0_4_apply]
  unfold G4 K4
  blk_simp [iblk0]
  rw [show E0 m c main_v0 = _ from e0_v0 m c, show E0 m c main_v1 = _ from e0_v1 m c]
  refine congrArg₂ (HMul.hMul (α := EReal) (β := EReal)) ((sc8192 _ _).trans (congrArg _ ?_)) ((sc64 _ _).trans (congrArg _ ?_))
  · blk_ext [idx0_0 t, idx0_1 t, idx0_4 t]
  · unfold blk; blk_ext [idx0_0 t, idx0_1 t, idx0_4 t]

theorem arr0_5 (c : Dev nD) : (dat0 m c).arrAt 5 cfg0.N
    = K5 (m ((c : Thread nD τ).loc main_arg4)) (m ((c : Thread nD τ).loc main_arg5)) := by
  refine (dat0 m c).arrAt_eq_of_covers 5 _ (by decide +kernel) fun t hf y => ?_
  blk_simp
  rw [after0_5, out0_5_apply]
  unfold G5 K5
  blk_simp [iblk0]
  rw [show E0 m c main_v2 = _ from e0_v2 m c, show E0 m c main_v3 = _ from e0_v3 m c]
  refine congrArg₂ (HMul.hMul (α := EReal) (β := EReal)) ((sc8192 _ _).trans (congrArg _ ?_)) ((sc64 _ _).trans (congrArg _ ?_))
  · blk_ext [idx0_2 t, idx0_3 t, idx0_5 t]
  · unfold blk; blk_ext [idx0_2 t, idx0_3 t, idx0_5 t]

end Cert.Value

end

end
-- ==== Proof.Value.Chunk.lean ====
/-
A maximum and a sum over 8192 indices taken 1024 at a time.
-/
module

public import proofs.«01_k».proof.Proof.Value.Core

@[expose] public section

noncomputable section

namespace Cert.Value

open scoped BigOperators

theorem mx_le_iff {n : ℕ} (s : Fin n → EReal) (z : EReal) : mx s ≤ z ↔ ∀ i, s i ≤ z := by
  rw [mx_eq_sup, Finset.sup_le_iff]; simp

theorem chunk_mx (g : Fin 8192 → EReal) (a : ℕ → EReal) (h0 : a 0 = ⊥)
    (hs : ∀ (k : ℕ) (hk : k < 8), a (k + 1) = max (a k) (mx fun r : Fin 1024 => g ⟨1024 * k + r.1, by have := r.2; omega⟩)) :
    a 8 = mx g := by
  have key : ∀ k, k ≤ 8 → ∀ z, a k ≤ z ↔ ∀ p : Fin 8192, p.1 < 1024 * k → g p ≤ z := by
    intro k
    induction k with
    | zero => intro _ z; rw [h0]; exact ⟨fun _ p hp => absurd hp (by omega), fun _ => bot_le⟩
    | succ k ih =>
      intro hk z
      rw [hs k (by omega), max_le_iff, ih (by omega), mx_le_iff]
      constructor
      · rintro ⟨h1, h2⟩ p hp
        by_cases h : p.1 < 1024 * k
        · exact h1 p h
        · have := h2 ⟨p.1 - 1024 * k, by omega⟩
          rwa [show (⟨1024 * k + (p.1 - 1024 * k), _⟩ : Fin 8192) = p from Fin.ext (by show _ + _ = _; omega)] at this
      · intro h
        exact ⟨fun p hp => h p (by omega), fun r => h _ (by have := r.2; show 1024 * k + r.1 < _; omega)⟩
  refine eq_of_forall_ge_iff fun z => ?_
  rw [key 8 le_rfl, mx_le_iff]
  exact ⟨fun h i => h i (by have := i.2; omega), fun h i _ => h i⟩

theorem chunk_sum (g : Fin 8192 → EReal) (a : ℕ → EReal) (h0 : a 0 = 0)
    (hs : ∀ (k : ℕ) (hk : k < 8), a (k + 1) = a k + ∑ r : Fin 1024, g ⟨1024 * k + r.1, by have := r.2; omega⟩) :
    a 8 = ∑ p, g p := by
  have key : ∀ k, k ≤ 8 → a k = ∑ p ∈ Finset.range (1024 * k), if h : p < 8192 then g ⟨p, h⟩ else 0 := by
    intro k
    induction k with
    | zero => intro _; rw [h0]; rfl
    | succ k ih =>
      intro hk
      rw [hs k (by omega), ih (by omega), show 1024 * (k + 1) = 1024 * k + 1024 by ring, Finset.sum_range_add, Finset.sum_range (n := 1024)]
      refine congrArg₂ (· + ·) rfl (Finset.sum_congr rfl fun r _ => ?_)
      rw [dif_pos (by have := r.2; omega)]
  rw [key 8 le_rfl, Finset.sum_range]
  exact Finset.sum_congr rfl fun p _ => dif_pos p.2

end Cert.Value

end

end
-- ==== Proof.Value.Block1.lean ====
/-
The attention kernel's pieces element by element, over the blocks it reads: the scores in base two, the maximum and the sums over
the prompt's chunks, the completion's scores and weights.
-/
module

public import proofs.«01_k».proof.Proof.KI.Loops
public import proofs.«01_k».proof.Proof.Value.Chunk
public import Idealize.ShloMosaic.Lib.Pipeline.ValueKit.Point

@[expose] public section

set_option maxRecDepth 16384

noncomputable section

namespace Cert.Value

open Idealize.ShloMosaic
open Cert.KernelIdeal Cert.KernelIdeal.Gen Cert.KernelIdeal.Hand
open scoped BigOperators

/-- The scale of the scores in base two. -/
def nsc : EReal := (((Real.log 2)⁻¹ * (Real.sqrt 128)⁻¹ : ℝ) : EReal)
theorem named_nsc : Named.named (F := Ideal) κ "log2e_inv_sqrt_d" (φ := .f32) 0x3E0293EE#32 = nsc :=
  IdealRules.named_const.ideal_named_scalar _ _ _ _ rfl
theorem named_ln2 : Named.named (F := Ideal) κ "ln2" (φ := .f32) 0x3F317218#32 = ((Real.log 2 : ℝ) : EReal) :=
  IdealRules.named_const.ideal_named_scalar _ _ _ _ rfl
theorem bot_f32 : Ideal.ofBits .f32 0xFF800000#32 = (⊥ : EReal) := by
  simp [Ideal.ofBits, Ideal.ieee]

variable (q : Vec Ideal S1x512x128 .fp8e4m3) (qs : Vec Ideal S1x1x512 .f32)

/-- A prompt score in base two. -/
def kp (x4 : Vec Ideal S1x8192x128 .bf16) (t : Fin 512) (p : Fin 8192) : EReal :=
  HMul.hMul (α := EReal) (β := EReal) (∑ d : Fin 128, HMul.hMul (α := EReal) (β := EReal) (x4 (ix3 (0 : Fin 1) p d)) (q (ix3 (0 : Fin 1) t d))) (HMul.hMul (α := EReal) (β := EReal) (qs (ix3 (0 : Fin 1) (0 : Fin 1) t)) nsc)

theorem pay8_apply (c : Vec Ideal S1x1024x128 .bf16) (r : Fin 1024) (t : Fin 512) :
    k1_pay8 q qs c (ix2 r t) = HMul.hMul (α := EReal) (β := EReal) (∑ d : Fin 128, HMul.hMul (α := EReal) (β := EReal) (c (ix3 (0 : Fin 1) r d)) (q (ix3 (0 : Fin 1) t d))) (HMul.hMul (α := EReal) (β := EReal) (qs (ix3 (0 : Fin 1) (0 : Fin 1) t)) nsc) := by
  rw [← named_nsc]
  pointwise [k1_pay8, k1_pay5, k1_pay6]

theorem pay10_apply (a : FVec Ideal S1x512 .f32) (c : Vec Ideal S1x1024x128 .bf16) (t : Fin 512) :
    k1_pay10 q qs a c (ix2 (0 : Fin 1) t) = max (a (ix2 (0 : Fin 1) t)) (mx fun r : Fin 1024 => k1_pay8 q qs c (ix2 r t)) := by
  pointwise [k1_pay10]
  rw [bot_f32]; rfl

theorem pay14_apply (m a : FVec Ideal S1x512 .f32) (s : Vec Ideal S1024x512 .f32) (t : Fin 512) :
    k1_pay14 m a s (ix2 (0 : Fin 1) t) = HAdd.hAdd (α := EReal) (β := EReal) (a (ix2 (0 : Fin 1) t)) (∑ r : Fin 1024, Ideal.exp2 (HSub.hSub (α := EReal) (β := EReal) (s (ix2 r t)) (m (ix2 (0 : Fin 1) t)))) := by
  pointwise [k1_pay14, k1_pay13]
  rfl

theorem pay15_apply (m : FVec Ideal S1x512 .f32) (a : FVec Ideal S128x512 .f32) (s : Vec Ideal S1024x512 .f32) (c : Vec Ideal S1x128x1024 .bf16) (d : Fin 128) (t : Fin 512) :
    k1_pay15 m a s c (ix2 d t) = HAdd.hAdd (α := EReal) (β := EReal) (a (ix2 d t)) (∑ r : Fin 1024, HMul.hMul (α := EReal) (β := EReal) (c (ix3 (0 : Fin 1) d r)) (Ideal.exp2 (HSub.hSub (α := EReal) (β := EReal) (s (ix2 r t)) (m (ix2 (0 : Fin 1) t))))) := by
  pointwise [k1_pay15, k1_pay13]
  rfl

theorem ldK (x4 : Vec Ideal S1x8192x128 .bf16) (k : Fin k1_t2_loop.trips) (r : Fin 1024) (d : Fin 128) (h : 1024 * k.1 + r.1 < 8192) :
    View.ld x4 (rK k) (ix3 (0 : Fin 1) r d) = x4 (ix3 (0 : Fin 1) ⟨1024 * k.1 + r.1, h⟩ d) := by
  refine View.ld_unit_apply_of _ _ _ _ _ _ fun a => ?_
  have e := congrFun (k1_off3_eq k) a
  refine Eq.trans ?_ (congrArg (· + ((ix3 (0 : Fin 1) r d) a : ℕ)) e.symm)
  match a with
  | ⟨0, _⟩ => rfl
  | ⟨1, _⟩ => rfl
  | ⟨2, _⟩ => exact (Nat.zero_add _).symm

theorem ldV (x5 : Vec Ideal S1x128x8192 .bf16) (k : Fin k1_t3_loop.trips) (d : Fin 128) (r : Fin 1024) (h : 1024 * k.1 + r.1 < 8192) :
    View.ld x5 (rV k) (ix3 (0 : Fin 1) d r) = x5 (ix3 (0 : Fin 1) d ⟨1024 * k.1 + r.1, h⟩) := by
  refine View.ld_unit_apply_of _ _ _ _ _ _ fun a => ?_
  have e := congrFun (k1_off6_eq k) a
  refine Eq.trans ?_ (congrArg (· + ((ix3 (0 : Fin 1) d r) a : ℕ)) e.symm)
  match a with
  | ⟨0, _⟩ => rfl
  | ⟨1, _⟩ => exact (Nat.zero_add _).symm
  | ⟨2, _⟩ => rfl

theorem trips2 : k1_t2_loop.trips = 8 := by decide +kernel
theorem trips3 : k1_t3_loop.trips = 8 := by decide +kernel

theorem sc_apply (x4 : Vec Ideal S1x8192x128 .bf16) (k : Fin k1_t2_loop.trips) (r : Fin 1024) (t : Fin 512) (h : 1024 * k.1 + r.1 < 8192) :
    k1_pay8 q qs (View.ld x4 (rK k)) (ix2 r t) = kp q qs x4 t ⟨1024 * k.1 + r.1, h⟩ := by
  rw [pay8_apply]; unfold kp
  refine congrArg₂ (HMul.hMul (α := EReal) (β := EReal)) (Finset.sum_congr rfl fun d _ => ?_) rfl
  rw [ldK x4 k r d h]

/-- The first pass ends with the maximum of the prompt's scores. -/
theorem hM_apply (x4 : Vec Ideal S1x8192x128 .bf16) (t : Fin 512) : hM q qs x4 (ix2 (0 : Fin 1) t) = mx (kp q qs x4 t) := by
  unfold hM
  rw [trips2]
  refine chunk_mx (kp q qs x4 t) (fun k => accA q qs x4 k (ix2 (0 : Fin 1) t)) ?_ fun k hk => ?_
  · exact bot_f32
  · show accA q qs x4 (k + 1) (ix2 (0 : Fin 1) t) = _
    have e := accA_succ q qs x4 ⟨k, by rw [trips2]; exact hk⟩
    rw [show accA q qs x4 (k + 1) = _ from e, pay10_apply]
    refine congrArg₂ max rfl (congrArg mx (funext fun r => ?_))
    exact sc_apply q qs x4 ⟨k, _⟩ r t _

theorem sc9_apply (x4 : Vec Ideal S1x8192x128 .bf16) (k : Fin k1_t3_loop.trips) (r : Fin 1024) (t : Fin 512) (h : 1024 * k.1 + r.1 < 8192) :
    sc q qs x4 k (ix2 r t) = kp q qs x4 t ⟨1024 * k.1 + r.1, h⟩ := by
  refine Eq.trans ?_ (sc_apply q qs x4 ⟨k.1, k.2⟩ r t h)
  unfold sc
  pointwise [k1_pay9]

variable (x4 : Vec Ideal S1x8192x128 .bf16) (x5 : Vec Ideal S1x128x8192 .bf16)

/-- The second pass ends with the sum of the weights, -/
theorem hB1_apply (t : Fin 512) : (hB q qs x4 x5).1 (ix2 (0 : Fin 1) t)
    = ∑ p, Ideal.exp2 (kp q qs x4 t p - mx (kp q qs x4 t)) := by
  unfold hB
  rw [trips3]
  refine chunk_sum (fun p => Ideal.exp2 (kp q qs x4 t p - mx (kp q qs x4 t))) (fun k => (accB (hM q qs x4) (sc q qs x4) x5 k).1 (ix2 (0 : Fin 1) t)) ?_ fun k hk => ?_
  · exact Ideal.ofBits_zero_f32
  · show (accB (hM q qs x4) (sc q qs x4) x5 (k + 1)).1 (ix2 (0 : Fin 1) t) = _
    have e := accB_succ (hM q qs x4) (sc q qs x4) x5 ⟨k, by rw [trips3]; exact hk⟩
    rw [show accB (hM q qs x4) (sc q qs x4) x5 (k + 1) = _ from e]
    refine (pay14_apply _ _ _ _).trans (congrArg₂ (HAdd.hAdd (α := EReal) (β := EReal)) rfl (Finset.sum_congr rfl fun r _ => ?_))
    rw [hM_apply, sc9_apply q qs x4 ⟨k, _⟩ r t (by have := r.2; show 1024 * k + r.1 < 8192; omega)]

/-- and of the weighted values. -/
theorem hB2_apply (d : Fin 128) (t : Fin 512) : (hB q qs x4 x5).2 (ix2 d t)
    = ∑ p, HMul.hMul (α := EReal) (β := EReal) (x5 (ix3 (0 : Fin 1) d p)) (Ideal.exp2 (kp q qs x4 t p - mx (kp q qs x4 t))) := by
  unfold hB
  rw [trips3]
  refine chunk_sum (fun p => HMul.hMul (α := EReal) (β := EReal) (x5 (ix3 (0 : Fin 1) d p)) (Ideal.exp2 (kp q qs x4 t p - mx (kp q qs x4 t)))) (fun k => (accB (hM q qs x4) (sc q qs x4) x5 k).2 (ix2 d t)) ?_ fun k hk => ?_
  · exact Ideal.ofBits_zero_f32
  · show (accB (hM q qs x4) (sc q qs x4) x5 (k + 1)).2 (ix2 d t) = _
    have e := accB_succ (hM q qs x4) (sc q qs x4) x5 ⟨k, by rw [trips3]; exact hk⟩
    rw [show accB (hM q qs x4) (sc q qs x4) x5 (k + 1) = _ from e]
    refine (pay15_apply _ _ _ _ _ _).trans (congrArg₂ (HAdd.hAdd (α := EReal) (β := EReal)) rfl (Finset.sum_congr rfl fun r _ => ?_))
    rw [hM_apply, sc9_apply q qs x4 ⟨k, _⟩ r t (by have := r.2; show 1024 * k + r.1 < 8192; omega), ldV x5 ⟨k, _⟩ d r (by have := r.2; show 1024 * k + r.1 < 8192; omega)]

/-! ## The completion -/

variable (ks vs : Vec Ideal S1x1x512 .f32) (kc vc : Vec Ideal S512x128 .fp8e4m3)

/-- A completion score in base two. -/
def kc2 (t j : Fin 512) : EReal :=
  if j.1 ≤ t.1 then HMul.hMul (α := EReal) (β := EReal) (HMul.hMul (α := EReal) (β := EReal) (∑ d : Fin 128, HMul.hMul (α := EReal) (β := EReal) (kc (ix2 j d)) (q (ix3 (0 : Fin 1) t d))) (HMul.hMul (α := EReal) (β := EReal) (qs (ix3 (0 : Fin 1) (0 : Fin 1) t)) nsc)) (ks (ix3 (0 : Fin 1) (0 : Fin 1) j))
  else ⊥

/-- The mask: a signed comparison of two positions is their order. -/
theorem select_sle {α : Type} (j t : Fin 512) (a b : α) :
    Scalar.select (IntOp.cmpi CmpIPredicate.sle (BitVec.ofNat 32 j.1) (BitVec.ofNat 32 t.1)) a b = if j.1 ≤ t.1 then a else b := by
  have hj := j.2
  have ht := t.2
  have e : (BitVec.ofNat 32 j.1).sle (BitVec.ofNat 32 t.1) = decide (j.1 ≤ t.1) := by
    rw [BitVec.sle_eq_decide, BitVec.toInt_ofNat', BitVec.toInt_ofNat']
    congr 1
    simp only [Int.bmod]
    apply propext
    constructor <;> intro h <;> omega
  by_cases h : j.1 ≤ t.1
  · rw [if_pos h]; simp [IntOp.cmpi, Scalar.select, e, h]
  · rw [if_neg h]; simp [IntOp.cmpi, Scalar.select, e, h]

theorem pay16_apply (j t : Fin 512) : k1_pay16 (k1_pay1 ks) q qs kc (ix2 j t) = kc2 q qs ks kc t j := by
  unfold kc2
  rw [← named_nsc]
  pointwise [k1_pay16, k1_pay1, k1_pay5, k1_pay6]
  rw [bot_f32]
  exact select_sle j t _ _

theorem pay17_apply (t : Fin 512) : k1_pay17 (k1_pay1 ks) q qs kc (ix2 (0 : Fin 1) t) = mx (kc2 q qs ks kc t) := by
  rw [show kc2 q qs ks kc t = fun j => k1_pay16 (k1_pay1 ks) q qs kc (ix2 j t) from funext fun j => (pay16_apply q qs ks kc j t).symm]
  pointwise [k1_pay17]
  rw [bot_f32]; rfl

theorem pay18_apply (j t : Fin 512) : k1_pay18 (k1_pay1 ks) q qs kc (ix2 j t)
    = Ideal.exp2 (kc2 q qs ks kc t j - mx (kc2 q qs ks kc t)) := by
  rw [← pay16_apply, ← pay17_apply]
  pointwise [k1_pay18]
  rfl

theorem pay19_apply (t : Fin 512) : k1_pay19 (k1_pay1 ks) q qs kc (ix1 t)
    = ∑ j, Ideal.exp2 (kc2 q qs ks kc t j - mx (kc2 q qs ks kc t)) := by
  rw [Finset.sum_congr rfl fun j _ => (pay18_apply q qs ks kc j t).symm]
  pointwise [k1_pay19]

end Cert.Value

end

end
-- ==== Proof.Value.Block1b.lean ====
/-
The attention kernel's three output blocks, element by element: what the plain functions of the arguments say.
-/
module

public import proofs.«01_k».proof.Proof.Value.Block1
public import proofs.«01_k».proof.Proof.Value.Spec

@[expose] public section

set_option maxRecDepth 16384

noncomputable section

namespace Cert.Value

open Idealize.ShloMosaic
open Cert.KernelIdeal Cert.KernelIdeal.Gen Cert.KernelIdeal.Hand
open scoped BigOperators

/-- The scale in base two is the scale over the root of the width, times the reciprocal of the natural logarithm of two. -/
theorem mul_nsc (x : EReal) : x * nsc = Ideal.div x (Ideal.sqrt ((128 : ℝ) : EReal)) * (lam : EReal) := by
  have h : Real.sqrt 128 ≠ 0 := (Real.sqrt_pos.2 (by norm_num)).ne'
  rw [Ideal.sqrt_coe, if_neg (by norm_num : ¬ (128 : ℝ) < 0), div_coe_ne _ _ h, mul_assoc, ← EReal.coe_mul, mul_comm (Real.sqrt 128)⁻¹]
  rfl

section Head

variable (q : Vec Ideal S1x512x128 .fp8e4m3) (qs : Vec Ideal S1x1x512 .f32) (x4 : Vec Ideal S1x8192x128 .bf16) (x5 : Vec Ideal S1x128x8192 .bf16)
  (ks vs : Vec Ideal S1x1x512 .f32) (kc vc : Vec Ideal S512x128 .fp8e4m3) (t : Fin 512)
  (s : Fin 8192 → EReal) (u : Fin 512 → EReal)

/-- The prompt's log-sum-exp. -/
theorem pay21_apply (hs : ∀ p, kp q qs x4 t p = s p * (lam : EReal)) :
    k1_pay21 (hM q qs x4) (hB q qs x4 x5).1 (ix2 (0 : Fin 1) t) = lse s := by
  have e : kp q qs x4 t = fun p => s p * (lam : EReal) := funext hs
  have h1 : hM q qs x4 (ix2 (0 : Fin 1) t) = mx s * (lam : EReal) := by rw [hM_apply, e, mx_mul_lam]
  have h2 : (hB q qs x4 x5).1 (ix2 (0 : Fin 1) t) = den s := by
    rw [hB1_apply, e]; exact Finset.sum_congr rfl fun p _ => exp2_eq_wt s p
  unfold lse
  rw [← mul_lam_log2 (mx s), ← h1, ← h2, ← named_ln2]
  generalize hM q qs x4 = M
  generalize (hB q qs x4 x5).1 = D
  pointwise [k1_pay21]

/-- The completion's log-sum-exp. -/
theorem pay22_apply (hu : ∀ j, kc2 q qs ks kc t j = u j * (lam : EReal)) :
    k1_pay22 (k1_pay17 (k1_pay1 ks) q qs kc) (k1_pay19 (k1_pay1 ks) q qs kc) (ix2 (0 : Fin 1) t) = lse u := by
  have e : kc2 q qs ks kc t = fun p => u p * (lam : EReal) := funext hu
  have h1 : k1_pay17 (k1_pay1 ks) q qs kc (ix2 (0 : Fin 1) t) = mx u * (lam : EReal) := by rw [pay17_apply, e, mx_mul_lam]
  have h2 : k1_pay19 (k1_pay1 ks) q qs kc (ix1 t) = den u := by
    rw [pay19_apply, e]; exact Finset.sum_congr rfl fun p _ => exp2_eq_wt u p
  unfold lse
  rw [← mul_lam_log2 (mx u), ← h1, ← h2, ← named_ln2]
  generalize k1_pay17 (k1_pay1 ks) q qs kc = M
  generalize k1_pay19 (k1_pay1 ks) q qs kc = D
  pointwise [k1_pay22, k1_pay20]

theorem pay24_apply (M D : FVec Ideal S1x512 .f32) : k1_pay24 M D (ix3 (0 : Fin 1) (0 : Fin 1) t)
    = HSub.hSub (α := EReal) (β := EReal) (k1_pay21 M D (ix2 (0 : Fin 1) t)) (Ideal.ofBits .f32 0x41102CB3#32) := by
  pointwise [k1_pay24]

theorem pay25_apply : k1_pay25 (F := Ideal) (ix2 (0 : Fin 1) t) = (((t.1 + 1 : ℕ) : ℝ) : EReal) := by
  pointwise [k1_pay25]
  have ht := t.2
  show (((IntOp.addi (BitVec.ofNat 32 t.1) 1#32).toInt : ℝ) : EReal) = _
  have e : (IntOp.addi (BitVec.ofNat 32 t.1) 1#32).toInt = ((t.1 + 1 : ℕ) : ℤ) := by
    show (BitVec.ofNat 32 t.1 + BitVec.ofNat 32 1).toInt = _
    rw [← BitVec.ofNat_add, BitVec.toInt_ofNat']
    simp only [Int.bmod]
    omega
  rw [e, Int.cast_natCast]

theorem pay4_apply (M D : FVec Ideal S1x512 .f32) : k1_pay4 M D (ix3 (0 : Fin 1) (0 : Fin 1) t)
    = HSub.hSub (α := EReal) (β := EReal) (M (ix2 (0 : Fin 1) t)) (Ideal.log (D (ix2 (0 : Fin 1) t))) := by
  pointwise [k1_pay4]

/-- The merged output of a head. -/
theorem pay23_apply (d : Fin 128) (M Dp : FVec Ideal S1x512 .f32) (Np : FVec Ideal S128x512 .f32) (Ms : FVec Ideal S1x512 .f32) (W : FVec Ideal S512x512 .f32) (Ds : FVec Ideal S512 .f32) :
    k1_pay23 (k1_pay2 vs) (k1_pay3 vc) M Dp Np Ms W Ds (ix3 (0 : Fin 1) t d)
      = mergeK (k1_pay21 M Dp (ix2 (0 : Fin 1) t)) (k1_pay22 Ms Ds (ix2 (0 : Fin 1) t)) (Dp (ix2 (0 : Fin 1) t)) (Ds (ix1 t)) (Np (ix2 d t))
        (∑ j : Fin 512, HMul.hMul (α := EReal) (β := EReal) (vc (ix2 j d)) (HMul.hMul (α := EReal) (β := EReal) (W (ix2 j t)) (vs (ix3 (0 : Fin 1) (0 : Fin 1) j)))) := by
  unfold mergeK
  pointwise [k1_pay23, k1_pay2, k1_pay3, k1_pay20]

end Head

/-- The blocks the attention reads for sequence `b` and key head `k`, in terms of the arguments. -/
structure Blocks (I : Inp) (b : Fin 32) (k : Fin 8) (x2 : Vec Ideal S7x512x128 .fp8e4m3) (x3 : Vec Ideal S1x7x512 .f32) (x4 : Vec Ideal S1x8192x128 .bf16)
    (x5 : Vec Ideal S1x128x8192 .bf16) (x6 : Vec Ideal S512x128 .fp8e4m3) (x7 : Vec Ideal S1x1x512 .f32) (x8 : Vec Ideal S512x128 .fp8e4m3)
    (x9 : Vec Ideal S1x1x512 .f32) : Prop where
  q : ∀ (g : Fin 7) (t : Fin 512) (d : Fin 128), x2 (ix3 g t d) = I.q b t (hd k g) d
  qs : ∀ (g : Fin 7) (t : Fin 512), x3 (ix3 (0 : Fin 1) g t) = I.qs b t (hd k g)
  key : ∀ (p : Fin 8192) (d : Fin 128), x4 (ix3 (0 : Fin 1) p d) = I.key p k d
  val : ∀ (p : Fin 8192) (d : Fin 128), x5 (ix3 (0 : Fin 1) d p) = I.val p k d
  ck : ∀ (j : Fin 512) (d : Fin 128), x6 (ix2 j d) = I.ck b j k d
  cks : ∀ j : Fin 512, x7 (ix3 (0 : Fin 1) (0 : Fin 1) j) = I.cks b j k
  cv : ∀ (j : Fin 512) (d : Fin 128), x8 (ix2 j d) = I.cv b j k d
  cvs : ∀ j : Fin 512, x9 (ix3 (0 : Fin 1) (0 : Fin 1) j) = I.cvs b j k

section Out

variable {I : Inp} {b : Fin 32} {k : Fin 8} {x2 : Vec Ideal S7x512x128 .fp8e4m3} {x3 : Vec Ideal S1x7x512 .f32} {x4 : Vec Ideal S1x8192x128 .bf16}
  {x5 : Vec Ideal S1x128x8192 .bf16} {x6 : Vec Ideal S512x128 .fp8e4m3} {x7 : Vec Ideal S1x1x512 .f32} {x8 : Vec Ideal S512x128 .fp8e4m3}
  {x9 : Vec Ideal S1x1x512 .f32} (B : Blocks I b k x2 x3 x4 x5 x6 x7 x8 x9)

/-- A trip of the loop over heads as a head. -/
def hg (g : Fin k1_t1_loop.trips) : Fin 7 := ⟨g.1, lt_of_lt_of_eq g.2 trips1⟩

theorem ldQ (x2 : Vec Ideal S7x512x128 .fp8e4m3) (g : Fin k1_t1_loop.trips) (t : Fin 512) (d : Fin 128) :
    View.ld x2 (rQ g) (ix3 (0 : Fin 1) t d) = x2 (ix3 (hg g) t d) := by
  refine View.ld_unit_apply_of _ _ _ _ _ _ fun a => ?_
  have e := congrFun (k1_off1_eq g) a
  refine Eq.trans ?_ (congrArg (· + ((ix3 (0 : Fin 1) t d) a : ℕ)) e.symm)
  match a with
  | ⟨0, _⟩ => rfl
  | ⟨1, _⟩ => exact (Nat.zero_add _).symm
  | ⟨2, _⟩ => exact (Nat.zero_add _).symm

theorem ldH (x3 : Vec Ideal S1x7x512 .f32) (g : Fin k1_t1_loop.trips) (t : Fin 512) :
    View.ld x3 (rH g) (ix3 (0 : Fin 1) (0 : Fin 1) t) = x3 (ix3 (0 : Fin 1) (hg g) t) := by
  refine View.ld_unit_apply_of _ _ _ _ _ _ fun a => ?_
  have e := congrFun (k1_off2_eq g) a
  refine Eq.trans ?_ (congrArg (· + ((ix3 (0 : Fin 1) (0 : Fin 1) t) a : ℕ)) e.symm)
  match a with
  | ⟨0, _⟩ => rfl
  | ⟨1, _⟩ => rfl
  | ⟨2, _⟩ => exact (Nat.zero_add _).symm

theorem ldT (x : Vec Ideal S1x1x512 .f32) : View.ld x rT = x := View.ld_unit_zero (funext fun a => by match a with | ⟨0, _⟩ => rfl | ⟨1, _⟩ => rfl | ⟨2, _⟩ => rfl) _ x
theorem ldC (x : Vec Ideal S512x128 .fp8e4m3) : View.ld x rC = x := View.ld_unit_zero (funext fun a => by match a with | ⟨0, _⟩ => rfl | ⟨1, _⟩ => rfl) _ x

include B

theorem hs_of (g : Fin k1_t1_loop.trips) (t : Fin 512) (p : Fin 8192) :
    kp (View.ld x2 (rQ g)) (View.ld x3 (rH g)) x4 t p = I.sp b t k (hg g) p * (lam : EReal) := by
  unfold kp Inp.sp Inp.scale
  rw [ldH, B.qs, mul_nsc, ← mul_assoc]
  refine congrArg₂ (HMul.hMul (α := EReal) (β := EReal)) (congrArg₂ (HMul.hMul (α := EReal) (β := EReal)) (Finset.sum_congr rfl fun d _ => ?_) rfl) rfl
  rw [ldQ, B.q, B.key]

theorem hu_of (g : Fin k1_t1_loop.trips) (t : Fin 512) (j : Fin 512) :
    kc2 (View.ld x2 (rQ g)) (View.ld x3 (rH g)) x7 x6 t j = I.ss b t k (hg g) j * (lam : EReal) := by
  unfold kc2 Inp.ss Inp.scale
  split
  · rw [ldH, B.qs, mul_nsc, B.cks, ← mul_assoc, mul_right_comm]
    refine congrArg₂ (HMul.hMul (α := EReal) (β := EReal)) (congrArg₂ (HMul.hMul (α := EReal) (β := EReal)) (congrArg₂ (HMul.hMul (α := EReal) (β := EReal)) (Finset.sum_congr rfl fun d _ => ?_) rfl) rfl) rfl
    rw [ldQ, B.q, B.ck]
  · exact bot_mul_lam.symm

theorem hLp_apply (g : Fin k1_t1_loop.trips) (t : Fin 512) : hLp x2 x3 x4 x5 g (ix3 (0 : Fin 1) (0 : Fin 1) t) = I.out2 b t k (hg g) := by
  unfold hLp Inp.out2
  rw [pay24_apply, pay21_apply _ _ _ _ t _ (hs_of B g t)]

theorem hLs_apply (g : Fin k1_t1_loop.trips) (t : Fin 512) : hLs x2 x3 x6 (View.ld x7 rT) g (ix3 (0 : Fin 1) (0 : Fin 1) t) = I.out3 b t k (hg g) := by
  unfold hLs Inp.out3
  rw [ldT, ldC, pay4_apply, pay22_apply _ _ _ _ t _ (hu_of B g t), pay25_apply]

theorem hO_apply (g : Fin k1_t1_loop.trips) (t : Fin 512) (d : Fin 128) :
    hO x2 x3 x4 x5 x6 (View.ld x7 rT) (View.ld x9 rT) (View.ld x8 rC) g (ix3 (0 : Fin 1) t d) = I.out1 b t k (hg g) d := by
  have e1 : kp (View.ld x2 (rQ g)) (View.ld x3 (rH g)) x4 t = fun p => I.sp b t k (hg g) p * (lam : EReal) := funext (hs_of B g t)
  have e2 : kc2 (View.ld x2 (rQ g)) (View.ld x3 (rH g)) x7 x6 t = fun p => I.ss b t k (hg g) p * (lam : EReal) := funext (hu_of B g t)
  unfold hO Inp.out1
  rw [ldT, ldT, ldC, ldC, pay23_apply, pay21_apply _ _ _ _ t _ (hs_of B g t), pay22_apply _ _ _ _ t _ (hu_of B g t)]
  rw [show (hB (View.ld x2 (rQ g)) (View.ld x3 (rH g)) x4 x5).1 (ix2 (0 : Fin 1) t) = den (I.sp b t k (hg g)) by
    rw [hB1_apply, e1]; exact Finset.sum_congr rfl fun p _ => exp2_eq_wt _ p]
  rw [show k1_pay19 (k1_pay1 x7) (View.ld x2 (rQ g)) (View.ld x3 (rH g)) x6 (ix1 t) = den (I.ss b t k (hg g)) by
    rw [pay19_apply, e2]; exact Finset.sum_congr rfl fun p _ => exp2_eq_wt _ p]
  rw [show (hB (View.ld x2 (rQ g)) (View.ld x3 (rH g)) x4 x5).2 (ix2 d t) = I.np b t k (hg g) d by
    rw [hB2_apply, e1]
    refine Finset.sum_congr rfl fun p _ => ?_
    rw [B.val]
    exact congrArg _ (exp2_eq_wt (I.sp b t k (hg g)) p)]
  rw [show (∑ j : Fin 512, HMul.hMul (α := EReal) (β := EReal) (x8 (ix2 j d)) (HMul.hMul (α := EReal) (β := EReal) (k1_pay18 (k1_pay1 x7) (View.ld x2 (rQ g)) (View.ld x3 (rH g)) x6 (ix2 j t)) (x9 (ix3 (0 : Fin 1) (0 : Fin 1) j))))
      = I.ns b t k (hg g) d by
    refine Finset.sum_congr rfl fun j _ => ?_
    rw [pay18_apply, e2, B.cv, B.cvs]
    exact congrArg _ (congrArg (· * I.cvs b j k) (exp2_eq_wt (I.ss b t k (hg g)) j))]
  exact merge_eq (I.side_p b t k (hg g) d) (I.side_s b t k (hg g) d)

/-- The three output blocks. -/
theorem out1_8_apply (y : S1x512x896.Idx) : out1_8 x2 x3 x4 x5 x6 x7 x8 x9 y
    = I.out1 b (y 1) k (⟨(y 2).1 / 128, by have : (y 2).1 < 896 := (y 2).2; omega⟩ : Fin 7) (⟨(y 2).1 % 128, by omega⟩ : Fin 128) := by
  refine View.canon_apply_of_pieces (Val := Elt Ideal) (e := .bf16)
    (fun y : S1x512x896.Idx => I.out1 b (y 1) k (⟨(y 2).1 / 128, by have : (y 2).1 < 896 := (y 2).2; omega⟩ : Fin 7) (⟨(y 2).1 % 128, by omega⟩ : Fin 128)) _ ?_ y (coverO _ y)
  intro p hp i
  obtain ⟨g, _, rfl⟩ := of_mem_pcsG _ _ p hp
  have h1 : ((rO g).emb i 1 : ℕ) = k1_off7 g 1 + i 1 := ValueKit.rect_emb_unit_val (s := S1x512x896) (k1_off7 g) S1x512x128.size _ i 1
  have h2 : ((rO g).emb i 2 : ℕ) = k1_off7 g 2 + i 2 := ValueKit.rect_emb_unit_val (s := S1x512x896) (k1_off7 g) S1x512x128.size _ i 2
  rw [show k1_off7 g 1 = 0 from congrFun (k1_off7_eq g) 1, Nat.zero_add] at h1
  rw [show k1_off7 g 2 = 128 * g.1 from congrFun (k1_off7_eq g) 2] at h2
  have h3 : (i 2).1 < 128 := (i 2).2
  have ei : i = ix3 (0 : Fin 1) (i 1) (i 2) := by
    refine funext fun a => ?_
    match a with
    | ⟨0, _⟩ => exact Fin.ext (by have : (i 0).1 < 1 := (i 0).2; show (i 0).1 = 0; omega)
    | ⟨1, _⟩ => rfl
    | ⟨2, _⟩ => rfl
  refine (congrArg _ ei).trans ((hO_apply B g (i 1) (i 2)).trans ?_)
  congr 1
  · exact Fin.ext h1.symm
  · exact Fin.ext (by show g.1 = ((rO g).emb i 2 : ℕ) / 128; rw [h2]; omega)
  · exact Fin.ext (by show (i 2).1 = ((rO g).emb i 2 : ℕ) % 128; rw [h2]; omega)

theorem out1_9_apply (y : S1x7x512.Idx) : out1_9 x2 x3 x4 x5 y = I.out2 b (y 2) k (y 1) := by
  refine View.canon_apply_of_pieces (Val := Elt Ideal) (e := .f32) (fun y : S1x7x512.Idx => I.out2 b (y 2) k (y 1)) _ ?_ y (coverH _ y)
  intro p hp i
  obtain ⟨g, _, rfl⟩ := of_mem_pcsG _ _ p hp
  have h1 : ((rH g).emb i 1 : ℕ) = k1_off2 g 1 + i 1 := ValueKit.rect_emb_unit_val (s := S1x7x512) (k1_off2 g) S1x1x512.size _ i 1
  have h2 : ((rH g).emb i 2 : ℕ) = k1_off2 g 2 + i 2 := ValueKit.rect_emb_unit_val (s := S1x7x512) (k1_off2 g) S1x1x512.size _ i 2
  rw [show k1_off2 g 1 = g.1 from congrFun (k1_off2_eq g) 1] at h1
  rw [show k1_off2 g 2 = 0 from congrFun (k1_off2_eq g) 2, Nat.zero_add] at h2
  have h3 : (i 1).1 < 1 := (i 1).2
  have ei : i = ix3 (0 : Fin 1) (0 : Fin 1) (i 2) := by
    refine funext fun a => ?_
    match a with
    | ⟨0, _⟩ => exact Fin.ext (by have : (i 0).1 < 1 := (i 0).2; show (i 0).1 = 0; omega)
    | ⟨1, _⟩ => exact Fin.ext (by show (i 1).1 = 0; omega)
    | ⟨2, _⟩ => rfl
  refine (congrArg _ ei).trans ((hLp_apply B g (i 2)).trans ?_)
  congr 1
  · exact Fin.ext h2.symm
  · exact Fin.ext (by show g.1 = ((rH g).emb i 1 : ℕ); omega)

theorem out1_10_apply (y : S1x7x512.Idx) : out1_10 x2 x3 x6 x7 y = I.out3 b (y 2) k (y 1) := by
  refine View.canon_apply_of_pieces (Val := Elt Ideal) (e := .f32) (fun y : S1x7x512.Idx => I.out3 b (y 2) k (y 1)) _ ?_ y (coverH _ y)
  intro p hp i
  obtain ⟨g, _, rfl⟩ := of_mem_pcsG _ _ p hp
  have h1 : ((rH g).emb i 1 : ℕ) = k1_off2 g 1 + i 1 := ValueKit.rect_emb_unit_val (s := S1x7x512) (k1_off2 g) S1x1x512.size _ i 1
  have h2 : ((rH g).emb i 2 : ℕ) = k1_off2 g 2 + i 2 := ValueKit.rect_emb_unit_val (s := S1x7x512) (k1_off2 g) S1x1x512.size _ i 2
  rw [show k1_off2 g 1 = g.1 from congrFun (k1_off2_eq g) 1] at h1
  rw [show k1_off2 g 2 = 0 from congrFun (k1_off2_eq g) 2, Nat.zero_add] at h2
  have h3 : (i 1).1 < 1 := (i 1).2
  have ei : i = ix3 (0 : Fin 1) (0 : Fin 1) (i 2) := by
    refine funext fun a => ?_
    match a with
    | ⟨0, _⟩ => exact Fin.ext (by have : (i 0).1 < 1 := (i 0).2; show (i 0).1 = 0; omega)
    | ⟨1, _⟩ => exact Fin.ext (by show (i 1).1 = 0; omega)
    | ⟨2, _⟩ => rfl
  refine (congrArg _ ei).trans ((hLs_apply B g (i 2)).trans ?_)
  congr 1
  · exact Fin.ext h2.symm
  · exact Fin.ext (by show g.1 = ((rH g).emb i 1 : ℕ); omega)

end Out

end Cert.Value

end

end
-- ==== Proof.Value.Cols.lean ====
/-
The flat columns of the results as heads and lanes, and equal coordinates giving equal values.
-/
module

public import proofs.«01_k».proof.Proof.Value.Spec

@[expose] public section

noncomputable section

namespace Cert.Value

/-- The key head of query head `h`, -/
def kh (h : Fin 56) : Fin 8 := ⟨h.1 / 7, by have := h.2; omega⟩
/-- and its place among the seven that share it. -/
def gh (h : Fin 56) : Fin 7 := ⟨h.1 % 7, by omega⟩
/-- The head of column `n`, -/
def hn (n : Fin 7168) : Fin 56 := ⟨n.1 / 128, by have := n.2; omega⟩
/-- and its lane. -/
def dn (n : Fin 7168) : Fin 128 := ⟨n.1 % 128, by omega⟩
/-- The sequence of flat row `n`, -/
def bn (n : Fin 16384) : Fin 32 := ⟨n.1 / 512, by have := n.2; omega⟩
/-- and its position there. -/
def tn (n : Fin 16384) : Fin 512 := ⟨n.1 % 512, by omega⟩

theorem out1_congr (I : Inp) {b b' : Fin 32} {t t' : Fin 512} {k k' : Fin 8} {g g' : Fin 7} {d d' : Fin 128}
    (hb : b.1 = b'.1) (ht : t.1 = t'.1) (hk : k.1 = k'.1) (hg : g.1 = g'.1) (hd : d.1 = d'.1) : I.out1 b t k g d = I.out1 b' t' k' g' d' := by
  obtain rfl := Fin.ext hb; obtain rfl := Fin.ext ht; obtain rfl := Fin.ext hk; obtain rfl := Fin.ext hg; obtain rfl := Fin.ext hd; rfl
theorem out2_congr (I : Inp) {b b' : Fin 32} {t t' : Fin 512} {k k' : Fin 8} {g g' : Fin 7}
    (hb : b.1 = b'.1) (ht : t.1 = t'.1) (hk : k.1 = k'.1) (hg : g.1 = g'.1) : I.out2 b t k g = I.out2 b' t' k' g' := by
  obtain rfl := Fin.ext hb; obtain rfl := Fin.ext ht; obtain rfl := Fin.ext hk; obtain rfl := Fin.ext hg; rfl
theorem out3_congr (I : Inp) {b b' : Fin 32} {t t' : Fin 512} {k k' : Fin 8} {g g' : Fin 7}
    (hb : b.1 = b'.1) (ht : t.1 = t'.1) (hk : k.1 = k'.1) (hg : g.1 = g'.1) : I.out3 b t k g = I.out3 b' t' k' g' := by
  obtain rfl := Fin.ext hb; obtain rfl := Fin.ext ht; obtain rfl := Fin.ext hk; obtain rfl := Fin.ext hg; rfl

end Cert.Value

end

end
-- ==== Proof.Value.Arr1.lean ====
/-
The attention's three arrays after the second region, by the coordinates of the arguments.
-/
module

public import proofs.«01_k».proof.Proof.Value.Arr0
public import proofs.«01_k».proof.Proof.Value.Block1b
public import proofs.«01_k».proof.Proof.Value.Cols
public import Idealize.ShloMosaic.Lib.Pipeline.ValueKit.Point
public import Idealize.ShloMosaic.Lib.Tactic
public import Idealize.ShloMosaic.Lib.Exec

@[expose] public section

set_option maxRecDepth 16384

noncomputable section

namespace Cert.Value

open Idealize.ShloMosaic Idealize.ShloMosaic.TcCoe
open Cert.KernelIdeal Cert.KernelIdeal.Gen Cert.KernelIdeal.Hand

variable (m : (ℓ : Loc nD τ sig) → Buf (Elt Ideal) ℓ)

/-- The ten arguments, by their coordinates. -/
def inpOf (c : Dev nD) : Inp where
  q b t h d := (m ((c : Thread nD τ).loc main_arg0) : FVec Ideal S32x512x56x128 .fp8e4m3) (ix4 b t h d)
  qs b t h := (m ((c : Thread nD τ).loc main_arg1) : FVec Ideal S32x512x56 .f32) (ix3 b t h)
  pk p k d := (m ((c : Thread nD τ).loc main_arg2) : FVec Ideal S8192x8x128 .fp8e4m3) (ix3 p k d)
  pks n k d := (m ((c : Thread nD τ).loc main_arg3) : FVec Ideal S64x8x128 .f32) (ix3 n k d)
  pv p k d := (m ((c : Thread nD τ).loc main_arg4) : FVec Ideal S8192x8x128 .fp8e4m3) (ix3 p k d)
  pvs n k d := (m ((c : Thread nD τ).loc main_arg5) : FVec Ideal S64x8x128 .f32) (ix3 n k d)
  ck b j k d := (m ((c : Thread nD τ).loc main_arg6) : FVec Ideal S32x512x8x128 .fp8e4m3) (ix4 b j k d)
  cks b j k := (m ((c : Thread nD τ).loc main_arg7) : FVec Ideal S32x512x8 .f32) (ix3 b j k)
  cv b j k d := (m ((c : Thread nD τ).loc main_arg8) : FVec Ideal S32x512x8x128 .fp8e4m3) (ix4 b j k d)
  cvs b j k := (m ((c : Thread nD τ).loc main_arg9) : FVec Ideal S32x512x8 .f32) (ix3 b j k)

/-! ## The reshaped and transposed arguments -/

theorem e1_v6 (c : Dev nD) : (E1 m c main_v6 : FVec Ideal S56x16384x128 .fp8e4m3)
    = transpose S56x16384x128 [1, 0, 2] (shapeCast S16384x56x128 (m ((c : Thread nD τ).loc main_arg0) : FVec Ideal S32x512x56x128 .fp8e4m3) shapeCasts_S32x512x56x128_S16384x56x128) transposes_S16384x56x128_S56x16384x128_1_0_2 := rfl
theorem e1_v8 (c : Dev nD) : (E1 m c main_v8 : FVec Ideal S8x7x16384 .f32)
    = transpose S8x7x16384 [1, 2, 0] (shapeCast S16384x8x7 (m ((c : Thread nD τ).loc main_arg1) : FVec Ideal S32x512x56 .f32) shapeCasts_S32x512x56_S16384x8x7) transposes_S16384x8x7_S8x7x16384_1_2_0 := rfl
theorem e1_v9 (c : Dev nD) : (E1 m c main_v9 : FVec Ideal S16384x1024 .fp8e4m3)
    = shapeCast S16384x1024 (m ((c : Thread nD τ).loc main_arg6) : FVec Ideal S32x512x8x128 .fp8e4m3) shapeCasts_S32x512x8x128_S16384x1024 := rfl
theorem e1_v10 (c : Dev nD) : (E1 m c main_v10 : FVec Ideal S16384x1024 .fp8e4m3)
    = shapeCast S16384x1024 (m ((c : Thread nD τ).loc main_arg8) : FVec Ideal S32x512x8x128 .fp8e4m3) shapeCasts_S32x512x8x128_S16384x1024 := rfl
theorem e1_v13 (c : Dev nD) : (E1 m c main_v13 : FVec Ideal S8x1x16384 .f32)
    = shapeCast S8x1x16384 (transpose S8x16384 [1, 0] (shapeCast S16384x8 (m ((c : Thread nD τ).loc main_arg7) : FVec Ideal S32x512x8 .f32) shapeCasts_S32x512x8_S16384x8) transposes_S16384x8_S8x16384_1_0) shapeCasts_S8x16384_S8x1x16384 := rfl
theorem e1_v16 (c : Dev nD) : (E1 m c main_v16 : FVec Ideal S8x1x16384 .f32)
    = shapeCast S8x1x16384 (transpose S8x16384 [1, 0] (shapeCast S16384x8 (m ((c : Thread nD τ).loc main_arg9) : FVec Ideal S32x512x8 .f32) shapeCasts_S32x512x8_S16384x8) transposes_S16384x8_S8x16384_1_0) shapeCasts_S8x16384_S8x1x16384 := rfl
theorem e1_v4_0 (c : Dev nD) : (E1 m c main_v4_0 : FVec Ideal S8x8192x128 .bf16)
    = K4 (m ((c : Thread nD τ).loc main_arg2)) (m ((c : Thread nD τ).loc main_arg3)) := by
  rw [← arr0_4]
  exact (show E1 m c main_v4_0 = W2 m c (Proc.devRef .tc main_v4_0) from rfl).trans
    (Pipeline.afterRegion_arr (dat0 m c) (Gen.V1 m c) launch0.win.arr_inj 4)
theorem e1_v4_1 (c : Dev nD) : (E1 m c main_v4_1 : FVec Ideal S8x128x8192 .bf16)
    = K5 (m ((c : Thread nD τ).loc main_arg4)) (m ((c : Thread nD τ).loc main_arg5)) := by
  rw [← arr0_5]
  exact (show E1 m c main_v4_1 = W2 m c (Proc.devRef .tc main_v4_1) from rfl).trans
    (Pipeline.afterRegion_arr (dat0 m c) (Gen.V1 m c) launch0.win.arr_inj 5)

theorem rd_q {α : Type} (A : S32x512x56x128.Idx → α) (h : Fin 56) (n : Fin 16384) (d : Fin 128) :
    transpose S56x16384x128 [1, 0, 2] (shapeCast S16384x56x128 A shapeCasts_S32x512x56x128_S16384x56x128) transposes_S16384x56x128_S56x16384x128_1_0_2 (ix3 h n d)
      = A (ix4 (bn n) (tn n) h d) := by
  unfold bn tn
  pointwise
theorem rd_qs {α : Type} (A : S32x512x56.Idx → α) (k : Fin 8) (g : Fin 7) (n : Fin 16384) :
    transpose S8x7x16384 [1, 2, 0] (shapeCast S16384x8x7 A shapeCasts_S32x512x56_S16384x8x7) transposes_S16384x8x7_S8x7x16384_1_2_0 (ix3 k g n)
      = A (ix3 (bn n) (tn n) (hd k g)) := by
  unfold bn tn hd
  pointwise
  exact congrArg (fun x => A (ix3 _ _ x)) (Fin.ext (by show k.1 * 7 + g.1 = 7 * k.1 + g.1; omega))
theorem rd_c {α : Type} (A : S32x512x8x128.Idx → α) (n : Fin 16384) (x : Fin 1024) :
    shapeCast S16384x1024 A shapeCasts_S32x512x8x128_S16384x1024 (ix2 n x)
      = A (ix4 (bn n) (tn n) (⟨x.1 / 128, by have := x.2; omega⟩ : Fin 8) (⟨x.1 % 128, by omega⟩ : Fin 128)) := by
  unfold bn tn
  pointwise
theorem rd_s {α : Type} (A : S32x512x8.Idx → α) (k : Fin 8) (n : Fin 16384) :
    shapeCast S8x1x16384 (transpose S8x16384 [1, 0] (shapeCast S16384x8 A shapeCasts_S32x512x8_S16384x8) transposes_S16384x8_S8x16384_1_0) shapeCasts_S8x16384_S8x1x16384 (ix3 k (0 : Fin 1) n)
      = A (ix3 (bn n) (tn n) k) := by
  unfold bn tn
  pointwise

/-! ## The blocks at a point -/

/-- The key head of point `t`, -/
def kt (t : Fin cfg1.N) : Fin 8 := ⟨t.1 / 32, by have : t.1 < 256 := t.2; omega⟩
/-- and its sequence. -/
def bt (t : Fin cfg1.N) : Fin 32 := ⟨t.1 % 32, by omega⟩

theorem idx1_0 : ∀ t : Fin cfg1.N, win1_0.index t = ![t.1 / 32, t.1 % 32, 0] := (by decide +kernel : ∀ t : Fin grid1.N, _)
theorem idx1_1 : ∀ t : Fin cfg1.N, win1_1.index t = ![t.1 / 32, 0, t.1 % 32] := (by decide +kernel : ∀ t : Fin grid1.N, _)
theorem idx1_2 : ∀ t : Fin cfg1.N, win1_2.index t = ![t.1 / 32, 0, 0] := (by decide +kernel : ∀ t : Fin grid1.N, _)
theorem idx1_3 : ∀ t : Fin cfg1.N, win1_3.index t = ![t.1 / 32, 0, 0] := (by decide +kernel : ∀ t : Fin grid1.N, _)
theorem idx1_4 : ∀ t : Fin cfg1.N, win1_4.index t = ![t.1 % 32, t.1 / 32] := (by decide +kernel : ∀ t : Fin grid1.N, _)
theorem idx1_5 : ∀ t : Fin cfg1.N, win1_5.index t = ![t.1 / 32, 0, t.1 % 32] := (by decide +kernel : ∀ t : Fin grid1.N, _)
theorem idx1_6 : ∀ t : Fin cfg1.N, win1_6.index t = ![t.1 % 32, t.1 / 32] := (by decide +kernel : ∀ t : Fin grid1.N, _)
theorem idx1_7 : ∀ t : Fin cfg1.N, win1_7.index t = ![t.1 / 32, 0, t.1 % 32] := (by decide +kernel : ∀ t : Fin grid1.N, _)
theorem idx1_8 : ∀ t : Fin cfg1.N, win1_8.index t = ![t.1 % 32, 0, t.1 / 32] := (by decide +kernel : ∀ t : Fin grid1.N, _)
theorem idx1_9 : ∀ t : Fin cfg1.N, win1_9.index t = ![t.1 / 32, 0, t.1 % 32] := (by decide +kernel : ∀ t : Fin grid1.N, _)
theorem idx1_10 : ∀ t : Fin cfg1.N, win1_10.index t = ![t.1 / 32, 0, t.1 % 32] := (by decide +kernel : ∀ t : Fin grid1.N, _)

/-- Row `s` of sequence `b` among the flat rows. -/
def row (b : Fin 32) (s : Fin 512) : Fin 16384 := ⟨512 * b.1 + s.1, by have := b.2; have := s.2; omega⟩
theorem bn_row (b : Fin 32) (s : Fin 512) : bn (row b s) = b := Fin.ext (by have := s.2; show (512 * b.1 + s.1) / 512 = b.1; omega)
theorem tn_row (b : Fin 32) (s : Fin 512) : tn (row b s) = s := Fin.ext (by have := s.2; show (512 * b.1 + s.1) % 512 = s.1; omega)
/-- Lane `d` of head `k` among the flat columns. -/
def col (k : Fin 8) (d : Fin 128) : Fin 1024 := ⟨128 * k.1 + d.1, by have := k.2; have := d.2; omega⟩

section Point

variable (c : Dev nD) (t : Fin cfg1.N)

theorem blk0 (g : Fin 7) (s : Fin 512) (d : Fin 128) : (iblk1 m c 0 t : Vec Ideal S7x512x128 .fp8e4m3) (ix3 g s d)
    = (E1 m c main_v6 : FVec Ideal S56x16384x128 .fp8e4m3) (ix3 (hd (kt t) g) (row (bt t) s) d) := by
  blk_simp [iblk1]
  unfold hd kt row bt
  blk_ext [idx1_0 t]
theorem blk1 (g : Fin 7) (s : Fin 512) : (iblk1 m c 1 t : Vec Ideal S1x7x512 .f32) (ix3 (0 : Fin 1) g s)
    = (E1 m c main_v8 : FVec Ideal S8x7x16384 .f32) (ix3 (kt t) g (row (bt t) s)) := by
  blk_simp [iblk1]
  unfold kt row bt
  blk_ext [idx1_1 t]
theorem blk2 (p : Fin 8192) (d : Fin 128) : (iblk1 m c 2 t : Vec Ideal S1x8192x128 .bf16) (ix3 (0 : Fin 1) p d)
    = (E1 m c main_v4_0 : FVec Ideal S8x8192x128 .bf16) (ix3 (kt t) p d) := by
  blk_simp [iblk1]
  unfold kt
  blk_ext [idx1_2 t]
theorem blk3 (p : Fin 8192) (d : Fin 128) : (iblk1 m c 3 t : Vec Ideal S1x128x8192 .bf16) (ix3 (0 : Fin 1) d p)
    = (E1 m c main_v4_1 : FVec Ideal S8x128x8192 .bf16) (ix3 (kt t) d p) := by
  blk_simp [iblk1]
  unfold kt
  blk_ext [idx1_3 t]
theorem blk4 (j : Fin 512) (d : Fin 128) : (iblk1 m c 4 t : Vec Ideal S512x128 .fp8e4m3) (ix2 j d)
    = (E1 m c main_v9 : FVec Ideal S16384x1024 .fp8e4m3) (ix2 (row (bt t) j) (col (kt t) d)) := by
  blk_simp [iblk1]
  unfold kt row bt col
  blk_ext [idx1_4 t]
theorem blk5 (j : Fin 512) : (iblk1 m c 5 t : Vec Ideal S1x1x512 .f32) (ix3 (0 : Fin 1) (0 : Fin 1) j)
    = (E1 m c main_v13 : FVec Ideal S8x1x16384 .f32) (ix3 (kt t) (0 : Fin 1) (row (bt t) j)) := by
  blk_simp [iblk1]
  unfold kt row bt
  blk_ext [idx1_5 t]
theorem blk6 (j : Fin 512) (d : Fin 128) : (iblk1 m c 6 t : Vec Ideal S512x128 .fp8e4m3) (ix2 j d)
    = (E1 m c main_v10 : FVec Ideal S16384x1024 .fp8e4m3) (ix2 (row (bt t) j) (col (kt t) d)) := by
  blk_simp [iblk1]
  unfold kt row bt col
  blk_ext [idx1_6 t]
theorem blk7 (j : Fin 512) : (iblk1 m c 7 t : Vec Ideal S1x1x512 .f32) (ix3 (0 : Fin 1) (0 : Fin 1) j)
    = (E1 m c main_v16 : FVec Ideal S8x1x16384 .f32) (ix3 (kt t) (0 : Fin 1) (row (bt t) j)) := by
  blk_simp [iblk1]
  unfold kt row bt
  blk_ext [idx1_7 t]

theorem rd_col {α : Type} (A : S32x512x8x128.Idx → α) (b : Fin 32) (j : Fin 512) (k : Fin 8) (d : Fin 128) :
    shapeCast S16384x1024 A shapeCasts_S32x512x8x128_S16384x1024 (ix2 (row b j) (col k d)) = A (ix4 b j k d) := by
  rw [rd_c, bn_row, tn_row]
  congr 1
  have e1 : (⟨(col k d).1 / 128, by have := (col k d).2; omega⟩ : Fin 8) = k := Fin.ext (by have := d.2; show (128 * k.1 + d.1) / 128 = k.1; omega)
  have e2 : (⟨(col k d).1 % 128, by omega⟩ : Fin 128) = d := Fin.ext (by have := d.2; show (128 * k.1 + d.1) % 128 = d.1; omega)
  rw [e1, e2]

theorem blocks_at : Blocks (inpOf m c) (bt t) (kt t) (iblk1 m c 0 t) (iblk1 m c 1 t) (iblk1 m c 2 t) (iblk1 m c 3 t) (iblk1 m c 4 t)
    (iblk1 m c 5 t) (iblk1 m c 6 t) (iblk1 m c 7 t) where
  q g s d := by rw [blk0, e1_v6, rd_q, bn_row, tn_row]; rfl
  qs g s := by rw [blk1, e1_v8, rd_qs, bn_row, tn_row]; rfl
  key p d := by rw [blk2, e1_v4_0]; rfl
  val p d := by rw [blk3, e1_v4_1]; rfl
  ck j d := by rw [blk4, e1_v9, rd_col]; rfl
  cks j := by rw [blk5, e1_v13, rd_s, bn_row, tn_row]; rfl
  cv j d := by rw [blk6, e1_v10, rd_col]; rfl
  cvs j := by rw [blk7, e1_v16, rd_s, bn_row, tn_row]; rfl

end Point

/-! ## The three arrays -/

/-- The merged attention, by flat column. -/
def G1 (I : Inp) : FVec Ideal S32x512x7168 .bf16 := fun i => I.out1 (i 0) (i 1) (kh (hn (i 2))) (gh (hn (i 2))) (dn (i 2))
/-- The prompt's log-mean-exp, by flat row. -/
def G2 (I : Inp) : FVec Ideal S8x7x16384 .f32 := fun i => I.out2 (bn (i 2)) (tn (i 2)) (i 0) (i 1)
/-- The completion's log-mean-exp, by flat row. -/
def G3 (I : Inp) : FVec Ideal S8x7x16384 .f32 := fun i => I.out3 (bn (i 2)) (tn (i 2)) (i 0) (i 1)

theorem kh_of (n : Fin 7168) (a b : ℕ) (h : n.1 = a * 896 + b) (hb : b < 896) : a = (kh (hn n)).1 := by show a = n.1 / 128 / 7; omega
theorem gh_of (n : Fin 7168) (a b : ℕ) (h : n.1 = a * 896 + b) (hb : b < 896) : b / 128 = (gh (hn n)).1 := by show b / 128 = n.1 / 128 % 7; omega
theorem dn_of (n : Fin 7168) (a b : ℕ) (h : n.1 = a * 896 + b) (hb : b < 896) : b % 128 = (dn n).1 := by show b % 128 = n.1 % 128; omega
theorem bn_of (n : Fin 16384) (a b : ℕ) (h : n.1 = a * 512 + b) (hb : b < 512) : a = (bn n).1 := by show a = n.1 / 512; omega
theorem tn_of (n : Fin 16384) (a b : ℕ) (h : n.1 = a * 512 + b) (hb : b < 512) : b = (tn n).1 := by show b = n.1 % 512; omega

theorem arr1_8 (c : Dev nD) : (dat1 m c).arrAt 8 cfg1.N = G1 (inpOf m c) := by
  refine (dat1 m c).arrAt_eq_of_covers 8 _ (by decide +kernel) fun t hf y => ?_
  blk_simp
  rw [after1_8, out1_8_apply (blocks_at m c t)]
  unfold G1
  have h0 : (((win1_8.blk t).view.emb y 0).1 : ℕ) = t.1 % 32 := by blk_simp [idx1_8 t] <;> idx_bounds_all <;> omega
  have h1 : (((win1_8.blk t).view.emb y 1).1 : ℕ) = (y 1).1 := by blk_simp [idx1_8 t] <;> idx_bounds_all <;> omega
  have h2 : (((win1_8.blk t).view.emb y 2).1 : ℕ) = t.1 / 32 * 896 + (y 2).1 := by blk_simp [idx1_8 t] <;> idx_bounds_all <;> omega
  have hy : (y 2).1 < 896 := (y 2).2
  refine out1_congr _ ?_ ?_ ?_ ?_ ?_
  · exact h0.symm
  · exact h1.symm
  · exact kh_of _ _ _ h2 hy
  · exact gh_of _ _ _ h2 hy
  · exact dn_of _ _ _ h2 hy
theorem arr1_9 (c : Dev nD) : (dat1 m c).arrAt 9 cfg1.N = G2 (inpOf m c) := by
  refine (dat1 m c).arrAt_eq_of_covers 9 _ (by decide +kernel) fun t hf y => ?_
  blk_simp
  rw [after1_9, out1_9_apply (blocks_at m c t)]
  unfold G2
  have h0 : (((win1_9.blk t).view.emb y 0).1 : ℕ) = t.1 / 32 := by blk_simp [idx1_9 t] <;> idx_bounds_all <;> omega
  have h1 : (((win1_9.blk t).view.emb y 1).1 : ℕ) = (y 1).1 := by blk_simp [idx1_9 t] <;> idx_bounds_all <;> omega
  have h2 : (((win1_9.blk t).view.emb y 2).1 : ℕ) = t.1 % 32 * 512 + (y 2).1 := by blk_simp [idx1_9 t] <;> idx_bounds_all <;> omega
  have hy : (y 2).1 < 512 := (y 2).2
  refine out2_congr _ ?_ ?_ ?_ ?_
  · exact bn_of _ _ _ h2 hy
  · exact tn_of _ _ _ h2 hy
  · exact h0.symm
  · exact h1.symm
theorem arr1_10 (c : Dev nD) : (dat1 m c).arrAt 10 cfg1.N = G3 (inpOf m c) := by
  refine (dat1 m c).arrAt_eq_of_covers 10 _ (by decide +kernel) fun t hf y => ?_
  blk_simp
  rw [after1_10, out1_10_apply (blocks_at m c t)]
  unfold G3
  have h0 : (((win1_10.blk t).view.emb y 0).1 : ℕ) = t.1 / 32 := by blk_simp [idx1_10 t] <;> idx_bounds_all <;> omega
  have h1 : (((win1_10.blk t).view.emb y 1).1 : ℕ) = (y 1).1 := by blk_simp [idx1_10 t] <;> idx_bounds_all <;> omega
  have h2 : (((win1_10.blk t).view.emb y 2).1 : ℕ) = t.1 % 32 * 512 + (y 2).1 := by blk_simp [idx1_10 t] <;> idx_bounds_all <;> omega
  have hy : (y 2).1 < 512 := (y 2).2
  refine out3_congr _ ?_ ?_ ?_ ?_
  · exact bn_of _ _ _ h2 hy
  · exact tn_of _ _ _ h2 hy
  · exact h0.symm
  · exact h1.symm

end Cert.Value

end

end
-- ==== Proof.Value.Final.lean ====
/-
The kernel's three results, by the coordinates of the arguments.
-/
module

public import proofs.«01_k».proof.Proof.Value.Arr1
public import proofs.«01_k».proof.Proof.KI.Run

@[expose] public section

set_option maxRecDepth 16384

noncomputable section

namespace Cert.Value

open Idealize.ShloMosaic Idealize.ShloMosaic.TcCoe
open Cert.KernelIdeal Cert.KernelIdeal.Gen Cert.KernelIdeal.Hand

variable (m : (ℓ : Loc nD τ sig) → Buf (Elt Ideal) ℓ)

/-- The second result by its three coordinates. -/
def F2 (I : Inp) : FVec Ideal S32x512x56 .f32 := fun i => I.out2 (i 0) (i 1) (kh (i 2)) (gh (i 2))
/-- The third result by its three coordinates. -/
def F3 (I : Inp) : FVec Ideal S32x512x56 .f32 := fun i => I.out3 (i 0) (i 1) (kh (i 2)) (gh (i 2))

theorem w4_v17_0 (c : Dev nD) : W4 m c (Proc.devRef .tc main_v17_0) = G1 (inpOf m c) := by
  rw [← arr1_8]
  exact Pipeline.afterRegion_arr (dat1 m c) (Gen.V3 m (outs0 m) c) launch1.win.arr_inj 8
theorem w4_v17_1 (c : Dev nD) : W4 m c (Proc.devRef .tc main_v17_1) = G2 (inpOf m c) := by
  rw [← arr1_9]
  exact Pipeline.afterRegion_arr (dat1 m c) (Gen.V3 m (outs0 m) c) launch1.win.arr_inj 9
theorem w4_v17_2 (c : Dev nD) : W4 m c (Proc.devRef .tc main_v17_2) = G3 (inpOf m c) := by
  rw [← arr1_10]
  exact Pipeline.afterRegion_arr (dat1 m c) (Gen.V3 m (outs0 m) c) launch1.win.arr_inj 10

/-- The flat row of a sequence and position, split again. -/
theorem rd_r {α : Type} (A : S8x7x16384.Idx → α) (b : Fin 32) (t : Fin 512) (h : Fin 56) :
    shapeCast S32x512x56 (transpose S16384x8x7 [2, 0, 1] A transposes_S8x7x16384_S16384x8x7_2_0_1) shapeCasts_S16384x8x7_S32x512x56 (ix3 b t h)
      = A (ix3 (kh h) (gh h) (row b t)) := by
  unfold kh gh row
  pointwise
  exact congrArg (fun x => A (ix3 _ _ x)) (Fin.ext (by show b.1 * 512 + t.1 = 512 * b.1 + t.1; omega))

theorem v5_v17_0 (c : Dev nD) : (Gen.V5 m (outs m) c main_v17_0 : FVec Ideal S32x512x7168 .bf16) = G1 (inpOf m c) :=
  (show Gen.V5 m (outs m) c main_v17_0 = W4 m c (Proc.devRef .tc main_v17_0) from rfl).trans (w4_v17_0 m c)

theorem v5_v19 (c : Dev nD) : (Gen.V5 m (outs m) c main_v19 : FVec Ideal S32x512x56 .f32) = F2 (inpOf m c) := by
  have e : (Gen.V5 m (outs m) c main_v19 : FVec Ideal S32x512x56 .f32)
      = shapeCast S32x512x56 (transpose S16384x8x7 [2, 0, 1] (W4 m c (Proc.devRef .tc main_v17_1) : FVec Ideal S8x7x16384 .f32) transposes_S8x7x16384_S16384x8x7_2_0_1) shapeCasts_S16384x8x7_S32x512x56 := rfl
  rw [e, w4_v17_1]
  funext i
  idx_vars i
  refine (rd_r _ i0 i1 i2).trans ?_
  exact out2_congr _ (congrArg Fin.val (bn_row i0 i1)) (congrArg Fin.val (tn_row i0 i1)) rfl rfl

theorem v5_v21 (c : Dev nD) : (Gen.V5 m (outs m) c main_v21 : FVec Ideal S32x512x56 .f32) = F3 (inpOf m c) := by
  have e : (Gen.V5 m (outs m) c main_v21 : FVec Ideal S32x512x56 .f32)
      = shapeCast S32x512x56 (transpose S16384x8x7 [2, 0, 1] (W4 m c (Proc.devRef .tc main_v17_2) : FVec Ideal S8x7x16384 .f32) transposes_S8x7x16384_S16384x8x7_2_0_1) shapeCasts_S16384x8x7_S32x512x56 := rfl
  rw [e, w4_v17_2]
  funext i
  idx_vars i
  refine (rd_r _ i0 i1 i2).trans ?_
  exact out3_congr _ (congrArg Fin.val (bn_row i0 i1)) (congrArg Fin.val (tn_row i0 i1)) rfl rfl

end Cert.Value

end

end
-- ==== Proof.Value.RefOps.lean ====
/-
The reference's host lines one operation at a time: `Z X r` is what buffer `r` holds after all of them from the contents `X`,
and each lemma says which operation of which other buffers that is.
-/
module

public import proofs.«01_k».proof.Proof.Gen.ReferenceIdeal.Launch
public import Idealize.ShloMosaic.Lib.StableHlo.Run
public import Idealize.ShloMosaic.Lib.Tactic
public import Idealize.ShloMosaic.Lib.Exec

@[expose] public section

set_option maxRecDepth 16384

noncomputable section

namespace Cert.Value.Ref

open Idealize.ShloMosaic Idealize.ShloMosaic.TcCoe
open Cert.ReferenceIdeal Cert.ReferenceIdeal.Gen

variable {F : FTy → Type} [FloatOps F]

/-- Buffer `r` after the reference's host lines, from the contents `X`. -/
def Z (X : Valuation τ sig (Elt F)) (r : Ref sig .tc) :=
  StableHlo.after ([hostOps1, hostOps1_1, hostOps1_2] : List (List (HloOp τ sig (Elt F)))).flatten X (Proc.devRef .tc r)

variable (X : Valuation τ sig (Elt F))

theorem z_main_v0_0 : (Z X main_v0_0 : (⟨S32x512x56x128, .bf16⟩ : BufTy).Contents (Elt F)) = X (Proc.devRef .tc main_v0_0) := by sl_kernel_rfl
theorem z_main_arg1 : (Z X main_arg1 : (⟨S32x512x56, .f32⟩ : BufTy).Contents (Elt F)) = X (Proc.devRef .tc main_arg1) := by sl_kernel_rfl
theorem z_main_v0_1 : (Z X main_v0_1 : (⟨S8192x8x128, .bf16⟩ : BufTy).Contents (Elt F)) = X (Proc.devRef .tc main_v0_1) := by sl_kernel_rfl
theorem z_main_arg3 : (Z X main_arg3 : (⟨S64x8x128, .f32⟩ : BufTy).Contents (Elt F)) = X (Proc.devRef .tc main_arg3) := by sl_kernel_rfl
theorem z_main_v0_2 : (Z X main_v0_2 : (⟨S8192x8x128, .bf16⟩ : BufTy).Contents (Elt F)) = X (Proc.devRef .tc main_v0_2) := by sl_kernel_rfl
theorem z_main_arg5 : (Z X main_arg5 : (⟨S64x8x128, .f32⟩ : BufTy).Contents (Elt F)) = X (Proc.devRef .tc main_arg5) := by sl_kernel_rfl
theorem z_main_arg7 : (Z X main_arg7 : (⟨S32x512x8, .f32⟩ : BufTy).Contents (Elt F)) = X (Proc.devRef .tc main_arg7) := by sl_kernel_rfl
theorem z_main_arg9 : (Z X main_arg9 : (⟨S32x512x8, .f32⟩ : BufTy).Contents (Elt F)) = X (Proc.devRef .tc main_arg9) := by sl_kernel_rfl
theorem z_main_v0_3 : (Z X main_v0_3 : (⟨S32x512x8x128, .bf16⟩ : BufTy).Contents (Elt F)) = X (Proc.devRef .tc main_v0_3) := by sl_kernel_rfl
theorem z_main_v0_4 : (Z X main_v0_4 : (⟨S32x512x8x128, .bf16⟩ : BufTy).Contents (Elt F)) = X (Proc.devRef .tc main_v0_4) := by sl_kernel_rfl
theorem z_main_v1 : (Z X main_v1 : (⟨S32x512x8x7x128, .bf16⟩ : BufTy).Contents (Elt F))
    = (fun x => shapeCast S32x512x8x7x128 x shapeCasts_S32x512x56x128_S32x512x8x7x128) (Z X main_v0_0 : (⟨S32x512x56x128, .bf16⟩ : BufTy).Contents (Elt F)) := by sl_kernel_rfl
theorem z_main_v2 : (Z X main_v2 : (⟨S32x512x8x7, .f32⟩ : BufTy).Contents (Elt F))
    = (fun x => shapeCast S32x512x8x7 x shapeCasts_S32x512x56_S32x512x8x7) (Z X main_arg1 : (⟨S32x512x56, .f32⟩ : BufTy).Contents (Elt F)) := by sl_kernel_rfl
theorem z_main_cst : (Z X main_cst : (⟨S_, .f32⟩ : BufTy).Contents (Elt F))
    = (constant S_ .f32 0x43000000#32)  := by sl_kernel_rfl
theorem z_main_v3 : (Z X main_v3 : (⟨S_, .f32⟩ : BufTy).Contents (Elt F))
    = (Host.sqrt) (Z X main_cst : (⟨S_, .f32⟩ : BufTy).Contents (Elt F)) := by sl_kernel_rfl
theorem z_main_v4 : (Z X main_v4 : (⟨S32x512x8x7, .f32⟩ : BufTy).Contents (Elt F))
    = (broadcastInDim S32x512x8x7 ![] bcast_S_S32x512x8x7) (Z X main_v3 : (⟨S_, .f32⟩ : BufTy).Contents (Elt F)) := by sl_kernel_rfl
theorem z_main_v5 : (Z X main_v5 : (⟨S32x512x8x7, .f32⟩ : BufTy).Contents (Elt F))
    = (Host.divf) (Z X main_v2 : (⟨S32x512x8x7, .f32⟩ : BufTy).Contents (Elt F)) (Z X main_v4 : (⟨S32x512x8x7, .f32⟩ : BufTy).Contents (Elt F)) := by sl_kernel_rfl
theorem z_main_v6 : (Z X main_v6 : (⟨S32x512x8x7x1, .f32⟩ : BufTy).Contents (Elt F))
    = (broadcastInDim S32x512x8x7x1 ![0, 1, 2, 3] bcast_S32x512x8x7_S32x512x8x7x1_0_1_2_3) (Z X main_v5 : (⟨S32x512x8x7, .f32⟩ : BufTy).Contents (Elt F)) := by sl_kernel_rfl
theorem z_main_v7 : (Z X main_v7 : (⟨S64x128x8x128, .bf16⟩ : BufTy).Contents (Elt F))
    = (fun x => shapeCast S64x128x8x128 x shapeCasts_S8192x8x128_S64x128x8x128) (Z X main_v0_1 : (⟨S8192x8x128, .bf16⟩ : BufTy).Contents (Elt F)) := by sl_kernel_rfl
theorem z_main_v8 : (Z X main_v8 : (⟨S64x8x128, .bf16⟩ : BufTy).Contents (Elt F))
    = ((truncf .bf16 · bitsLt_bf16_f32)) (Z X main_arg3 : (⟨S64x8x128, .f32⟩ : BufTy).Contents (Elt F)) := by sl_kernel_rfl
theorem z_main_v9 : (Z X main_v9 : (⟨S64x1x8x128, .bf16⟩ : BufTy).Contents (Elt F))
    = (broadcastInDim S64x1x8x128 ![0, 2, 3] bcast_S64x8x128_S64x1x8x128_0_2_3) (Z X main_v8 : (⟨S64x8x128, .bf16⟩ : BufTy).Contents (Elt F)) := by sl_kernel_rfl
theorem z_main_v10 : (Z X main_v10 : (⟨S64x128x8x128, .bf16⟩ : BufTy).Contents (Elt F))
    = (broadcastInDim S64x128x8x128 ![0, 1, 2, 3] bcast_S64x1x8x128_S64x128x8x128_0_1_2_3) (Z X main_v9 : (⟨S64x1x8x128, .bf16⟩ : BufTy).Contents (Elt F)) := by sl_kernel_rfl
theorem z_main_v11 : (Z X main_v11 : (⟨S64x128x8x128, .bf16⟩ : BufTy).Contents (Elt F))
    = (mulf) (Z X main_v7 : (⟨S64x128x8x128, .bf16⟩ : BufTy).Contents (Elt F)) (Z X main_v10 : (⟨S64x128x8x128, .bf16⟩ : BufTy).Contents (Elt F)) := by sl_kernel_rfl
theorem z_main_v12 : (Z X main_v12 : (⟨S8192x8x128, .bf16⟩ : BufTy).Contents (Elt F))
    = (fun x => shapeCast S8192x8x128 x shapeCasts_S64x128x8x128_S8192x8x128) (Z X main_v11 : (⟨S64x128x8x128, .bf16⟩ : BufTy).Contents (Elt F)) := by sl_kernel_rfl
theorem z_main_v13 : (Z X main_v13 : (⟨S64x128x8x128, .bf16⟩ : BufTy).Contents (Elt F))
    = (fun x => shapeCast S64x128x8x128 x shapeCasts_S8192x8x128_S64x128x8x128) (Z X main_v0_2 : (⟨S8192x8x128, .bf16⟩ : BufTy).Contents (Elt F)) := by sl_kernel_rfl
theorem z_main_v14 : (Z X main_v14 : (⟨S64x8x128, .bf16⟩ : BufTy).Contents (Elt F))
    = ((truncf .bf16 · bitsLt_bf16_f32)) (Z X main_arg5 : (⟨S64x8x128, .f32⟩ : BufTy).Contents (Elt F)) := by sl_kernel_rfl
theorem z_main_v15 : (Z X main_v15 : (⟨S64x1x8x128, .bf16⟩ : BufTy).Contents (Elt F))
    = (broadcastInDim S64x1x8x128 ![0, 2, 3] bcast_S64x8x128_S64x1x8x128_0_2_3) (Z X main_v14 : (⟨S64x8x128, .bf16⟩ : BufTy).Contents (Elt F)) := by sl_kernel_rfl
theorem z_main_v16 : (Z X main_v16 : (⟨S64x128x8x128, .bf16⟩ : BufTy).Contents (Elt F))
    = (broadcastInDim S64x128x8x128 ![0, 1, 2, 3] bcast_S64x1x8x128_S64x128x8x128_0_1_2_3) (Z X main_v15 : (⟨S64x1x8x128, .bf16⟩ : BufTy).Contents (Elt F)) := by sl_kernel_rfl
theorem z_main_v17 : (Z X main_v17 : (⟨S64x128x8x128, .bf16⟩ : BufTy).Contents (Elt F))
    = (mulf) (Z X main_v13 : (⟨S64x128x8x128, .bf16⟩ : BufTy).Contents (Elt F)) (Z X main_v16 : (⟨S64x128x8x128, .bf16⟩ : BufTy).Contents (Elt F)) := by sl_kernel_rfl
theorem z_main_v18 : (Z X main_v18 : (⟨S8192x8x128, .bf16⟩ : BufTy).Contents (Elt F))
    = (fun x => shapeCast S8192x8x128 x shapeCasts_S64x128x8x128_S8192x8x128) (Z X main_v17 : (⟨S64x128x8x128, .bf16⟩ : BufTy).Contents (Elt F)) := by sl_kernel_rfl
theorem z_main_v19 : (Z X main_v19 : (⟨S8x8192x32x512x7, .f32⟩ : BufTy).Contents (Elt F))
    = ((fun l r => Host.dotGeneral dot_S8192x8x128_S32x512x8x7x128_S8x8192x32x512x7_2_4_0_013_1_2 none l r)) (Z X main_v12 : (⟨S8192x8x128, .bf16⟩ : BufTy).Contents (Elt F)) (Z X main_v1 : (⟨S32x512x8x7x128, .bf16⟩ : BufTy).Contents (Elt F)) := by sl_kernel_rfl
theorem z_main_v20 : (Z X main_v20 : (⟨S32x512x8x7x8192, .f32⟩ : BufTy).Contents (Elt F))
    = ((transpose S32x512x8x7x8192 [2, 3, 0, 4, 1] · transposes_S8x8192x32x512x7_S32x512x8x7x8192_2_3_0_4_1)) (Z X main_v19 : (⟨S8x8192x32x512x7, .f32⟩ : BufTy).Contents (Elt F)) := by sl_kernel_rfl
theorem z_main_v21 : (Z X main_v21 : (⟨S32x512x8x7x8192, .f32⟩ : BufTy).Contents (Elt F))
    = (broadcastInDim S32x512x8x7x8192 ![0, 1, 2, 3, 4] bcast_S32x512x8x7x1_S32x512x8x7x8192_0_1_2_3_4) (Z X main_v6 : (⟨S32x512x8x7x1, .f32⟩ : BufTy).Contents (Elt F)) := by sl_kernel_rfl
theorem z_main_v22 : (Z X main_v22 : (⟨S32x512x8x7x8192, .f32⟩ : BufTy).Contents (Elt F))
    = (mulf) (Z X main_v20 : (⟨S32x512x8x7x8192, .f32⟩ : BufTy).Contents (Elt F)) (Z X main_v21 : (⟨S32x512x8x7x8192, .f32⟩ : BufTy).Contents (Elt F)) := by sl_kernel_rfl
theorem z_main_cst_0 : (Z X main_cst_0 : (⟨S_, .f32⟩ : BufTy).Contents (Elt F))
    = (constant S_ .f32 0xFF800000#32)  := by sl_kernel_rfl
theorem z_main_v23 : (Z X main_v23 : (⟨S32x512x8x7, .f32⟩ : BufTy).Contents (Elt F))
    = ((fun x v => Host.reduce FloatOps.maximumf x v reducesTo_S32x512x8x7x8192_S32x512x8x7_d4 h_S_)) (Z X main_v22 : (⟨S32x512x8x7x8192, .f32⟩ : BufTy).Contents (Elt F)) (Z X main_cst_0 : (⟨S_, .f32⟩ : BufTy).Contents (Elt F)) := by sl_kernel_rfl
theorem z_main_v24 : (Z X main_v24 : (⟨S32x512x8x7x1, .f32⟩ : BufTy).Contents (Elt F))
    = (broadcastInDim S32x512x8x7x1 ![0, 1, 2, 3] bcast_S32x512x8x7_S32x512x8x7x1_0_1_2_3) (Z X main_v23 : (⟨S32x512x8x7, .f32⟩ : BufTy).Contents (Elt F)) := by sl_kernel_rfl
theorem z_main_v25 : (Z X main_v25 : (⟨S32x512x8x7x8192, .f32⟩ : BufTy).Contents (Elt F))
    = (broadcastInDim S32x512x8x7x8192 ![0, 1, 2, 3, 4] bcast_S32x512x8x7x1_S32x512x8x7x8192_0_1_2_3_4) (Z X main_v24 : (⟨S32x512x8x7x1, .f32⟩ : BufTy).Contents (Elt F)) := by sl_kernel_rfl
theorem z_main_v26 : (Z X main_v26 : (⟨S32x512x8x7x8192, .f32⟩ : BufTy).Contents (Elt F))
    = (subf) (Z X main_v22 : (⟨S32x512x8x7x8192, .f32⟩ : BufTy).Contents (Elt F)) (Z X main_v25 : (⟨S32x512x8x7x8192, .f32⟩ : BufTy).Contents (Elt F)) := by sl_kernel_rfl
theorem z_main_v27 : (Z X main_v27 : (⟨S32x512x8x7x8192, .f32⟩ : BufTy).Contents (Elt F))
    = (Host.exp) (Z X main_v26 : (⟨S32x512x8x7x8192, .f32⟩ : BufTy).Contents (Elt F)) := by sl_kernel_rfl
theorem z_main_cst_1 : (Z X main_cst_1 : (⟨S_, .f32⟩ : BufTy).Contents (Elt F))
    = (constant S_ .f32 0x00000000#32)  := by sl_kernel_rfl
theorem z_main_v28 : (Z X main_v28 : (⟨S32x512x8x7, .f32⟩ : BufTy).Contents (Elt F))
    = ((fun x v => Host.reduceAdd x v reducesTo_S32x512x8x7x8192_S32x512x8x7_d4 h_S_)) (Z X main_v27 : (⟨S32x512x8x7x8192, .f32⟩ : BufTy).Contents (Elt F)) (Z X main_cst_1 : (⟨S_, .f32⟩ : BufTy).Contents (Elt F)) := by sl_kernel_rfl
theorem z_main_v29 : (Z X main_v29 : (⟨S32x512x8x7x8192, .bf16⟩ : BufTy).Contents (Elt F))
    = ((truncf .bf16 · bitsLt_bf16_f32)) (Z X main_v27 : (⟨S32x512x8x7x8192, .f32⟩ : BufTy).Contents (Elt F)) := by sl_kernel_rfl
theorem z_main_v30 : (Z X main_v30 : (⟨S8x128x32x512x7, .f32⟩ : BufTy).Contents (Elt F))
    = ((fun l r => Host.dotGeneral dot_S8192x8x128_S32x512x8x7x8192_S8x128x32x512x7_0_4_2_013_1_2 none l r)) (Z X main_v18 : (⟨S8192x8x128, .bf16⟩ : BufTy).Contents (Elt F)) (Z X main_v29 : (⟨S32x512x8x7x8192, .bf16⟩ : BufTy).Contents (Elt F)) := by sl_kernel_rfl
theorem z_main_v31 : (Z X main_v31 : (⟨S32x512x8x7x128, .f32⟩ : BufTy).Contents (Elt F))
    = ((transpose S32x512x8x7x128 [2, 3, 0, 4, 1] · transposes_S8x128x32x512x7_S32x512x8x7x128_2_3_0_4_1)) (Z X main_v30 : (⟨S8x128x32x512x7, .f32⟩ : BufTy).Contents (Elt F)) := by sl_kernel_rfl
theorem z_main_v32 : (Z X main_v32 : (⟨S32x512x8x7x1, .f32⟩ : BufTy).Contents (Elt F))
    = (broadcastInDim S32x512x8x7x1 ![0, 1, 2, 3] bcast_S32x512x8x7_S32x512x8x7x1_0_1_2_3) (Z X main_v28 : (⟨S32x512x8x7, .f32⟩ : BufTy).Contents (Elt F)) := by sl_kernel_rfl
theorem z_main_v33 : (Z X main_v33 : (⟨S32x512x8x7x128, .f32⟩ : BufTy).Contents (Elt F))
    = (broadcastInDim S32x512x8x7x128 ![0, 1, 2, 3, 4] bcast_S32x512x8x7x1_S32x512x8x7x128_0_1_2_3_4) (Z X main_v32 : (⟨S32x512x8x7x1, .f32⟩ : BufTy).Contents (Elt F)) := by sl_kernel_rfl
theorem z_main_v34 : (Z X main_v34 : (⟨S32x512x8x7x128, .f32⟩ : BufTy).Contents (Elt F))
    = (Host.divf) (Z X main_v31 : (⟨S32x512x8x7x128, .f32⟩ : BufTy).Contents (Elt F)) (Z X main_v33 : (⟨S32x512x8x7x128, .f32⟩ : BufTy).Contents (Elt F)) := by sl_kernel_rfl
theorem z_main_v35 : (Z X main_v35 : (⟨S32x512x8x7, .f32⟩ : BufTy).Contents (Elt F))
    = (fun x => shapeCast S32x512x8x7 x shapeCasts_S32x512x8x7x1_S32x512x8x7) (Z X main_v24 : (⟨S32x512x8x7x1, .f32⟩ : BufTy).Contents (Elt F)) := by sl_kernel_rfl
theorem z_main_v36 : (Z X main_v36 : (⟨S32x512x8x7, .f32⟩ : BufTy).Contents (Elt F))
    = (Host.log) (Z X main_v28 : (⟨S32x512x8x7, .f32⟩ : BufTy).Contents (Elt F)) := by sl_kernel_rfl
theorem z_main_v37 : (Z X main_v37 : (⟨S32x512x8x7, .f32⟩ : BufTy).Contents (Elt F))
    = (addf) (Z X main_v35 : (⟨S32x512x8x7, .f32⟩ : BufTy).Contents (Elt F)) (Z X main_v36 : (⟨S32x512x8x7, .f32⟩ : BufTy).Contents (Elt F)) := by sl_kernel_rfl
theorem z_main_v38 : (Z X main_v38 : (⟨S32x8x512, .f32⟩ : BufTy).Contents (Elt F))
    = ((transpose S32x8x512 [0, 2, 1] · transposes_S32x512x8_S32x8x512_0_2_1)) (Z X main_arg7 : (⟨S32x512x8, .f32⟩ : BufTy).Contents (Elt F)) := by sl_kernel_rfl
theorem z_main_v39 : (Z X main_v39 : (⟨S32x1x8x1x512, .f32⟩ : BufTy).Contents (Elt F))
    = (broadcastInDim S32x1x8x1x512 ![0, 2, 4] bcast_S32x8x512_S32x1x8x1x512_0_2_4) (Z X main_v38 : (⟨S32x8x512, .f32⟩ : BufTy).Contents (Elt F)) := by sl_kernel_rfl
theorem z_main_v40 : (Z X main_v40 : (⟨S32x8x512, .f32⟩ : BufTy).Contents (Elt F))
    = ((transpose S32x8x512 [0, 2, 1] · transposes_S32x512x8_S32x8x512_0_2_1)) (Z X main_arg9 : (⟨S32x512x8, .f32⟩ : BufTy).Contents (Elt F)) := by sl_kernel_rfl
theorem z_main_v41 : (Z X main_v41 : (⟨S32x1x8x1x512, .f32⟩ : BufTy).Contents (Elt F))
    = (broadcastInDim S32x1x8x1x512 ![0, 2, 4] bcast_S32x8x512_S32x1x8x1x512_0_2_4) (Z X main_v40 : (⟨S32x8x512, .f32⟩ : BufTy).Contents (Elt F)) := by sl_kernel_rfl
theorem z_main_v42 : (Z X main_v42 : (⟨S32x8x512x512x7, .f32⟩ : BufTy).Contents (Elt F))
    = ((fun l r => Host.dotGeneral dot_S32x512x8x128_S32x512x8x7x128_S32x8x512x512x7_3_4_1_13_02_02 none l r)) (Z X main_v0_3 : (⟨S32x512x8x128, .bf16⟩ : BufTy).Contents (Elt F)) (Z X main_v1 : (⟨S32x512x8x7x128, .bf16⟩ : BufTy).Contents (Elt F)) := by sl_kernel_rfl
theorem z_main_v43 : (Z X main_v43 : (⟨S32x512x8x7x512, .f32⟩ : BufTy).Contents (Elt F))
    = ((transpose S32x512x8x7x512 [0, 3, 1, 4, 2] · transposes_S32x8x512x512x7_S32x512x8x7x512_0_3_1_4_2)) (Z X main_v42 : (⟨S32x8x512x512x7, .f32⟩ : BufTy).Contents (Elt F)) := by sl_kernel_rfl
theorem z_main_v44 : (Z X main_v44 : (⟨S32x512x8x7x512, .f32⟩ : BufTy).Contents (Elt F))
    = (broadcastInDim S32x512x8x7x512 ![0, 1, 2, 3, 4] bcast_S32x512x8x7x1_S32x512x8x7x512_0_1_2_3_4) (Z X main_v6 : (⟨S32x512x8x7x1, .f32⟩ : BufTy).Contents (Elt F)) := by sl_kernel_rfl
theorem z_main_v45 : (Z X main_v45 : (⟨S32x512x8x7x512, .f32⟩ : BufTy).Contents (Elt F))
    = (mulf) (Z X main_v43 : (⟨S32x512x8x7x512, .f32⟩ : BufTy).Contents (Elt F)) (Z X main_v44 : (⟨S32x512x8x7x512, .f32⟩ : BufTy).Contents (Elt F)) := by sl_kernel_rfl
theorem z_main_v46 : (Z X main_v46 : (⟨S32x512x8x7x512, .f32⟩ : BufTy).Contents (Elt F))
    = (broadcastInDim S32x512x8x7x512 ![0, 1, 2, 3, 4] bcast_S32x1x8x1x512_S32x512x8x7x512_0_1_2_3_4) (Z X main_v39 : (⟨S32x1x8x1x512, .f32⟩ : BufTy).Contents (Elt F)) := by sl_kernel_rfl
theorem z_main_v47 : (Z X main_v47 : (⟨S32x512x8x7x512, .f32⟩ : BufTy).Contents (Elt F))
    = (mulf) (Z X main_v45 : (⟨S32x512x8x7x512, .f32⟩ : BufTy).Contents (Elt F)) (Z X main_v46 : (⟨S32x512x8x7x512, .f32⟩ : BufTy).Contents (Elt F)) := by sl_kernel_rfl
theorem z_main_v48 : (Z X main_v48 : (⟨S512, .i32⟩ : BufTy).Contents (Elt F))
    = (iotaInDim S512 32 0)  := by sl_kernel_rfl
theorem z_main_v49 : (Z X main_v49 : (⟨S1x512, .i32⟩ : BufTy).Contents (Elt F))
    = (broadcastInDim S1x512 ![1] bcast_S512_S1x512_1) (Z X main_v48 : (⟨S512, .i32⟩ : BufTy).Contents (Elt F)) := by sl_kernel_rfl
theorem z_main_v50 : (Z X main_v50 : (⟨S512x1, .i32⟩ : BufTy).Contents (Elt F))
    = (broadcastInDim S512x1 ![0] bcast_S512_S512x1_0) (Z X main_v48 : (⟨S512, .i32⟩ : BufTy).Contents (Elt F)) := by sl_kernel_rfl
theorem z_main_v51 : (Z X main_v51 : (⟨S512x512, .i32⟩ : BufTy).Contents (Elt F))
    = (broadcastInDim S512x512 ![0, 1] bcast_S1x512_S512x512_0_1) (Z X main_v49 : (⟨S1x512, .i32⟩ : BufTy).Contents (Elt F)) := by sl_kernel_rfl
theorem z_main_v52 : (Z X main_v52 : (⟨S512x512, .i32⟩ : BufTy).Contents (Elt F))
    = (broadcastInDim S512x512 ![0, 1] bcast_S512x1_S512x512_0_1) (Z X main_v50 : (⟨S512x1, .i32⟩ : BufTy).Contents (Elt F)) := by sl_kernel_rfl
theorem z_main_v53 : (Z X main_v53 : (⟨S512x512, .i1⟩ : BufTy).Contents (Elt F))
    = (cmpi .sle) (Z X main_v51 : (⟨S512x512, .i32⟩ : BufTy).Contents (Elt F)) (Z X main_v52 : (⟨S512x512, .i32⟩ : BufTy).Contents (Elt F)) := by sl_kernel_rfl
theorem z_main_v54 : (Z X main_v54 : (⟨S1x512x1x1x512, .i1⟩ : BufTy).Contents (Elt F))
    = (broadcastInDim S1x512x1x1x512 ![1, 4] bcast_S512x512_S1x512x1x1x512_1_4) (Z X main_v53 : (⟨S512x512, .i1⟩ : BufTy).Contents (Elt F)) := by sl_kernel_rfl
theorem z_main_cst_2 : (Z X main_cst_2 : (⟨S_, .f32⟩ : BufTy).Contents (Elt F))
    = (constant S_ .f32 0xFF800000#32)  := by sl_kernel_rfl
theorem z_main_call0_v0 : (Z X main_call0_v0 : (⟨S_, .f32⟩ : BufTy).Contents (Elt F))
    = id (Z X main_cst_2 : (⟨S_, .f32⟩ : BufTy).Contents (Elt F)) := by sl_kernel_rfl
theorem z_main_call0_v1 : (Z X main_call0_v1 : (⟨S32x512x8x7x512, .i1⟩ : BufTy).Contents (Elt F))
    = (broadcastInDim S32x512x8x7x512 ![0, 1, 2, 3, 4] bcast_S1x512x1x1x512_S32x512x8x7x512_0_1_2_3_4) (Z X main_v54 : (⟨S1x512x1x1x512, .i1⟩ : BufTy).Contents (Elt F)) := by sl_kernel_rfl
theorem z_main_call0_v2 : (Z X main_call0_v2 : (⟨S32x512x8x7x512, .f32⟩ : BufTy).Contents (Elt F))
    = (broadcastInDim S32x512x8x7x512 ![] bcast_S_S32x512x8x7x512) (Z X main_call0_v0 : (⟨S_, .f32⟩ : BufTy).Contents (Elt F)) := by sl_kernel_rfl
theorem z_main_v55 : (Z X main_v55 : (⟨S32x512x8x7x512, .f32⟩ : BufTy).Contents (Elt F))
    = select (Z X main_call0_v1 : (⟨S32x512x8x7x512, .i1⟩ : BufTy).Contents (Elt F)) (Z X main_v47 : (⟨S32x512x8x7x512, .f32⟩ : BufTy).Contents (Elt F)) (Z X main_call0_v2 : (⟨S32x512x8x7x512, .f32⟩ : BufTy).Contents (Elt F)) := by sl_kernel_rfl
theorem z_main_cst_3 : (Z X main_cst_3 : (⟨S_, .f32⟩ : BufTy).Contents (Elt F))
    = (constant S_ .f32 0xFF800000#32)  := by sl_kernel_rfl
theorem z_main_v56 : (Z X main_v56 : (⟨S32x512x8x7, .f32⟩ : BufTy).Contents (Elt F))
    = ((fun x v => Host.reduce FloatOps.maximumf x v reducesTo_S32x512x8x7x512_S32x512x8x7_d4 h_S_)) (Z X main_v55 : (⟨S32x512x8x7x512, .f32⟩ : BufTy).Contents (Elt F)) (Z X main_cst_3 : (⟨S_, .f32⟩ : BufTy).Contents (Elt F)) := by sl_kernel_rfl
theorem z_main_v57 : (Z X main_v57 : (⟨S32x512x8x7x1, .f32⟩ : BufTy).Contents (Elt F))
    = (broadcastInDim S32x512x8x7x1 ![0, 1, 2, 3] bcast_S32x512x8x7_S32x512x8x7x1_0_1_2_3) (Z X main_v56 : (⟨S32x512x8x7, .f32⟩ : BufTy).Contents (Elt F)) := by sl_kernel_rfl
theorem z_main_v58 : (Z X main_v58 : (⟨S32x512x8x7x512, .f32⟩ : BufTy).Contents (Elt F))
    = (broadcastInDim S32x512x8x7x512 ![0, 1, 2, 3, 4] bcast_S32x512x8x7x1_S32x512x8x7x512_0_1_2_3_4) (Z X main_v57 : (⟨S32x512x8x7x1, .f32⟩ : BufTy).Contents (Elt F)) := by sl_kernel_rfl
theorem z_main_v59 : (Z X main_v59 : (⟨S32x512x8x7x512, .f32⟩ : BufTy).Contents (Elt F))
    = (subf) (Z X main_v55 : (⟨S32x512x8x7x512, .f32⟩ : BufTy).Contents (Elt F)) (Z X main_v58 : (⟨S32x512x8x7x512, .f32⟩ : BufTy).Contents (Elt F)) := by sl_kernel_rfl
theorem z_main_v60 : (Z X main_v60 : (⟨S32x512x8x7x512, .f32⟩ : BufTy).Contents (Elt F))
    = (Host.exp) (Z X main_v59 : (⟨S32x512x8x7x512, .f32⟩ : BufTy).Contents (Elt F)) := by sl_kernel_rfl
theorem z_main_cst_4 : (Z X main_cst_4 : (⟨S_, .f32⟩ : BufTy).Contents (Elt F))
    = (constant S_ .f32 0x00000000#32)  := by sl_kernel_rfl
theorem z_main_v61 : (Z X main_v61 : (⟨S32x512x8x7, .f32⟩ : BufTy).Contents (Elt F))
    = ((fun x v => Host.reduceAdd x v reducesTo_S32x512x8x7x512_S32x512x8x7_d4 h_S_)) (Z X main_v60 : (⟨S32x512x8x7x512, .f32⟩ : BufTy).Contents (Elt F)) (Z X main_cst_4 : (⟨S_, .f32⟩ : BufTy).Contents (Elt F)) := by sl_kernel_rfl
theorem z_main_v62 : (Z X main_v62 : (⟨S32x512x8x7x512, .f32⟩ : BufTy).Contents (Elt F))
    = (broadcastInDim S32x512x8x7x512 ![0, 1, 2, 3, 4] bcast_S32x1x8x1x512_S32x512x8x7x512_0_1_2_3_4) (Z X main_v41 : (⟨S32x1x8x1x512, .f32⟩ : BufTy).Contents (Elt F)) := by sl_kernel_rfl
theorem z_main_v63 : (Z X main_v63 : (⟨S32x512x8x7x512, .f32⟩ : BufTy).Contents (Elt F))
    = (mulf) (Z X main_v60 : (⟨S32x512x8x7x512, .f32⟩ : BufTy).Contents (Elt F)) (Z X main_v62 : (⟨S32x512x8x7x512, .f32⟩ : BufTy).Contents (Elt F)) := by sl_kernel_rfl
theorem z_main_v64 : (Z X main_v64 : (⟨S32x512x8x7x512, .bf16⟩ : BufTy).Contents (Elt F))
    = ((truncf .bf16 · bitsLt_bf16_f32)) (Z X main_v63 : (⟨S32x512x8x7x512, .f32⟩ : BufTy).Contents (Elt F)) := by sl_kernel_rfl
theorem z_main_v65 : (Z X main_v65 : (⟨S32x8x128x512x7, .f32⟩ : BufTy).Contents (Elt F))
    = ((fun l r => Host.dotGeneral dot_S32x512x8x128_S32x512x8x7x512_S32x8x128x512x7_1_4_3_13_02_02 none l r)) (Z X main_v0_4 : (⟨S32x512x8x128, .bf16⟩ : BufTy).Contents (Elt F)) (Z X main_v64 : (⟨S32x512x8x7x512, .bf16⟩ : BufTy).Contents (Elt F)) := by sl_kernel_rfl
theorem z_main_v66 : (Z X main_v66 : (⟨S32x512x8x7x128, .f32⟩ : BufTy).Contents (Elt F))
    = ((transpose S32x512x8x7x128 [0, 3, 1, 4, 2] · transposes_S32x8x128x512x7_S32x512x8x7x128_0_3_1_4_2)) (Z X main_v65 : (⟨S32x8x128x512x7, .f32⟩ : BufTy).Contents (Elt F)) := by sl_kernel_rfl
theorem z_main_v67 : (Z X main_v67 : (⟨S32x512x8x7x1, .f32⟩ : BufTy).Contents (Elt F))
    = (broadcastInDim S32x512x8x7x1 ![0, 1, 2, 3] bcast_S32x512x8x7_S32x512x8x7x1_0_1_2_3) (Z X main_v61 : (⟨S32x512x8x7, .f32⟩ : BufTy).Contents (Elt F)) := by sl_kernel_rfl
theorem z_main_v68 : (Z X main_v68 : (⟨S32x512x8x7x128, .f32⟩ : BufTy).Contents (Elt F))
    = (broadcastInDim S32x512x8x7x128 ![0, 1, 2, 3, 4] bcast_S32x512x8x7x1_S32x512x8x7x128_0_1_2_3_4) (Z X main_v67 : (⟨S32x512x8x7x1, .f32⟩ : BufTy).Contents (Elt F)) := by sl_kernel_rfl
theorem z_main_v69 : (Z X main_v69 : (⟨S32x512x8x7x128, .f32⟩ : BufTy).Contents (Elt F))
    = (Host.divf) (Z X main_v66 : (⟨S32x512x8x7x128, .f32⟩ : BufTy).Contents (Elt F)) (Z X main_v68 : (⟨S32x512x8x7x128, .f32⟩ : BufTy).Contents (Elt F)) := by sl_kernel_rfl
theorem z_main_v70 : (Z X main_v70 : (⟨S32x512x8x7, .f32⟩ : BufTy).Contents (Elt F))
    = (fun x => shapeCast S32x512x8x7 x shapeCasts_S32x512x8x7x1_S32x512x8x7) (Z X main_v57 : (⟨S32x512x8x7x1, .f32⟩ : BufTy).Contents (Elt F)) := by sl_kernel_rfl
theorem z_main_v71 : (Z X main_v71 : (⟨S32x512x8x7, .f32⟩ : BufTy).Contents (Elt F))
    = (Host.log) (Z X main_v61 : (⟨S32x512x8x7, .f32⟩ : BufTy).Contents (Elt F)) := by sl_kernel_rfl
theorem z_main_v72 : (Z X main_v72 : (⟨S32x512x8x7, .f32⟩ : BufTy).Contents (Elt F))
    = (addf) (Z X main_v70 : (⟨S32x512x8x7, .f32⟩ : BufTy).Contents (Elt F)) (Z X main_v71 : (⟨S32x512x8x7, .f32⟩ : BufTy).Contents (Elt F)) := by sl_kernel_rfl
theorem z_main_v73 : (Z X main_v73 : (⟨S32x512x56x128, .f32⟩ : BufTy).Contents (Elt F))
    = (fun x => shapeCast S32x512x56x128 x shapeCasts_S32x512x8x7x128_S32x512x56x128) (Z X main_v34 : (⟨S32x512x8x7x128, .f32⟩ : BufTy).Contents (Elt F)) := by sl_kernel_rfl
theorem z_main_v74 : (Z X main_v74 : (⟨S32x512x56x128, .f32⟩ : BufTy).Contents (Elt F))
    = (fun x => shapeCast S32x512x56x128 x shapeCasts_S32x512x8x7x128_S32x512x56x128) (Z X main_v69 : (⟨S32x512x8x7x128, .f32⟩ : BufTy).Contents (Elt F)) := by sl_kernel_rfl
theorem z_main_v75 : (Z X main_v75 : (⟨S32x512x56, .f32⟩ : BufTy).Contents (Elt F))
    = (fun x => shapeCast S32x512x56 x shapeCasts_S32x512x8x7_S32x512x56) (Z X main_v37 : (⟨S32x512x8x7, .f32⟩ : BufTy).Contents (Elt F)) := by sl_kernel_rfl
theorem z_main_v76 : (Z X main_v76 : (⟨S32x512x56, .f32⟩ : BufTy).Contents (Elt F))
    = (fun x => shapeCast S32x512x56 x shapeCasts_S32x512x8x7_S32x512x56) (Z X main_v72 : (⟨S32x512x8x7, .f32⟩ : BufTy).Contents (Elt F)) := by sl_kernel_rfl
theorem z_main_v77 : (Z X main_v77 : (⟨S32x512x56, .f32⟩ : BufTy).Contents (Elt F))
    = (maximumf) (Z X main_v75 : (⟨S32x512x56, .f32⟩ : BufTy).Contents (Elt F)) (Z X main_v76 : (⟨S32x512x56, .f32⟩ : BufTy).Contents (Elt F)) := by sl_kernel_rfl
theorem z_main_v78 : (Z X main_v78 : (⟨S32x512x56, .f32⟩ : BufTy).Contents (Elt F))
    = (subf) (Z X main_v75 : (⟨S32x512x56, .f32⟩ : BufTy).Contents (Elt F)) (Z X main_v76 : (⟨S32x512x56, .f32⟩ : BufTy).Contents (Elt F)) := by sl_kernel_rfl
theorem z_main_v79 : (Z X main_v79 : (⟨S32x512x56, .i1⟩ : BufTy).Contents (Elt F))
    = (cmpf .une) (Z X main_v78 : (⟨S32x512x56, .f32⟩ : BufTy).Contents (Elt F)) (Z X main_v78 : (⟨S32x512x56, .f32⟩ : BufTy).Contents (Elt F)) := by sl_kernel_rfl
theorem z_main_v80 : (Z X main_v80 : (⟨S32x512x56, .f32⟩ : BufTy).Contents (Elt F))
    = (addf) (Z X main_v75 : (⟨S32x512x56, .f32⟩ : BufTy).Contents (Elt F)) (Z X main_v76 : (⟨S32x512x56, .f32⟩ : BufTy).Contents (Elt F)) := by sl_kernel_rfl
theorem z_main_v81 : (Z X main_v81 : (⟨S32x512x56, .f32⟩ : BufTy).Contents (Elt F))
    = (Host.absf) (Z X main_v78 : (⟨S32x512x56, .f32⟩ : BufTy).Contents (Elt F)) := by sl_kernel_rfl
theorem z_main_v82 : (Z X main_v82 : (⟨S32x512x56, .f32⟩ : BufTy).Contents (Elt F))
    = (Host.negf) (Z X main_v81 : (⟨S32x512x56, .f32⟩ : BufTy).Contents (Elt F)) := by sl_kernel_rfl
theorem z_main_v83 : (Z X main_v83 : (⟨S32x512x56, .f32⟩ : BufTy).Contents (Elt F))
    = (Host.exp) (Z X main_v82 : (⟨S32x512x56, .f32⟩ : BufTy).Contents (Elt F)) := by sl_kernel_rfl
theorem z_main_v84 : (Z X main_v84 : (⟨S32x512x56, .f32⟩ : BufTy).Contents (Elt F))
    = (Host.log1p) (Z X main_v83 : (⟨S32x512x56, .f32⟩ : BufTy).Contents (Elt F)) := by sl_kernel_rfl
theorem z_main_v85 : (Z X main_v85 : (⟨S32x512x56, .f32⟩ : BufTy).Contents (Elt F))
    = (addf) (Z X main_v77 : (⟨S32x512x56, .f32⟩ : BufTy).Contents (Elt F)) (Z X main_v84 : (⟨S32x512x56, .f32⟩ : BufTy).Contents (Elt F)) := by sl_kernel_rfl
theorem z_main_v86 : (Z X main_v86 : (⟨S32x512x56, .f32⟩ : BufTy).Contents (Elt F))
    = (select) (Z X main_v79 : (⟨S32x512x56, .i1⟩ : BufTy).Contents (Elt F)) (Z X main_v80 : (⟨S32x512x56, .f32⟩ : BufTy).Contents (Elt F)) (Z X main_v85 : (⟨S32x512x56, .f32⟩ : BufTy).Contents (Elt F)) := by sl_kernel_rfl
theorem z_main_v87 : (Z X main_v87 : (⟨S32x512x56, .f32⟩ : BufTy).Contents (Elt F))
    = (subf) (Z X main_v75 : (⟨S32x512x56, .f32⟩ : BufTy).Contents (Elt F)) (Z X main_v86 : (⟨S32x512x56, .f32⟩ : BufTy).Contents (Elt F)) := by sl_kernel_rfl
theorem z_main_v88 : (Z X main_v88 : (⟨S32x512x56, .f32⟩ : BufTy).Contents (Elt F))
    = (Host.exp) (Z X main_v87 : (⟨S32x512x56, .f32⟩ : BufTy).Contents (Elt F)) := by sl_kernel_rfl
theorem z_main_v89 : (Z X main_v89 : (⟨S32x512x56x1, .f32⟩ : BufTy).Contents (Elt F))
    = (broadcastInDim S32x512x56x1 ![0, 1, 2] bcast_S32x512x56_S32x512x56x1_0_1_2) (Z X main_v88 : (⟨S32x512x56, .f32⟩ : BufTy).Contents (Elt F)) := by sl_kernel_rfl
theorem z_main_v90 : (Z X main_v90 : (⟨S32x512x56x128, .f32⟩ : BufTy).Contents (Elt F))
    = (broadcastInDim S32x512x56x128 ![0, 1, 2, 3] bcast_S32x512x56x1_S32x512x56x128_0_1_2_3) (Z X main_v89 : (⟨S32x512x56x1, .f32⟩ : BufTy).Contents (Elt F)) := by sl_kernel_rfl
theorem z_main_v91 : (Z X main_v91 : (⟨S32x512x56x128, .f32⟩ : BufTy).Contents (Elt F))
    = (mulf) (Z X main_v90 : (⟨S32x512x56x128, .f32⟩ : BufTy).Contents (Elt F)) (Z X main_v73 : (⟨S32x512x56x128, .f32⟩ : BufTy).Contents (Elt F)) := by sl_kernel_rfl
theorem z_main_v92 : (Z X main_v92 : (⟨S32x512x56, .f32⟩ : BufTy).Contents (Elt F))
    = (subf) (Z X main_v76 : (⟨S32x512x56, .f32⟩ : BufTy).Contents (Elt F)) (Z X main_v86 : (⟨S32x512x56, .f32⟩ : BufTy).Contents (Elt F)) := by sl_kernel_rfl
theorem z_main_v93 : (Z X main_v93 : (⟨S32x512x56, .f32⟩ : BufTy).Contents (Elt F))
    = (Host.exp) (Z X main_v92 : (⟨S32x512x56, .f32⟩ : BufTy).Contents (Elt F)) := by sl_kernel_rfl
theorem z_main_v94 : (Z X main_v94 : (⟨S32x512x56x1, .f32⟩ : BufTy).Contents (Elt F))
    = (broadcastInDim S32x512x56x1 ![0, 1, 2] bcast_S32x512x56_S32x512x56x1_0_1_2) (Z X main_v93 : (⟨S32x512x56, .f32⟩ : BufTy).Contents (Elt F)) := by sl_kernel_rfl
theorem z_main_v95 : (Z X main_v95 : (⟨S32x512x56x128, .f32⟩ : BufTy).Contents (Elt F))
    = (broadcastInDim S32x512x56x128 ![0, 1, 2, 3] bcast_S32x512x56x1_S32x512x56x128_0_1_2_3) (Z X main_v94 : (⟨S32x512x56x1, .f32⟩ : BufTy).Contents (Elt F)) := by sl_kernel_rfl
theorem z_main_v96 : (Z X main_v96 : (⟨S32x512x56x128, .f32⟩ : BufTy).Contents (Elt F))
    = (mulf) (Z X main_v95 : (⟨S32x512x56x128, .f32⟩ : BufTy).Contents (Elt F)) (Z X main_v74 : (⟨S32x512x56x128, .f32⟩ : BufTy).Contents (Elt F)) := by sl_kernel_rfl
theorem z_main_v97 : (Z X main_v97 : (⟨S32x512x56x128, .f32⟩ : BufTy).Contents (Elt F))
    = (addf) (Z X main_v91 : (⟨S32x512x56x128, .f32⟩ : BufTy).Contents (Elt F)) (Z X main_v96 : (⟨S32x512x56x128, .f32⟩ : BufTy).Contents (Elt F)) := by sl_kernel_rfl
theorem z_main_v98 : (Z X main_v98 : (⟨S32x512x7168, .f32⟩ : BufTy).Contents (Elt F))
    = (fun x => shapeCast S32x512x7168 x shapeCasts_S32x512x56x128_S32x512x7168) (Z X main_v97 : (⟨S32x512x56x128, .f32⟩ : BufTy).Contents (Elt F)) := by sl_kernel_rfl
theorem z_main_v99 : (Z X main_v99 : (⟨S32x512x7168, .bf16⟩ : BufTy).Contents (Elt F))
    = ((truncf .bf16 · bitsLt_bf16_f32)) (Z X main_v98 : (⟨S32x512x7168, .f32⟩ : BufTy).Contents (Elt F)) := by sl_kernel_rfl
theorem z_main_cst_5 : (Z X main_cst_5 : (⟨S_, .f32⟩ : BufTy).Contents (Elt F))
    = (constant S_ .f32 0x41102CB3#32)  := by sl_kernel_rfl
theorem z_main_v100 : (Z X main_v100 : (⟨S32x512x56, .f32⟩ : BufTy).Contents (Elt F))
    = (broadcastInDim S32x512x56 ![] bcast_S_S32x512x56) (Z X main_cst_5 : (⟨S_, .f32⟩ : BufTy).Contents (Elt F)) := by sl_kernel_rfl
theorem z_main_v101 : (Z X main_v101 : (⟨S32x512x56, .f32⟩ : BufTy).Contents (Elt F))
    = (subf) (Z X main_v75 : (⟨S32x512x56, .f32⟩ : BufTy).Contents (Elt F)) (Z X main_v100 : (⟨S32x512x56, .f32⟩ : BufTy).Contents (Elt F)) := by sl_kernel_rfl
theorem z_main_v102 : (Z X main_v102 : (⟨S512, .f32⟩ : BufTy).Contents (Elt F))
    = (sitofp .f32 (iotaInDim S512 32 0))  := by sl_kernel_rfl
theorem z_main_cst_6 : (Z X main_cst_6 : (⟨S_, .f32⟩ : BufTy).Contents (Elt F))
    = (constant S_ .f32 0x3F800000#32)  := by sl_kernel_rfl
theorem z_main_v103 : (Z X main_v103 : (⟨S512, .f32⟩ : BufTy).Contents (Elt F))
    = (broadcastInDim S512 ![] bcast_S_S512) (Z X main_cst_6 : (⟨S_, .f32⟩ : BufTy).Contents (Elt F)) := by sl_kernel_rfl
theorem z_main_v104 : (Z X main_v104 : (⟨S512, .f32⟩ : BufTy).Contents (Elt F))
    = (addf) (Z X main_v103 : (⟨S512, .f32⟩ : BufTy).Contents (Elt F)) (Z X main_v102 : (⟨S512, .f32⟩ : BufTy).Contents (Elt F)) := by sl_kernel_rfl
theorem z_main_v105 : (Z X main_v105 : (⟨S512, .f32⟩ : BufTy).Contents (Elt F))
    = (Host.log) (Z X main_v104 : (⟨S512, .f32⟩ : BufTy).Contents (Elt F)) := by sl_kernel_rfl
theorem z_main_v106 : (Z X main_v106 : (⟨S1x512x1, .f32⟩ : BufTy).Contents (Elt F))
    = (broadcastInDim S1x512x1 ![1] bcast_S512_S1x512x1_1) (Z X main_v105 : (⟨S512, .f32⟩ : BufTy).Contents (Elt F)) := by sl_kernel_rfl
theorem z_main_v107 : (Z X main_v107 : (⟨S32x512x56, .f32⟩ : BufTy).Contents (Elt F))
    = (broadcastInDim S32x512x56 ![0, 1, 2] bcast_S1x512x1_S32x512x56_0_1_2) (Z X main_v106 : (⟨S1x512x1, .f32⟩ : BufTy).Contents (Elt F)) := by sl_kernel_rfl
theorem z_main_v108 : (Z X main_v108 : (⟨S32x512x56, .f32⟩ : BufTy).Contents (Elt F))
    = (subf) (Z X main_v76 : (⟨S32x512x56, .f32⟩ : BufTy).Contents (Elt F)) (Z X main_v107 : (⟨S32x512x56, .f32⟩ : BufTy).Contents (Elt F)) := by sl_kernel_rfl

end Cert.Value.Ref

end

end
-- ==== Proof.Value.RefA.lean ====
/-
The reference's attention against the prompt: each buffer as the value it holds, by the coordinates of the arguments.
-/
module

public import proofs.«01_k».proof.Proof.Value.RefOps
public import proofs.«01_k».proof.Proof.Value.Spec
public import Idealize.ShloMosaic.Lib.Pointwise

@[expose] public section

set_option maxRecDepth 16384

noncomputable section

namespace Cert.Value.Ref

open Idealize.ShloMosaic Idealize.ShloMosaic.TcCoe
open Cert.ReferenceIdeal Cert.ReferenceIdeal.Gen

/-- The contents `X` of the ten arguments (the codes after their exact casts) are those of `I`. -/
structure Reads (X : Valuation τ sig (Elt Ideal)) (I : Inp) : Prop where
  q : ∀ b t h d, (X (Proc.devRef .tc main_v0_0) : FVec Ideal S32x512x56x128 .bf16) (ix4 b t h d) = I.q b t h d
  qs : ∀ b t h, (X (Proc.devRef .tc main_arg1) : FVec Ideal S32x512x56 .f32) (ix3 b t h) = I.qs b t h
  pk : ∀ p k d, (X (Proc.devRef .tc main_v0_1) : FVec Ideal S8192x8x128 .bf16) (ix3 p k d) = I.pk p k d
  pks : ∀ n k d, (X (Proc.devRef .tc main_arg3) : FVec Ideal S64x8x128 .f32) (ix3 n k d) = I.pks n k d
  pv : ∀ p k d, (X (Proc.devRef .tc main_v0_2) : FVec Ideal S8192x8x128 .bf16) (ix3 p k d) = I.pv p k d
  pvs : ∀ n k d, (X (Proc.devRef .tc main_arg5) : FVec Ideal S64x8x128 .f32) (ix3 n k d) = I.pvs n k d
  ck : ∀ b j k d, (X (Proc.devRef .tc main_v0_3) : FVec Ideal S32x512x8x128 .bf16) (ix4 b j k d) = I.ck b j k d
  cks : ∀ b j k, (X (Proc.devRef .tc main_arg7) : FVec Ideal S32x512x8 .f32) (ix3 b j k) = I.cks b j k
  cv : ∀ b j k d, (X (Proc.devRef .tc main_v0_4) : FVec Ideal S32x512x8x128 .bf16) (ix4 b j k d) = I.cv b j k d
  cvs : ∀ b j k, (X (Proc.devRef .tc main_arg9) : FVec Ideal S32x512x8 .f32) (ix3 b j k) = I.cvs b j k

/-- The least extended real, as it is printed. -/
theorem bot_f32 : Ideal.ofBits .f32 0xFF800000#32 = ⊥ := by
  simp [Ideal.ofBits, Ideal.ieee]

variable {X : Valuation τ sig (Elt Ideal)} {I : Inp} (R : Reads X I)
include R

theorem s_v12 (p : Fin 8192) (k : Fin 8) (d : Fin 128) :
    (Z X main_v12 : FVec Ideal S8192x8x128 .bf16) (ix3 p k d) = I.key p k d := by
  have h0 := R.pk
  have h1 := R.pks
  rw [z_main_v12, z_main_v11, z_main_v10, z_main_v9, z_main_v8, z_main_v7, z_main_v0_1, z_main_arg3]
  generalize (X (Proc.devRef .tc main_v0_1) : FVec Ideal S8192x8x128 .bf16) = A0 at h0 ⊢
  generalize (X (Proc.devRef .tc main_arg3) : FVec Ideal S64x8x128 .f32) = A1 at h1 ⊢
  pointwise
  exact congrArg₂ (HMul.hMul (α := EReal) (β := EReal)) (h0 p k d) (h1 (blk p) k d)

theorem s_v18 (p : Fin 8192) (k : Fin 8) (d : Fin 128) :
    (Z X main_v18 : FVec Ideal S8192x8x128 .bf16) (ix3 p k d) = I.val p k d := by
  have h0 := R.pv
  have h1 := R.pvs
  rw [z_main_v18, z_main_v17, z_main_v16, z_main_v15, z_main_v14, z_main_v13, z_main_v0_2, z_main_arg5]
  generalize (X (Proc.devRef .tc main_v0_2) : FVec Ideal S8192x8x128 .bf16) = A0 at h0 ⊢
  generalize (X (Proc.devRef .tc main_arg5) : FVec Ideal S64x8x128 .f32) = A1 at h1 ⊢
  pointwise
  exact congrArg₂ (HMul.hMul (α := EReal) (β := EReal)) (h0 p k d) (h1 (blk p) k d)

theorem s_v1 (b : Fin 32) (t : Fin 512) (k : Fin 8) (g : Fin 7) (d : Fin 128) :
    (Z X main_v1 : FVec Ideal S32x512x8x7x128 .bf16) (ix5 b t k g d) = I.q b t (hd k g) d := by
  have h0 := R.q
  rw [z_main_v1, z_main_v0_0]
  generalize (X (Proc.devRef .tc main_v0_0) : FVec Ideal S32x512x56x128 .bf16) = A0 at h0 ⊢
  rw [← h0 b t (hd k g) d]
  unfold hd
  pointwise
  exact congrArg (fun x => A0 (ix4 b t x d)) (Fin.ext (by show k.1 * 7 + g.1 = 7 * k.1 + g.1; omega))

omit R in
theorem lse_read (A : FVec Ideal S32x512x8x7x1 .f32) (B : FVec Ideal S32x512x8x7 .f32) (b : Fin 32) (t : Fin 512) (k : Fin 8) (g : Fin 7) :
    addf (shapeCast S32x512x8x7 A shapeCasts_S32x512x8x7x1_S32x512x8x7) (Host.log B) (ix4 b t k g)
      = HAdd.hAdd (α := EReal) (β := EReal) (A (ix5 b t k g (0 : Fin 1))) (Ideal.log (B (ix4 b t k g))) := by
  pointwise

omit R in
/-- The width of a head. -/
theorem ofBits_128 : Ideal.ofBits .f32 0x43000000#32 = ((128 : ℝ) : EReal) := by
  simp [Ideal.ofBits, Ideal.ieee, -EReal.coe_mul]; norm_num

theorem s_v6 (b : Fin 32) (t : Fin 512) (k : Fin 8) (g : Fin 7) :
    (Z X main_v6 : FVec Ideal S32x512x8x7x1 .f32) (ix5 b t k g (0 : Fin 1)) = I.scale b t k g := by
  have h0 := R.qs
  rw [z_main_v6, z_main_v5, z_main_v2, z_main_v4, z_main_v3, z_main_cst, z_main_arg1]
  generalize (X (Proc.devRef .tc main_arg1) : FVec Ideal S32x512x56 .f32) = A0 at h0 ⊢
  unfold Inp.scale
  rw [← h0 b t (hd k g), ← ofBits_128]
  unfold hd
  pointwise
  exact congrArg (fun x => Ideal.div (A0 (ix3 b t x)) _) (Fin.ext (by show k.1 * 7 + g.1 = 7 * k.1 + g.1; omega))

theorem s_v22 (b : Fin 32) (t : Fin 512) (k : Fin 8) (g : Fin 7) (p : Fin 8192) :
    (Z X main_v22 : FVec Ideal S32x512x8x7x8192 .f32) (ix5 b t k g p) = I.sp b t k g p := by
  have h0 := s_v12 R
  have h1 := s_v1 R
  have h2 := s_v6 R
  rw [z_main_v22, z_main_v20, z_main_v19, z_main_v21]
  generalize (Z X main_v12 : FVec Ideal S8192x8x128 .bf16) = A0 at h0 ⊢
  generalize (Z X main_v1 : FVec Ideal S32x512x8x7x128 .bf16) = A1 at h1 ⊢
  generalize (Z X main_v6 : FVec Ideal S32x512x8x7x1 .f32) = A2 at h2 ⊢
  unfold Inp.sp
  simp only [← h0, ← h1, ← h2]
  pointwise

theorem s_v24 (b : Fin 32) (t : Fin 512) (k : Fin 8) (g : Fin 7) :
    (Z X main_v24 : FVec Ideal S32x512x8x7x1 .f32) (ix5 b t k g (0 : Fin 1)) = mx (I.sp b t k g) := by
  have h0 := s_v22 R
  rw [z_main_v24, z_main_v23, z_main_cst_0]
  generalize (Z X main_v22 : FVec Ideal S32x512x8x7x8192 .f32) = A0 at h0 ⊢
  rw [show I.sp b t k g = fun p => A0 (ix5 b t k g p) from (funext (h0 b t k g)).symm]
  unfold mx
  pointwise
  rw [bot_f32]

theorem s_v27 (b : Fin 32) (t : Fin 512) (k : Fin 8) (g : Fin 7) (p : Fin 8192) :
    (Z X main_v27 : FVec Ideal S32x512x8x7x8192 .f32) (ix5 b t k g p) = wt (I.sp b t k g) p := by
  have h0 := s_v22 R
  have h1 := s_v24 R
  rw [z_main_v27, z_main_v26, z_main_v25]
  generalize (Z X main_v22 : FVec Ideal S32x512x8x7x8192 .f32) = A0 at h0 ⊢
  generalize (Z X main_v24 : FVec Ideal S32x512x8x7x1 .f32) = A1 at h1 ⊢
  unfold wt
  rw [← h0, ← h1]
  pointwise

theorem s_v28 (b : Fin 32) (t : Fin 512) (k : Fin 8) (g : Fin 7) :
    (Z X main_v28 : FVec Ideal S32x512x8x7 .f32) (ix4 b t k g) = den (I.sp b t k g) := by
  have h0 := s_v27 R
  rw [z_main_v28, z_main_cst_1]
  generalize (Z X main_v27 : FVec Ideal S32x512x8x7x8192 .f32) = A0 at h0 ⊢
  unfold den
  simp only [← h0]
  pointwise

theorem s_v34 (b : Fin 32) (t : Fin 512) (k : Fin 8) (g : Fin 7) (d : Fin 128) :
    (Z X main_v34 : FVec Ideal S32x512x8x7x128 .f32) (ix5 b t k g d) = Ideal.div (I.np b t k g d) (den (I.sp b t k g)) := by
  have h0 := s_v18 R
  have h1 := s_v27 R
  have h2 := s_v28 R
  rw [z_main_v34, z_main_v31, z_main_v30, z_main_v33, z_main_v32, z_main_v29]
  generalize (Z X main_v18 : FVec Ideal S8192x8x128 .bf16) = A0 at h0 ⊢
  generalize (Z X main_v27 : FVec Ideal S32x512x8x7x8192 .f32) = A1 at h1 ⊢
  generalize (Z X main_v28 : FVec Ideal S32x512x8x7 .f32) = A2 at h2 ⊢
  unfold Inp.np
  simp only [← h0, ← h1, ← h2]
  pointwise

theorem s_v37 (b : Fin 32) (t : Fin 512) (k : Fin 8) (g : Fin 7) :
    (Z X main_v37 : FVec Ideal S32x512x8x7 .f32) (ix4 b t k g) = lse (I.sp b t k g) := by
  rw [z_main_v37, z_main_v35, z_main_v36]
  exact (lse_read _ _ b t k g).trans (congrArg₂ (HAdd.hAdd (α := EReal) (β := EReal)) (s_v24 R b t k g) (congrArg Ideal.log (s_v28 R b t k g)))

end Cert.Value.Ref

end

end
-- ==== Proof.Value.RefB.lean ====
/-
The reference's attention within the completion.
-/
module

public import proofs.«01_k».proof.Proof.Value.RefA

@[expose] public section

set_option maxRecDepth 16384

noncomputable section

namespace Cert.Value.Ref

open Idealize.ShloMosaic Idealize.ShloMosaic.TcCoe
open Cert.ReferenceIdeal Cert.ReferenceIdeal.Gen

variable {X : Valuation τ sig (Elt Ideal)} {I : Inp} (R : Reads X I)
include R

omit R in
/-- The mask of the later positions. -/
theorem s_v53 (t j : Fin 512) : (Z X main_v53 : IVec S512x512 1) (ix2 t j) = if j.1 ≤ t.1 then 1#1 else 0#1 := by
  rw [z_main_v53, z_main_v51, z_main_v49, z_main_v52, z_main_v50, z_main_v48]
  pointwise
  have ht := t.2
  have hj := j.2
  have e : (BitVec.ofNat 32 j.1).sle (BitVec.ofNat 32 t.1) = decide (j.1 ≤ t.1) := by
    rw [BitVec.sle_eq_decide, BitVec.toInt_ofNat', BitVec.toInt_ofNat']
    congr 1
    simp only [Int.bmod]
    apply propext
    constructor <;> intro h <;> omega
  by_cases h : j.1 ≤ t.1
  · rw [if_pos h]; simp [IntOp.cmpi, e, h]
  · rw [if_neg h]; simp [IntOp.cmpi, e, h]

theorem s_v47 (b : Fin 32) (t : Fin 512) (k : Fin 8) (g : Fin 7) (j : Fin 512) :
    (Z X main_v47 : FVec Ideal S32x512x8x7x512 .f32) (ix5 b t k g j) = (∑ d, I.ck b j k d * I.q b t (hd k g) d) * I.scale b t k g * I.cks b j k := by
  have h0 := s_v1 R
  have h1 := s_v6 R
  have h2 := R.ck
  have h3 := R.cks
  rw [z_main_v47, z_main_v45, z_main_v43, z_main_v42, z_main_v44, z_main_v46, z_main_v39, z_main_v38, z_main_v0_3, z_main_arg7]
  generalize (Z X main_v1 : FVec Ideal S32x512x8x7x128 .bf16) = A0 at h0 ⊢
  generalize (Z X main_v6 : FVec Ideal S32x512x8x7x1 .f32) = A1 at h1 ⊢
  generalize (X (Proc.devRef .tc main_v0_3) : FVec Ideal S32x512x8x128 .bf16) = A2 at h2 ⊢
  generalize (X (Proc.devRef .tc main_arg7) : FVec Ideal S32x512x8 .f32) = A3 at h3 ⊢
  simp only [← h0, ← h1, ← h2, ← h3]
  pointwise

theorem s_v55 (b : Fin 32) (t : Fin 512) (k : Fin 8) (g : Fin 7) (j : Fin 512) :
    (Z X main_v55 : FVec Ideal S32x512x8x7x512 .f32) (ix5 b t k g j) = I.ss b t k g j := by
  have h0 := s_v47 R
  have h1 := s_v53 (X := X)
  rw [z_main_v55, z_main_call0_v1, z_main_v54, z_main_call0_v2, z_main_call0_v0, z_main_cst_2]
  generalize (Z X main_v47 : FVec Ideal S32x512x8x7x512 .f32) = A0 at h0 ⊢
  generalize (Z X main_v53 : IVec S512x512 1) = A1 at h1 ⊢
  unfold Inp.ss
  rw [← h0]
  have e := h1 t j
  pointwise
  rw [show A1 (ix2 t j) = _ from e, show id (constant (F := Ideal) S_ FTy.f32 0xFF800000#32) ix0 = (⊥ : EReal) from bot_f32]
  by_cases h : j.1 ≤ t.1
  · rw [if_pos h, if_pos h]; rfl
  · rw [if_neg h, if_neg h]; rfl

theorem s_v57 (b : Fin 32) (t : Fin 512) (k : Fin 8) (g : Fin 7) :
    (Z X main_v57 : FVec Ideal S32x512x8x7x1 .f32) (ix5 b t k g (0 : Fin 1)) = mx (I.ss b t k g) := by
  have h0 := s_v55 R
  rw [z_main_v57, z_main_v56, z_main_cst_3]
  generalize (Z X main_v55 : FVec Ideal S32x512x8x7x512 .f32) = A0 at h0 ⊢
  rw [show I.ss b t k g = fun p => A0 (ix5 b t k g p) from (funext (h0 b t k g)).symm]
  unfold mx
  pointwise
  rw [bot_f32]

theorem s_v60 (b : Fin 32) (t : Fin 512) (k : Fin 8) (g : Fin 7) (j : Fin 512) :
    (Z X main_v60 : FVec Ideal S32x512x8x7x512 .f32) (ix5 b t k g j) = wt (I.ss b t k g) j := by
  have h0 := s_v55 R
  have h1 := s_v57 R
  rw [z_main_v60, z_main_v59, z_main_v58]
  generalize (Z X main_v55 : FVec Ideal S32x512x8x7x512 .f32) = A0 at h0 ⊢
  generalize (Z X main_v57 : FVec Ideal S32x512x8x7x1 .f32) = A1 at h1 ⊢
  unfold wt
  rw [← h0, ← h1]
  pointwise

theorem s_v61 (b : Fin 32) (t : Fin 512) (k : Fin 8) (g : Fin 7) :
    (Z X main_v61 : FVec Ideal S32x512x8x7 .f32) (ix4 b t k g) = den (I.ss b t k g) := by
  have h0 := s_v60 R
  rw [z_main_v61, z_main_cst_4]
  generalize (Z X main_v60 : FVec Ideal S32x512x8x7x512 .f32) = A0 at h0 ⊢
  unfold den
  simp only [← h0]
  pointwise

theorem s_v69 (b : Fin 32) (t : Fin 512) (k : Fin 8) (g : Fin 7) (d : Fin 128) :
    (Z X main_v69 : FVec Ideal S32x512x8x7x128 .f32) (ix5 b t k g d) = Ideal.div (I.ns b t k g d) (den (I.ss b t k g)) := by
  have h0 := s_v60 R
  have h1 := s_v61 R
  have h2 := R.cv
  have h3 := R.cvs
  rw [z_main_v69, z_main_v66, z_main_v65, z_main_v68, z_main_v67, z_main_v64, z_main_v63, z_main_v62, z_main_v41, z_main_v40, z_main_v0_4, z_main_arg9]
  generalize (Z X main_v60 : FVec Ideal S32x512x8x7x512 .f32) = A0 at h0 ⊢
  generalize (Z X main_v61 : FVec Ideal S32x512x8x7 .f32) = A1 at h1 ⊢
  generalize (X (Proc.devRef .tc main_v0_4) : FVec Ideal S32x512x8x128 .bf16) = A2 at h2 ⊢
  generalize (X (Proc.devRef .tc main_arg9) : FVec Ideal S32x512x8 .f32) = A3 at h3 ⊢
  unfold Inp.ns
  simp only [← h0, ← h1, ← h2, ← h3]
  pointwise

theorem s_v72 (b : Fin 32) (t : Fin 512) (k : Fin 8) (g : Fin 7) :
    (Z X main_v72 : FVec Ideal S32x512x8x7 .f32) (ix4 b t k g) = lse (I.ss b t k g) := by
  rw [z_main_v72, z_main_v70, z_main_v71]
  exact (lse_read _ _ b t k g).trans (congrArg₂ (HAdd.hAdd (α := EReal) (β := EReal)) (s_v57 R b t k g) (congrArg Ideal.log (s_v61 R b t k g)))

end Cert.Value.Ref

end

end
-- ==== Proof.Value.RefC.lean ====
/-
The reference's merge of the two parts, and its three results.
-/
module

public import proofs.«01_k».proof.Proof.Value.RefB
public import proofs.«01_k».proof.Proof.Value.Cols

@[expose] public section

set_option maxRecDepth 16384

noncomputable section

namespace Cert.Value.Ref

open Idealize.ShloMosaic Idealize.ShloMosaic.TcCoe
open Cert.ReferenceIdeal Cert.ReferenceIdeal.Gen

/-! The host operations of the merge, read at one element. -/

theorem sub_const_read (A : FVec Ideal S32x512x56 .f32) (B : FVec Ideal S_ .f32) (b : Fin 32) (t : Fin 512) (h : Fin 56) :
    subf A (broadcastInDim S32x512x56 ![] bcast_S_S32x512x56 B) (ix3 b t h)
      = HSub.hSub (α := EReal) (β := EReal) (A (ix3 b t h)) (B ix0) := by
  pointwise

theorem joint_read (A B : FVec Ideal S32x512x56 .f32) (b : Fin 32) (t : Fin 512) (h : Fin 56) :
    select (cmpf .une (subf A B) (subf A B)) (addf A B)
        (addf (maximumf A B) (Host.log1p (Host.exp (Host.negf (Host.absf (subf A B)))))) (ix3 b t h)
      = joint (A (ix3 b t h)) (B (ix3 b t h)) := by
  unfold joint
  pointwise
  rw [if_neg (fun h => h rfl)]
  rfl

theorem merge_read (A B J : FVec Ideal S32x512x56 .f32) (P Q : FVec Ideal S32x512x56x128 .f32) (b : Fin 32) (t : Fin 512) (h : Fin 56) (d : Fin 128) :
    addf (mulf (broadcastInDim S32x512x56x128 ![0, 1, 2, 3] bcast_S32x512x56x1_S32x512x56x128_0_1_2_3
          (broadcastInDim S32x512x56x1 ![0, 1, 2] bcast_S32x512x56_S32x512x56x1_0_1_2 (Host.exp (subf A J)))) P)
        (mulf (broadcastInDim S32x512x56x128 ![0, 1, 2, 3] bcast_S32x512x56x1_S32x512x56x128_0_1_2_3
          (broadcastInDim S32x512x56x1 ![0, 1, 2] bcast_S32x512x56_S32x512x56x1_0_1_2 (Host.exp (subf B J)))) Q) (ix4 b t h d)
      = HAdd.hAdd (α := EReal) (β := EReal)
          (HMul.hMul (α := EReal) (β := EReal) (Ideal.exp (HSub.hSub (α := EReal) (β := EReal) (A (ix3 b t h)) (J (ix3 b t h)))) (P (ix4 b t h d)))
          (HMul.hMul (α := EReal) (β := EReal) (Ideal.exp (HSub.hSub (α := EReal) (β := EReal) (B (ix3 b t h)) (J (ix3 b t h)))) (Q (ix4 b t h d))) := by
  pointwise

theorem sub_log_read (A : FVec Ideal S32x512x56 .f32) (B : FVec Ideal S_ .f32) (C : FVec Ideal S512 .f32) (b : Fin 32) (t : Fin 512) (h : Fin 56) :
    subf A (broadcastInDim S32x512x56 ![0, 1, 2] bcast_S1x512x1_S32x512x56_0_1_2 (broadcastInDim S1x512x1 ![1] bcast_S512_S1x512x1_1
        (Host.log (addf (broadcastInDim S512 ![] bcast_S_S512 B) C)))) (ix3 b t h)
      = HSub.hSub (α := EReal) (β := EReal) (A (ix3 b t h)) (Ideal.log (HAdd.hAdd (α := EReal) (β := EReal) (B ix0) (C (ix1 t)))) := by
  pointwise

theorem iota_read (t : Fin 512) : (sitofp (F := Ideal) .f32 (iotaInDim S512 32 0) : FVec Ideal S512 .f32) (ix1 t) = ((t.1 : ℝ) : EReal) := by
  have ht := t.2
  have e : (BitVec.ofNat 32 t.1).toInt = (t.1 : Int) := by
    rw [BitVec.toInt_ofNat']
    simp only [Int.bmod]
    omega
  show (((BitVec.ofNat 32 t.1).toInt : ℝ) : EReal) = _
  rw [e, Int.cast_natCast]

theorem merge_of {x y j p q lp ls Dp Ds Np Ns : EReal} (hx : x = lp) (hy : y = ls) (hj : j = joint lp ls)
    (hp : p = Ideal.div Np Dp) (hq : q = Ideal.div Ns Ds) :
    Ideal.exp (x - j) * p + Ideal.exp (y - j) * q = mergeR lp ls Dp Ds Np Ns := by
  subst hx hy hj hp hq; rfl

theorem sub_log_of {x l o s : EReal} (n : ℕ) (hx : x = l) (ho : o = 1) (hs : s = ((n : ℝ) : EReal)) :
    x - Ideal.log (o + s) = l - Ideal.log (((n + 1 : ℕ) : ℝ) : EReal) := by
  subst hx ho hs
  rw [Nat.cast_add, Nat.cast_one, EReal.coe_add, EReal.coe_one, add_comm]

variable {X : Valuation τ sig (Elt Ideal)} {I : Inp} (R : Reads X I)
include R

omit R in
theorem ofBits_one : Ideal.ofBits .f32 0x3F800000#32 = 1 := Ideal.ofBits_one_f32

theorem s_v73 (b : Fin 32) (t : Fin 512) (h : Fin 56) (d : Fin 128) :
    (Z X main_v73 : FVec Ideal S32x512x56x128 .f32) (ix4 b t h d) = Ideal.div (I.np b t (kh h) (gh h) d) (den (I.sp b t (kh h) (gh h))) := by
  have h0 := s_v34 R
  rw [z_main_v73]
  generalize (Z X main_v34 : FVec Ideal S32x512x8x7x128 .f32) = A0 at h0 ⊢
  rw [← h0]
  unfold kh gh
  pointwise

theorem s_v74 (b : Fin 32) (t : Fin 512) (h : Fin 56) (d : Fin 128) :
    (Z X main_v74 : FVec Ideal S32x512x56x128 .f32) (ix4 b t h d) = Ideal.div (I.ns b t (kh h) (gh h) d) (den (I.ss b t (kh h) (gh h))) := by
  have h0 := s_v69 R
  rw [z_main_v74]
  generalize (Z X main_v69 : FVec Ideal S32x512x8x7x128 .f32) = A0 at h0 ⊢
  rw [← h0]
  unfold kh gh
  pointwise

theorem s_v75 (b : Fin 32) (t : Fin 512) (h : Fin 56) :
    (Z X main_v75 : FVec Ideal S32x512x56 .f32) (ix3 b t h) = lse (I.sp b t (kh h) (gh h)) := by
  have h0 := s_v37 R
  rw [z_main_v75]
  generalize (Z X main_v37 : FVec Ideal S32x512x8x7 .f32) = A0 at h0 ⊢
  rw [← h0]
  unfold kh gh
  pointwise

theorem s_v76 (b : Fin 32) (t : Fin 512) (h : Fin 56) :
    (Z X main_v76 : FVec Ideal S32x512x56 .f32) (ix3 b t h) = lse (I.ss b t (kh h) (gh h)) := by
  have h0 := s_v72 R
  rw [z_main_v76]
  generalize (Z X main_v72 : FVec Ideal S32x512x8x7 .f32) = A0 at h0 ⊢
  rw [← h0]
  unfold kh gh
  pointwise

theorem s_v86 (b : Fin 32) (t : Fin 512) (h : Fin 56) :
    (Z X main_v86 : FVec Ideal S32x512x56 .f32) (ix3 b t h) = joint (lse (I.sp b t (kh h) (gh h))) (lse (I.ss b t (kh h) (gh h))) := by
  rw [z_main_v86, z_main_v79, z_main_v80, z_main_v85, z_main_v77, z_main_v84, z_main_v83, z_main_v82, z_main_v81, z_main_v78]
  exact (joint_read _ _ b t h).trans (congrArg₂ joint (s_v75 R b t h) (s_v76 R b t h))

theorem s_v97 (b : Fin 32) (t : Fin 512) (h : Fin 56) (d : Fin 128) :
    (Z X main_v97 : FVec Ideal S32x512x56x128 .f32) (ix4 b t h d) = I.out1 b t (kh h) (gh h) d := by
  rw [z_main_v97, z_main_v91, z_main_v90, z_main_v89, z_main_v88, z_main_v87, z_main_v96, z_main_v95, z_main_v94, z_main_v93, z_main_v92]
  exact (merge_read _ _ _ _ _ b t h d).trans
    (merge_of (s_v75 R b t h) (s_v76 R b t h) (s_v86 R b t h) (s_v73 R b t h d) (s_v74 R b t h d))

theorem s_v99 (b : Fin 32) (t : Fin 512) (n : Fin 7168) :
    (Z X main_v99 : FVec Ideal S32x512x7168 .bf16) (ix3 b t n) = I.out1 b t (kh (hn n)) (gh (hn n)) (dn n) := by
  have h0 := s_v97 R
  rw [z_main_v99, z_main_v98]
  generalize (Z X main_v97 : FVec Ideal S32x512x56x128 .f32) = A0 at h0 ⊢
  rw [← h0]
  unfold hn dn
  pointwise

theorem s_v101 (b : Fin 32) (t : Fin 512) (h : Fin 56) :
    (Z X main_v101 : FVec Ideal S32x512x56 .f32) (ix3 b t h) = I.out2 b t (kh h) (gh h) := by
  rw [z_main_v101, z_main_v100, z_main_cst_5]
  exact (sub_const_read _ _ b t h).trans (congrArg (fun x : EReal => x - Ideal.ofBits .f32 0x41102CB3#32) (s_v75 R b t h))

theorem s_v108 (b : Fin 32) (t : Fin 512) (h : Fin 56) :
    (Z X main_v108 : FVec Ideal S32x512x56 .f32) (ix3 b t h) = I.out3 b t (kh h) (gh h) := by
  rw [z_main_v108, z_main_v107, z_main_v106, z_main_v105, z_main_v104, z_main_v103, z_main_cst_6, z_main_v102]
  exact (sub_log_read _ _ _ b t h).trans (sub_log_of t.1 (s_v76 R b t h) ofBits_one (iota_read t))

end Cert.Value.Ref

end

end
-- ==== Proof.Value.RefRun.lean ====
/-
The reference's three results, by the coordinates of the arguments.
-/
module

public import proofs.«01_k».proof.Proof.Value.RefC
public import proofs.«01_k».proof.Proof.Gen.ReferenceIdeal.Frame
public import Idealize.ShloMosaic.Lib.Pipeline.Value
public import Idealize.ShloMosaic.Lib.Pipeline.ValueKit.Geometry
public import Idealize.ShloMosaic.Lib.Pipeline.ValueKit.Point

@[expose] public section

set_option maxRecDepth 16384

noncomputable section

namespace Cert.Value.Ref

open Idealize.ShloMosaic Idealize.ShloMosaic.TcCoe
open Cert.ReferenceIdeal Cert.ReferenceIdeal.Gen

variable (m : (ℓ : Loc nD τ sig) → Buf (Elt Ideal) ℓ) (ρ : Dev nD → PrngReg)

/-- The ten arguments, by their coordinates. -/
def inpOf (c : Dev nD) : Inp where
  q b t h d := (m ((c : Thread nD τ).loc main_arg0) : FVec Ideal S32x512x56x128 .fp8e4m3) (ix4 b t h d)
  qs b t h := (m ((c : Thread nD τ).loc main_arg1) : FVec Ideal S32x512x56 .f32) (ix3 b t h)
  pk p k d := (m ((c : Thread nD τ).loc main_arg2) : FVec Ideal S8192x8x128 .fp8e4m3) (ix3 p k d)
  pks n k d := (m ((c : Thread nD τ).loc main_arg3) : FVec Ideal S64x8x128 .f32) (ix3 n k d)
  pv p k d := (m ((c : Thread nD τ).loc main_arg4) : FVec Ideal S8192x8x128 .fp8e4m3) (ix3 p k d)
  pvs n k d := (m ((c : Thread nD τ).loc main_arg5) : FVec Ideal S64x8x128 .f32) (ix3 n k d)
  ck b j k d := (m ((c : Thread nD τ).loc main_arg6) : FVec Ideal S32x512x8x128 .fp8e4m3) (ix4 b j k d)
  cks b j k := (m ((c : Thread nD τ).loc main_arg7) : FVec Ideal S32x512x8 .f32) (ix3 b j k)
  cv b j k d := (m ((c : Thread nD τ).loc main_arg8) : FVec Ideal S32x512x8x128 .fp8e4m3) (ix4 b j k d)
  cvs b j k := (m ((c : Thread nD τ).loc main_arg9) : FVec Ideal S32x512x8 .f32) (ix3 b j k)

theorem in0_0 : ∀ t : Fin cfg0.N, win0_0.index t = ![0, 0, 0, 0] := (by decide +kernel : ∀ t : Fin grid0.N, _)
theorem idx0_5 : ∀ t : Fin cfg0.N, win0_5.index t = ![0, 0, 0, 0] := (by decide +kernel : ∀ t : Fin grid0.N, _)
/-- The cast copy of argument 0 holds its values. -/
theorem arr_5 (c : Dev nD) : (dats m 0 c).arrAt 5 cfg0.N
    = (fun i => (m ((c : Thread nD τ).loc main_arg0) : FVec Ideal S32x512x56x128 .fp8e4m3) i : FVec Ideal S32x512x56x128 .bf16) := by
  refine (dats m 0 c).arrAt_eq_of_covers 5 _ (by decide +kernel) fun t hf y => ?_
  blk_simp
  rw [after0_5]
  frame_out
  unfold k0_pay1
  blk_simp [iblk]
  refine congrArg (m ((c : Thread nD τ).loc main_arg0) : FVec Ideal S32x512x56x128 .fp8e4m3) ?_
  blk_ext [in0_0 t, idx0_5 t]

theorem in0_1 : ∀ t : Fin cfg0.N, win0_1.index t = ![0, 0, 0] := (by decide +kernel : ∀ t : Fin grid0.N, _)
theorem idx0_6 : ∀ t : Fin cfg0.N, win0_6.index t = ![0, 0, 0] := (by decide +kernel : ∀ t : Fin grid0.N, _)
/-- The cast copy of argument 2 holds its values. -/
theorem arr_6 (c : Dev nD) : (dats m 0 c).arrAt 6 cfg0.N
    = (fun i => (m ((c : Thread nD τ).loc main_arg2) : FVec Ideal S8192x8x128 .fp8e4m3) i : FVec Ideal S8192x8x128 .bf16) := by
  refine (dats m 0 c).arrAt_eq_of_covers 6 _ (by decide +kernel) fun t hf y => ?_
  blk_simp
  rw [after0_6]
  frame_out
  unfold k0_pay2
  blk_simp [iblk]
  refine congrArg (m ((c : Thread nD τ).loc main_arg2) : FVec Ideal S8192x8x128 .fp8e4m3) ?_
  blk_ext [in0_1 t, idx0_6 t]

theorem in0_2 : ∀ t : Fin cfg0.N, win0_2.index t = ![0, 0, 0] := (by decide +kernel : ∀ t : Fin grid0.N, _)
theorem idx0_7 : ∀ t : Fin cfg0.N, win0_7.index t = ![0, 0, 0] := (by decide +kernel : ∀ t : Fin grid0.N, _)
/-- The cast copy of argument 4 holds its values. -/
theorem arr_7 (c : Dev nD) : (dats m 0 c).arrAt 7 cfg0.N
    = (fun i => (m ((c : Thread nD τ).loc main_arg4) : FVec Ideal S8192x8x128 .fp8e4m3) i : FVec Ideal S8192x8x128 .bf16) := by
  refine (dats m 0 c).arrAt_eq_of_covers 7 _ (by decide +kernel) fun t hf y => ?_
  blk_simp
  rw [after0_7]
  frame_out
  unfold k0_pay3
  blk_simp [iblk]
  refine congrArg (m ((c : Thread nD τ).loc main_arg4) : FVec Ideal S8192x8x128 .fp8e4m3) ?_
  blk_ext [in0_2 t, idx0_7 t]

theorem in0_3 : ∀ t : Fin cfg0.N, win0_3.index t = ![0, 0, 0, 0] := (by decide +kernel : ∀ t : Fin grid0.N, _)
theorem idx0_8 : ∀ t : Fin cfg0.N, win0_8.index t = ![0, 0, 0, 0] := (by decide +kernel : ∀ t : Fin grid0.N, _)
/-- The cast copy of argument 6 holds its values. -/
theorem arr_8 (c : Dev nD) : (dats m 0 c).arrAt 8 cfg0.N
    = (fun i => (m ((c : Thread nD τ).loc main_arg6) : FVec Ideal S32x512x8x128 .fp8e4m3) i : FVec Ideal S32x512x8x128 .bf16) := by
  refine (dats m 0 c).arrAt_eq_of_covers 8 _ (by decide +kernel) fun t hf y => ?_
  blk_simp
  rw [after0_8]
  frame_out
  unfold k0_pay4
  blk_simp [iblk]
  refine congrArg (m ((c : Thread nD τ).loc main_arg6) : FVec Ideal S32x512x8x128 .fp8e4m3) ?_
  blk_ext [in0_3 t, idx0_8 t]

theorem in0_4 : ∀ t : Fin cfg0.N, win0_4.index t = ![0, 0, 0, 0] := (by decide +kernel : ∀ t : Fin grid0.N, _)
theorem idx0_9 : ∀ t : Fin cfg0.N, win0_9.index t = ![0, 0, 0, 0] := (by decide +kernel : ∀ t : Fin grid0.N, _)
/-- The cast copy of argument 8 holds its values. -/
theorem arr_9 (c : Dev nD) : (dats m 0 c).arrAt 9 cfg0.N
    = (fun i => (m ((c : Thread nD τ).loc main_arg8) : FVec Ideal S32x512x8x128 .fp8e4m3) i : FVec Ideal S32x512x8x128 .bf16) := by
  refine (dats m 0 c).arrAt_eq_of_covers 9 _ (by decide +kernel) fun t hf y => ?_
  blk_simp
  rw [after0_9]
  frame_out
  unfold k0_pay5
  blk_simp [iblk]
  refine congrArg (m ((c : Thread nD τ).loc main_arg8) : FVec Ideal S32x512x8x128 .fp8e4m3) ?_
  blk_ext [in0_4 t, idx0_9 t]

/-- The buffers as the host lines find them. -/
def X0 (c : Dev nD) : Valuation τ sig (Elt Ideal) :=
  Pipeline.withArrays (cfgs 0).spec c (V0 m c) fun w => (dats m 0 c).arrAt w (cfgs 0).N

theorem reads (c : Dev nD) : Reads (X0 m c) (inpOf m c) where
  q b t h d := congrFun ((Pipeline.withArrays_arr spec0 launch0.win.arr_inj c (V0 m c) (fun w => (dats m 0 c).arrAt w cfg0.N) 5).trans (arr_5 m c)) (ix4 b t h d)
  qs b t h := congrFun ((Pipeline.withArrays_of_ne spec0 c (V0 m c) (fun w => (dats m 0 c).arrAt w cfg0.N) main_arg1 (by exact (by decide : ∀ w, Pipeline.arrRef spec0 w ≠ main_arg1))).trans (V_main_arg1 m c)) (ix3 b t h)
  pk p k d := congrFun ((Pipeline.withArrays_arr spec0 launch0.win.arr_inj c (V0 m c) (fun w => (dats m 0 c).arrAt w cfg0.N) 6).trans (arr_6 m c)) (ix3 p k d)
  pks n k d := congrFun ((Pipeline.withArrays_of_ne spec0 c (V0 m c) (fun w => (dats m 0 c).arrAt w cfg0.N) main_arg3 (by exact (by decide : ∀ w, Pipeline.arrRef spec0 w ≠ main_arg3))).trans (V_main_arg3 m c)) (ix3 n k d)
  pv p k d := congrFun ((Pipeline.withArrays_arr spec0 launch0.win.arr_inj c (V0 m c) (fun w => (dats m 0 c).arrAt w cfg0.N) 7).trans (arr_7 m c)) (ix3 p k d)
  pvs n k d := congrFun ((Pipeline.withArrays_of_ne spec0 c (V0 m c) (fun w => (dats m 0 c).arrAt w cfg0.N) main_arg5 (by exact (by decide : ∀ w, Pipeline.arrRef spec0 w ≠ main_arg5))).trans (V_main_arg5 m c)) (ix3 n k d)
  ck b j k d := congrFun ((Pipeline.withArrays_arr spec0 launch0.win.arr_inj c (V0 m c) (fun w => (dats m 0 c).arrAt w cfg0.N) 8).trans (arr_8 m c)) (ix4 b j k d)
  cks b j k := congrFun ((Pipeline.withArrays_of_ne spec0 c (V0 m c) (fun w => (dats m 0 c).arrAt w cfg0.N) main_arg7 (by exact (by decide : ∀ w, Pipeline.arrRef spec0 w ≠ main_arg7))).trans (V_main_arg7 m c)) (ix3 b j k)
  cv b j k d := congrFun ((Pipeline.withArrays_arr spec0 launch0.win.arr_inj c (V0 m c) (fun w => (dats m 0 c).arrAt w cfg0.N) 9).trans (arr_9 m c)) (ix4 b j k d)
  cvs b j k := congrFun ((Pipeline.withArrays_of_ne spec0 c (V0 m c) (fun w => (dats m 0 c).arrAt w cfg0.N) main_arg9 (by exact (by decide : ∀ w, Pipeline.arrRef spec0 w ≠ main_arg9))).trans (V_main_arg9 m c)) (ix3 b j k)

theorem z99 (c : Dev nD) : (Z (X0 m c) main_v99 : FVec Ideal S32x512x7168 .bf16)
    = fun i => (inpOf m c).out1 (i 0) (i 1) (kh (hn (i 2))) (gh (hn (i 2))) (dn (i 2)) := by
  funext i
  idx_vars i
  exact s_v99 (reads m c) i0 i1 i2
theorem z101 (c : Dev nD) : (Z (X0 m c) main_v101 : FVec Ideal S32x512x56 .f32)
    = fun i => (inpOf m c).out2 (i 0) (i 1) (kh (i 2)) (gh (i 2)) := by
  funext i
  idx_vars i
  exact s_v101 (reads m c) i0 i1 i2
theorem z108 (c : Dev nD) : (Z (X0 m c) main_v108 : FVec Ideal S32x512x56 .f32)
    = fun i => (inpOf m c).out3 (i 0) (i 1) (kh (i 2)) (gh (i 2)) := by
  funext i
  idx_vars i
  exact s_v108 (reads m c) i0 i1 i2

/-- The reference ends with the merged attention and the two log-mean-exps, its arguments unchanged. -/
theorem run : θ_run defs (onTc (τ := τ) (main (F := Ideal))) ⟨m, fun _ => 0, ρ⟩ (fun r => (∀ c : Dev nD,
      r.2.mem ((c.tc : Thread nD τ).loc main_v99) = (fun i => (inpOf m c).out1 (i 0) (i 1) (kh (hn (i 2))) (gh (hn (i 2))) (dn (i 2)) : FVec Ideal S32x512x7168 .bf16)
      ∧ r.2.mem ((c.tc : Thread nD τ).loc main_v101) = (fun i => (inpOf m c).out2 (i 0) (i 1) (kh (i 2)) (gh (i 2)) : FVec Ideal S32x512x56 .f32)
      ∧ r.2.mem ((c.tc : Thread nD τ).loc main_v108) = (fun i => (inpOf m c).out3 (i 0) (i 1) (kh (i 2)) (gh (i 2)) : FVec Ideal S32x512x56 .f32))
    ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  θ_run_and ((θ_run defs _ _).mono (fun _ h c => ⟨
      ((h c).2 main_v99 (Pipeline.mem_restRefs_of main_v99 (by decide) (by decide))).trans (z99 m c),
      ((h c).2 main_v101 (Pipeline.mem_restRefs_of main_v101 (by decide) (by decide))).trans (z101 m c),
      ((h c).2 main_v108 (Pipeline.mem_restRefs_of main_v108 (by decide) (by decide))).trans (z108 m c)⟩) (run_main m ρ))
    (unchanged m ρ)

end Cert.Value.Ref

end

end
-- ==== Proof.Value.Algebraic.lean ====
/-
The kernel and the reference end with equal results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value.Final
public import proofs.«01_k».proof.Proof.Value.RefRun

@[expose] public section

set_option maxRecDepth 16384

noncomputable section

namespace Cert.Value

open Idealize.ShloMosaic Idealize.ShloMosaic.TcCoe Idealize.SL.Sem

/-- Arguments with equal values at every coordinate are the same arguments. -/
theorem inp_ext {I J : Inp} (h0 : I.q = J.q) (h1 : I.qs = J.qs) (h2 : I.pk = J.pk) (h3 : I.pks = J.pks) (h4 : I.pv = J.pv)
    (h5 : I.pvs = J.pvs) (h6 : I.ck = J.ck) (h7 : I.cks = J.cks) (h8 : I.cv = J.cv) (h9 : I.cvs = J.cvs) : I = J := by
  cases I; cases J
  simp only at h0 h1 h2 h3 h4 h5 h6 h7 h8 h9
  subst h0 h1 h2 h3 h4 h5 h6 h7 h8 h9
  rfl

/-- From memories agreeing on the arguments the kernel and the reference end with equal results. -/
theorem algebraic : Cert.algebraic_KernelIdeal_ReferenceIdeal (hKernelIdeal := Cert.KernelIdeal.Gen.facts) (hReferenceIdeal := Cert.ReferenceIdeal.Gen.facts) := by
  intro m g m' g' _ hargs
  have hI : ∀ c, Ref.inpOf m' c = inpOf m c := fun c => by
    obtain ⟨h0, h1, h2, h3, h4, h5, h6, h7, h8, h9⟩ := hargs c
    refine inp_ext ?_ ?_ ?_ ?_ ?_ ?_ ?_ ?_ ?_ ?_
    · funext b t h d; exact congrFun h0 (ix4 b t h d)
    · funext b t h; exact congrFun h1 (ix3 b t h)
    · funext p k d; exact congrFun h2 (ix3 p k d)
    · funext n k d; exact congrFun h3 (ix3 n k d)
    · funext p k d; exact congrFun h4 (ix3 p k d)
    · funext n k d; exact congrFun h5 (ix3 n k d)
    · funext b j k d; exact congrFun h6 (ix4 b j k d)
    · funext b j k; exact congrFun h7 (ix3 b j k)
    · funext b j k d; exact congrFun h8 (ix4 b j k d)
    · funext b j k; exact congrFun h9 (ix3 b j k)
  refine ⟨fun c => G1 (inpOf m c), fun c => F2 (inpOf m c), fun c => F3 (inpOf m c), ?_, ?_⟩
  · refine (θ_run Cert.KernelIdeal.defs _ _).mono (fun _ h c => ?_) (Cert.KernelIdeal.Hand.run m g)
    obtain ⟨a0, a1, a2, a3, a4, a5, a6, a7, a8, a9, r0, r1, r2⟩ := h.1 c
    exact ⟨r0.trans (v5_v17_0 m c), r1.trans (v5_v19 m c), r2.trans (v5_v21 m c), a0, a1, a2, a3, a4, a5, a6, a7, a8, a9⟩
  · refine (θ_run Cert.ReferenceIdeal.defs _ _).mono (fun _ h c => ?_) (Ref.run m' g')
    obtain ⟨r0, r1, r2⟩ := h.1 c
    have e := hI c
    exact ⟨r0.trans (congrArg (fun I => G1 I) e), r1.trans (congrArg (fun I => F2 I) e), r2.trans (congrArg (fun I => F3 I) e), h.2 c⟩

end Cert.Value

end

end
-- ==== Proof.lean ====
/-
  The claims: every program runs to a quiescent end with its arguments unchanged; the idealised kernel is the kernel
  with its named constants read as the numbers they stand for; and over the extended reals the kernel and the
  reference end with equal results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.K.Run
public import proofs.«01_k».proof.Proof.KI.Run
public import proofs.«01_k».proof.Proof.Value.Algebraic

@[expose] public section

noncomputable section

namespace Cert.Proof

open Idealize.ShloMosaic Idealize.ShloMosaic.TcCoe Idealize.SL.Sem

/-- `Kernel` ends quiescent, its arguments unchanged. -/
theorem ends_Kernel : quiescent_Kernel (hKernel := Cert.Kernel.Gen.facts) := fun m ρ _ =>
  (θ_run Cert.Kernel.defs _ _).mono (fun _ h => ⟨fun c => by
    obtain ⟨h0, h1, h2, h3, h4, h5, h6, h7, h8, h9, -, -, -⟩ := h.1 c
    exact ⟨h0, h1, h2, h3, h4, h5, h6, h7, h8, h9⟩, h.2⟩) (Cert.Kernel.Hand.run m ρ)

/-- `KernelIdeal` ends quiescent, its arguments unchanged. -/
theorem ends_KernelIdeal : quiescent_KernelIdeal (hKernelIdeal := Cert.KernelIdeal.Gen.facts) := fun m ρ _ =>
  (θ_run Cert.KernelIdeal.defs _ _).mono (fun _ h => ⟨fun c => by
    obtain ⟨h0, h1, h2, h3, h4, h5, h6, h7, h8, h9, -, -, -⟩ := h.1 c
    exact ⟨h0, h1, h2, h3, h4, h5, h6, h7, h8, h9⟩, h.2⟩) (Cert.KernelIdeal.Hand.run m ρ)

/-- The two named constants. -/
theorem preserves_kernel : preserves_Kernel_KernelIdeal :=
  ⟨IdealRules.named_const.statement Cert.KernelIdeal.κ "log2e_inv_sqrt_d" .f32 0x3E0293EE#32 (((Real.log 2)⁻¹ * (Real.sqrt 128)⁻¹ : ℝ) : EReal) rfl,
    IdealRules.named_const.statement Cert.KernelIdeal.κ "ln2" .f32 0x3F317218#32 ((Real.log 2 : ℝ) : EReal) rfl⟩

/-- Every claim. -/
theorem claim : Cert.Claim :=
  ⟨Cert.Kernel.Gen.facts, Cert.KernelIdeal.Gen.facts, Cert.ReferenceIdeal.Gen.facts,
    ends_Kernel, ends_KernelIdeal, fun m ρ _ => Cert.ReferenceIdeal.Gen.frame m ρ, preserves_kernel, Cert.Value.algebraic⟩

end Cert.Proof

end
